-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_mix [hPre_finite_mix : Cert.Pre_finite_mix.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_mix.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_finite_mix.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_mix [hPre_finite_mix : Cert.Pre_finite_mix.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_mix.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_finite_mix.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_pool [hPre_finite_pool : Cert.Pre_finite_pool.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_pool.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_pool [hPre_finite_pool : Cert.Pre_finite_pool.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_pool.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_state [hPre_finite_state : Cert.Pre_finite_state.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_state.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite_state.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_state [hPre_finite_state : Cert.Pre_finite_state.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_state.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite_state.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite_mix [hKernel6Ideal : Cert.Kernel6Ideal.Facts] [hPre_finite_mix : Cert.Pre_finite_mix.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_mix m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite_mix [hReference6Ideal : Cert.Reference6Ideal.Facts] [hPre_finite_mix : Cert.Pre_finite_mix.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_mix m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite_pool [hKernel7Ideal : Cert.Kernel7Ideal.Facts] [hPre_finite_pool : Cert.Pre_finite_pool.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_pool m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite_pool [hReference7Ideal : Cert.Reference7Ideal.Facts] [hPre_finite_pool : Cert.Pre_finite_pool.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_pool m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_state [hKernel8Ideal : Cert.Kernel8Ideal.Facts] [hPre_finite_state : Cert.Pre_finite_state.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_state m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_state [hReference8Ideal : Cert.Reference8Ideal.Facts] [hPre_finite_state : Cert.Pre_finite_state.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_state m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v56)) (v1 : (c : Dev Cert.Kernel4Ideal.nD) → Buf (Elt Ideal) ((c.tc : Thread Cert.Kernel4Ideal.nD Cert.Kernel4Ideal.τ).loc Cert.Kernel4Ideal.main_v59)) (v2 : (c : Dev Cert.Kernel4Ideal.nD) → Buf (Elt Ideal) ((c.tc : Thread Cert.Kernel4Ideal.nD Cert.Kernel4Ideal.τ).loc Cert.Kernel4Ideal.main_v62)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v56) = v0 c
          ∧ r.2.mem ((c.tc : Thread Cert.Kernel4Ideal.nD Cert.Kernel4Ideal.τ).loc Cert.Kernel4Ideal.main_v59) = v1 c
          ∧ r.2.mem ((c.tc : Thread Cert.Kernel4Ideal.nD Cert.Kernel4Ideal.τ).loc Cert.Kernel4Ideal.main_v62) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_v84) = v1 c
          ∧ r.2.mem ((c.tc : Thread Cert.Reference4Ideal.nD Cert.Reference4Ideal.τ).loc Cert.Reference4Ideal.main_v86) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v56)) (v1 : (c : Dev Cert.Kernel5Ideal.nD) → Buf (Elt Ideal) ((c.tc : Thread Cert.Kernel5Ideal.nD Cert.Kernel5Ideal.τ).loc Cert.Kernel5Ideal.main_v60)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v56) = v0 c
          ∧ r.2.mem ((c.tc : Thread Cert.Kernel5Ideal.nD Cert.Kernel5Ideal.τ).loc Cert.Kernel5Ideal.main_v60) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_v85) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite_mix [hKernel6Ideal : Cert.Kernel6Ideal.Facts] [hReference6Ideal : Cert.Reference6Ideal.Facts] [hPre_finite_mix : Cert.Pre_finite_mix.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_mix m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v55)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v55) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v81) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_finite_pool [hKernel7Ideal : Cert.Kernel7Ideal.Facts] [hReference7Ideal : Cert.Reference7Ideal.Facts] [hPre_finite_pool : Cert.Pre_finite_pool.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_pool m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite_state [hKernel8Ideal : Cert.Kernel8Ideal.Facts] [hReference8Ideal : Cert.Reference8Ideal.Facts] [hPre_finite_state : Cert.Pre_finite_state.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_state m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v79) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v28_0)) (v1 : (c : Dev Cert.Kernel9Ideal.nD) → Buf (Elt Ideal) ((c.tc : Thread Cert.Kernel9Ideal.nD Cert.Kernel9Ideal.τ).loc Cert.Kernel9Ideal.main_v28_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v28_0) = v0 c
          ∧ r.2.mem ((c.tc : Thread Cert.Kernel9Ideal.nD Cert.Kernel9Ideal.τ).loc Cert.Kernel9Ideal.main_v28_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v67) = v0 c
          ∧ r.2.mem ((c.tc : Thread Cert.Reference9Ideal.nD Cert.Reference9Ideal.τ).loc Cert.Reference9Ideal.main_v68) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_mix : Cert.Pre_finite_mix.Facts) (hPre_finite_pool : Cert.Pre_finite_pool.Facts) (hPre_finite_state : Cert.Pre_finite_state.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_mix (hKernel6Ideal := hKernel6Ideal) (hPre_finite_mix := hPre_finite_mix)
    ∧ quiescent_Reference6Ideal (hReference6Ideal := hReference6Ideal)
    ∧ quiescent_Reference6Ideal_pre_finite_mix (hReference6Ideal := hReference6Ideal) (hPre_finite_mix := hPre_finite_mix)
    ∧ quiescent_Kernel7 (hKernel7 := hKernel7)
    ∧ quiescent_Kernel7Ideal (hKernel7Ideal := hKernel7Ideal)
    ∧ quiescent_Kernel7Ideal_pre_finite_pool (hKernel7Ideal := hKernel7Ideal) (hPre_finite_pool := hPre_finite_pool)
    ∧ quiescent_Reference7Ideal (hReference7Ideal := hReference7Ideal)
    ∧ quiescent_Reference7Ideal_pre_finite_pool (hReference7Ideal := hReference7Ideal) (hPre_finite_pool := hPre_finite_pool)
    ∧ quiescent_Kernel8 (hKernel8 := hKernel8)
    ∧ quiescent_Kernel8Ideal (hKernel8Ideal := hKernel8Ideal)
    ∧ quiescent_Kernel8Ideal_pre_finite_state (hKernel8Ideal := hKernel8Ideal) (hPre_finite_state := hPre_finite_state)
    ∧ quiescent_Reference8Ideal (hReference8Ideal := hReference8Ideal)
    ∧ quiescent_Reference8Ideal_pre_finite_state (hReference8Ideal := hReference8Ideal) (hPre_finite_state := hPre_finite_state)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_mix (hKernel6Ideal := hKernel6Ideal) (hReference6Ideal := hReference6Ideal) (hPre_finite_mix := hPre_finite_mix)
    ∧ preserves_Kernel7_Kernel7Ideal
    ∧ algebraic_Kernel7Ideal_Reference7Ideal_pre_finite_pool (hKernel7Ideal := hKernel7Ideal) (hReference7Ideal := hReference7Ideal) (hPre_finite_pool := hPre_finite_pool)
    ∧ preserves_Kernel8_Kernel8Ideal
    ∧ algebraic_Kernel8Ideal_Reference8Ideal_pre_finite_state (hKernel8Ideal := hKernel8Ideal) (hReference8Ideal := hReference8Ideal) (hPre_finite_state := hPre_finite_state)
    ∧ preserves_Kernel9_Kernel9Ideal
    ∧ algebraic_Kernel9Ideal_Reference9Ideal (hKernel9Ideal := hKernel9Ideal) (hReference9Ideal := hReference9Ideal)
-- ==== Pre_finite_mix.lean ====
abbrev S32x8x1024 : Shape := ⟨3, ![32, 8, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x2048 : Shape := ⟨3, ![1, 1024, 2048]⟩
abbrev S1x64 : Shape := ⟨2, ![1, 64]⟩
abbrev S1x1024 : Shape := ⟨2, ![1, 1024]⟩
abbrev S1024 : Shape := ⟨1, ![1024]⟩
abbrev S_ : Shape := ⟨0, ![]⟩
abbrev S1x1024x512 : Shape := ⟨3, ![1, 1024, 512]⟩
abbrev S1024x512 : Shape := ⟨2, ![1024, 512]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  slices_S1x1024x2048_S1x1024x512_0_0_512 : S1x1024x2048.Slices ![0, 0, 512] S1x1024x512
  shapeCasts_S1x1024x512_S1024x512 : S1x1024x512.ShapeCasts S1024x512
  bcast_S_S1024x512 : S_.BroadcastsInDim S1024x512 (![] : Fin 0 → Fin S1024x512.rank)

variable [Facts]

def fn {F : FTy → Type} [FloatOps F] (main_arg0 : FVec F S32x8x1024 .f32) (main_arg1 : FVec F S2x1024 .f32) (main_arg2 : FVec F S2x1024 .f32) (main_arg3 : FVec F S2x1024x2816 .f32) (main_arg4 : FVec F S2x1024x2816 .f32) (main_arg5 : FVec F S2x2816x1024 .f32) (main_arg6 : FVec F S1x1024x2048 .f32) (main_arg7 : FVec F S1x64 .f32) (main_arg8 : FVec F S1x64 .f32) : IVec S1024 1 × IVec S1024x512 1 :=
  let main_v0 : FVec F S1x1024 .f32 := (extractStridedSlice S1x1024 ![0, 0] · slices_S2x1024_S1x1024_0_0) main_arg2
  let main_v1 : FVec F S1024 .f32 := shapeCast S1024 main_v0 shapeCasts_S1x1024_S1024
  let main_v2 : FVec F S1024 .f32 := subf main_v1 main_v1
  let main_cst : FVec F S_ .f32 := constant S_ .f32 0x00000000#32
  let main_v3 : FVec F S1024 .f32 := broadcastInDim S1024 ![] bcast_S_S1024 main_cst
  let main_v4 : IVec S1024 1 := cmpf .oeq main_v2 main_v3
  let main_v5 : FVec F S1x1024x512 .f32 := (extractStridedSlice S1x1024x512 ![0, 0, 512] · slices_S1x1024x2048_S1x1024x512_0_0_512) main_arg6
  let main_v6 : FVec F S1024x512 .f32 := shapeCast S1024x512 main_v5 shapeCasts_S1x1024x512_S1024x512
  let main_v7 : FVec F S1024x512 .f32 := subf main_v6 main_v6
  let main_cst_0 : FVec F S_ .f32 := constant S_ .f32 0x00000000#32
  let main_v8 : FVec F S1024x512 .f32 := broadcastInDim S1024x512 ![] bcast_S_S1024x512 main_cst_0
  let main_v9 : IVec S1024x512 1 := cmpf .oeq main_v7 main_v8
  (main_v4, main_v9)
-- ==== Pre_finite_pool.lean ====
abbrev S2x8192x1024 : Shape := ⟨3, ![2, 8192, 1024]⟩
abbrev S512x16384 : Shape := ⟨2, ![512, 16384]⟩
abbrev S2x8192x512 : Shape := ⟨3, ![2, 8192, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S2x8192x512 : S_.BroadcastsInDim S2x8192x512 (![] : Fin 0 → Fin S2x8192x512.rank)

variable [Facts]

def fn {F : FTy → Type} [FloatOps F] (main_arg0 : FVec F S2x8192x1024 .f32) (main_arg1 : FVec F S512x16384 .f32) (main_arg2 : FVec F S2x8192x512 .f32) (main_arg3 : FVec F S4x128x128 .f32) (main_arg4 : FVec F S512 .f32) (main_arg5 : FVec F S1024x1024 .f32) : IVec S2x8192x512 1 :=
  let main_v0 : FVec F S2x8192x512 .f32 := subf main_arg2 main_arg2
  let main_cst : FVec F S_ .f32 := constant S_ .f32 0x00000000#32
  let main_v1 : FVec F S2x8192x512 .f32 := broadcastInDim S2x8192x512 ![] bcast_S_S2x8192x512 main_cst
  let main_v2 : IVec S2x8192x512 1 := cmpf .oeq main_v0 main_v1
  main_v2
-- ==== Pre_finite_state.lean ====
abbrev S32x8x1024 : Shape := ⟨3, ![32, 8, 1024]⟩
abbrev S32x8x512 : Shape := ⟨3, ![32, 8, 512]⟩
abbrev S32x15x512 : Shape := ⟨3, ![32, 15, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S32x8x512 : S_.BroadcastsInDim S32x8x512 (![] : Fin 0 → Fin S32x8x512.rank)
  bcast_S_S32x15x512 : S_.BroadcastsInDim S32x15x512 (![] : Fin 0 → Fin S32x15x512.rank)

variable [Facts]

def fn {F : FTy → Type} [FloatOps F] (main_arg0 : FVec F S32x8x1024 .f32) (main_arg1 : FVec F S32x8x512 .f32) (main_arg2 : FVec F S32x8x512 .f32) (main_arg3 : FVec F S32x15x512 .f32) (main_arg4 : FVec F S4x128x128 .f32) (main_arg5 : FVec F S512 .f32) (main_arg6 : FVec F S1024x1024 .f32) : IVec S32x8x512 1 × IVec S32x15x512 1 :=
  let main_v0 : FVec F S32x8x512 .f32 := subf main_arg2 main_arg2
  let main_cst : FVec F S_ .f32 := constant S_ .f32 0x00000000#32
  let main_v1 : FVec F S32x8x512 .f32 := broadcastInDim S32x8x512 ![] bcast_S_S32x8x512 main_cst
  let main_v2 : IVec S32x8x512 1 := cmpf .oeq main_v0 main_v1
  let main_v3 : FVec F S32x15x512 .f32 := subf main_arg3 main_arg3
  let main_cst_0 : FVec F S_ .f32 := constant S_ .f32 0x00000000#32
  let main_v4 : FVec F S32x15x512 .f32 := broadcastInDim S32x15x512 ![] bcast_S_S32x15x512 main_cst_0
  let main_v5 : IVec S32x15x512 1 := cmpf .oeq main_v3 main_v4
  (main_v2, main_v5)
-- ==== Kernel.lean ====
abbrev S2x8192x8x64 : Shape := ⟨4, ![2, 8192, 8, 64]⟩
abbrev S8 : Shape := ⟨1, ![8]⟩
abbrev S_ : Shape := ⟨0, ![]⟩
abbrev S16384x512 : Shape := ⟨2, ![16384, 512]⟩
abbrev S512x16384 : Shape := ⟨2, ![512, 16384]⟩
abbrev S64x256x512 : Shape := ⟨3, ![64, 256, 512]⟩
abbrev S64x512x256 : Shape := ⟨3, ![64, 512, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x512 : Shape := ⟨2, ![512, 512]⟩
abbrev S8192x512 : Shape := ⟨2, ![8192, 512]⟩
abbrev S32x512x256 : Shape := ⟨3, ![32, 512, 256]⟩
abbrev S128x512 : Shape := ⟨2, ![128, 512]⟩
abbrev S256x128 : Shape := ⟨2, ![256, 128]⟩
abbrev S1 : Shape := ⟨1, ![1]⟩
abbrev S256x512 : Shape := ⟨2, ![256, 512]⟩
abbrev S1x512 : Shape := ⟨2, ![1, 512]⟩
abbrev S1x64x256 : Shape := ⟨3, ![1, 64, 256]⟩
abbrev S64x256 : Shape := ⟨2, ![64, 256]⟩
abbrev S64x512 : Shape := ⟨2, ![64, 512]⟩

abbrev nBuf : Space → Nat
  | .hbm => 24
  | .vmem => 7
  | .smem => 1
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S8, .f32⟩
  | .hbm, ⟨4, _⟩ => ⟨S_, .f32⟩
  | .hbm, ⟨5, _⟩ => ⟨S2x8192x8x64, .f32⟩
  | .hbm, ⟨6, _⟩ => ⟨S2x8192x8x64, .f32⟩
  | .hbm, ⟨7, _⟩ => ⟨S16384x512, .f32⟩
  | .hbm, ⟨8, _⟩ => ⟨S512x16384, .f32⟩
  | .hbm, ⟨9, _⟩ => ⟨S512x16384, .bf16⟩
  | .hbm, ⟨10, _⟩ => ⟨S16384x512, .f32⟩
  | .hbm, ⟨11, _⟩ => ⟨S16384x512, .bf16⟩
  | .hbm, ⟨12, _⟩ => ⟨S64x256x512, .f32⟩
  | .hbm, ⟨13, _⟩ => ⟨S64x512x256, .f32⟩
  | .hbm, ⟨14, _⟩ => ⟨S64x512x256, .bf16⟩
  | .hbm, ⟨15, _⟩ => ⟨S256, .i32⟩
  | .hbm, ⟨16, _⟩ => ⟨S256x1, .i32⟩
  | .hbm, ⟨17, _⟩ => ⟨S1x256, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S256x256, .bf16⟩
  | .hbm, ⟨22, _⟩ => ⟨S256x256, .bf16⟩
  | .hbm, ⟨23, _⟩ => ⟨S512x16384, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S32x512x256, .bf16⟩
  | .local _ .vmem, ⟨4, _⟩ => ⟨S256x256, .bf16⟩
  | .local _ .vmem, ⟨5, _⟩ => ⟨S512x512, .f32⟩
  | .local _ .vmem, ⟨6, _⟩ => ⟨S512x512, .f32⟩
  | .local _ .smem, ⟨0, _⟩ => ⟨S8, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 1, 16], ![false, false, false]⟩

def k0_off1 (i : grid0.Coords) (c0_i32_4 : BitVec 32) : Fin 1 → Nat :=
  let arg1 : BitVec 32 := BitVec.ofNat 32 (i 1).val
  let c8_i32 : BitVec 32 := 8#32
  let v18 : BitVec 32 := Scalar.muli arg1 c8_i32
  let v19 : BitVec 32 := Scalar.addi v18 c0_i32_4
  let v20 : Index := Scalar.indexCast v19
  ![v20.toNat]
def k0_mult1 (i : grid0.Coords) : BitVec 32 :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let c0_i32_89 : BitVec 32 := 0#32
  let v238 : BitVec 32 := Scalar.subi v237 c0_i32_89
  let c256_i32 : BitVec 32 := 256#32
  let v242 : BitVec 32 := Scalar.muli v238 c256_i32
  v242
def k0_mult2 (i : grid0.Coords) : BitVec 32 :=
  let arg2 : BitVec 32 := BitVec.ofNat 32 (i 2).val
  let c2_i32_86 : BitVec 32 := 2#32
  let v235 : BitVec 32 := Scalar.muli arg2 c2_i32_86
  let c2_i32_90 : BitVec 32 := 2#32
  let v239 : BitVec 32 := Scalar.addi v235 c2_i32_90
  let c1_i32_91 : BitVec 32 := 1#32
  let v240 : BitVec 32 := Scalar.subi v239 c1_i32_91
  let c1_i32_92 : BitVec 32 := 1#32
  let v241 : BitVec 32 := Scalar.subi v240 c1_i32_92
  let c256_i32_93 : BitVec 32 := 256#32
  let v244 : BitVec 32 := Scalar.muli v241 c256_i32_93
  v244
def k0_off2 (i : grid0.Coords) (c0_i32_89 : BitVec 32) : Fin 2 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let c256_i32 : BitVec 32 := 256#32
  let v242 : BitVec 32 := Scalar.muli v238 c256_i32
  let v243 : BitVec 32 := v242
  let v258 : Index := Scalar.indexCast v243
  let c0_94 : Index := 0#32
  ![v258.toNat, 0]
def k0_off3 (i : grid0.Coords) (c0_i32_89 : BitVec 32) : Fin 2 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let c256_i32 : BitVec 32 := 256#32
  let v242 : BitVec 32 := Scalar.muli v238 c256_i32
  let v243 : BitVec 32 := v242
  let v276 : Index := Scalar.indexCast v243
  let c128_100 : Index := 128#32
  ![v276.toNat, 128]
def k0_off4 (i : grid0.Coords) (c0_i32_89 : BitVec 32) : Fin 2 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let c256_i32 : BitVec 32 := 256#32
  let v242 : BitVec 32 := Scalar.muli v238 c256_i32
  let v243 : BitVec 32 := v242
  let v328 : Index := Scalar.indexCast v243
  let c256_118 : Index := 256#32
  ![v328.toNat, 256]
def k0_off5 (i : grid0.Coords) (c0_i32_89 : BitVec 32) : Fin 3 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let v359 : Index := Scalar.indexCast v238
  let c0_128 : Index := 0#32
  let c0_129 : Index := 0#32
  ![v359.toNat, 0, 0]
def k0_off6 (i : grid0.Coords) (c0_i32_89 : BitVec 32) : Fin 3 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let v403 : Index := Scalar.indexCast v238
  let c64 : Index := 64#32
  let c0_143 : Index := 0#32
  ![v403.toNat, 64, 0]
def k0_off7 (i : grid0.Coords) (c0_i32_89 : BitVec 32) : Fin 2 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let c256_i32 : BitVec 32 := 256#32
  let v242 : BitVec 32 := Scalar.muli v238 c256_i32
  let v243 : BitVec 32 := v242
  let v416 : Index := Scalar.indexCast v243
  let c384_147 : Index := 384#32
  ![v416.toNat, 384]
def k0_off8 (i : grid0.Coords) (c0_i32_89 : BitVec 32) : Fin 3 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let v447 : Index := Scalar.indexCast v238
  let c128_157 : Index := 128#32
  let c0_158 : Index := 0#32
  ![v447.toNat, 128, 0]
def k0_off9 (i : grid0.Coords) (c0_i32_89 : BitVec 32) : Fin 3 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let v497 : Index := Scalar.indexCast v238
  let c192 : Index := 192#32
  let c0_176 : Index := 0#32
  ![v497.toNat, 192, 0]
def k0_off10 (i : grid0.Coords) (c0_i32_89 : BitVec 32) : Fin 3 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let v547 : Index := Scalar.indexCast v238
  let c256_194 : Index := 256#32
  let c0_195 : Index := 0#32
  ![v547.toNat, 256, 0]
def k0_off11 (i : grid0.Coords) (c0_i32_89 : BitVec 32) : Fin 3 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let v597 : Index := Scalar.indexCast v238
  let c320 : Index := 320#32
  let c0_213 : Index := 0#32
  ![v597.toNat, 320, 0]
def k0_off12 (i : grid0.Coords) (c0_i32_89 : BitVec 32) : Fin 3 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let v647 : Index := Scalar.indexCast v238
  let c384_231 : Index := 384#32
  let c0_232 : Index := 0#32
  ![v647.toNat, 384, 0]
def k0_off13 (i : grid0.Coords) (c0_i32_89 : BitVec 32) : Fin 3 → Nat :=
  let arg2 : BitVec 32 := BitVec.ofNat 32 (i 2).val
  let c2_i32_86 : BitVec 32 := 2#32
  let v235 : BitVec 32 := Scalar.muli arg2 c2_i32_86
  let c2_i32_87 : BitVec 32 := 2#32
  let v236 : BitVec 32 := Scalar.addi v235 c2_i32_87
  let c1_i32_88 : BitVec 32 := 1#32
  let v237 : BitVec 32 := Scalar.subi v236 c1_i32_88
  let v238 : BitVec 32 := Scalar.subi v237 c0_i32_89
  let v697 : Index := Scalar.indexCast v238
  let c448 : Index := 448#32
  let c0_250 : Index := 0#32
  ![v697.toNat, 448, 0]
@[reducible] def k0_t1_loop (i : grid0.Coords) : Scf.Loop 32 :=
  let c0_i32_402 : BitVec 32 := 0#32
  let arg2 : BitVec 32 := BitVec.ofNat 32 (i 2).val
  let c2_i32_86 : BitVec 32 := 2#32
  let v235 : BitVec 32 := Scalar.muli arg2 c2_i32_86
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_404 : BitVec 32 := 1#32
  ⟨c0_i32_402, v1080, c1_i32_404⟩
def k0_mult3 (i : grid0.Coords) (k0_t1 : Fin (k0_t1_loop i).trips) : BitVec 32 :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c256_i32_411 : BitVec 32 := 256#32
  let v1091 : BitVec 32 := Scalar.muli v1085 c256_i32_411
  v1091
def k0_mult4 (i : grid0.Coords) (k0_t1 : Fin (k0_t1_loop i).trips) : BitVec 32 :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  v1093
def k0_off14 (i : grid0.Coords) (k0_t1 : Fin (k0_t1_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c256_i32_411 : BitVec 32 := 256#32
  let v1091 : BitVec 32 := Scalar.muli v1085 c256_i32_411
  let v1092 : BitVec 32 := v1091
  let v1095 : Index := Scalar.indexCast v1092
  let c0_413 : Index := 0#32
  ![v1095.toNat, 0]
def k0_off15 (i : grid0.Coords) (k0_t1 : Fin (k0_t1_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c256_i32_411 : BitVec 32 := 256#32
  let v1091 : BitVec 32 := Scalar.muli v1085 c256_i32_411
  let v1092 : BitVec 32 := v1091
  let v1113 : Index := Scalar.indexCast v1092
  let c128_419 : Index := 128#32
  ![v1113.toNat, 128]
def k0_off16 (i : grid0.Coords) (k0_t1 : Fin (k0_t1_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c256_i32_411 : BitVec 32 := 256#32
  let v1091 : BitVec 32 := Scalar.muli v1085 c256_i32_411
  let v1092 : BitVec 32 := v1091
  let v1161 : Index := Scalar.indexCast v1092
  let c256_435 : Index := 256#32
  ![v1161.toNat, 256]
def k0_off17 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let v1188 : Index := Scalar.indexCast v1085
  let c0_443 : Index := 0#32
  let c0_444 : Index := 0#32
  ![v1188.toNat, 0, 0]
def k0_off18 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let v1228 : Index := Scalar.indexCast v1085
  let c64_456 : Index := 64#32
  let c0_457 : Index := 0#32
  ![v1228.toNat, 64, 0]
def k0_off19 (i : grid0.Coords) (k0_t1 : Fin (k0_t1_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c256_i32_411 : BitVec 32 := 256#32
  let v1091 : BitVec 32 := Scalar.muli v1085 c256_i32_411
  let v1092 : BitVec 32 := v1091
  let v1241 : Index := Scalar.indexCast v1092
  let c384_461 : Index := 384#32
  ![v1241.toNat, 384]
def k0_off20 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let v1268 : Index := Scalar.indexCast v1085
  let c128_469 : Index := 128#32
  let c0_470 : Index := 0#32
  ![v1268.toNat, 128, 0]
def k0_off21 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let v1314 : Index := Scalar.indexCast v1085
  let c192_486 : Index := 192#32
  let c0_487 : Index := 0#32
  ![v1314.toNat, 192, 0]
def k0_off22 (i : grid0.Coords) (k0_t1 : Fin (k0_t1_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  let v1094 : BitVec 32 := v1093
  let v1333 : Index := Scalar.indexCast v1094
  let c0_495 : Index := 0#32
  ![v1333.toNat, 0]
def k0_off23 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let v1360 : Index := Scalar.indexCast v1085
  let c256_503 : Index := 256#32
  let c0_504 : Index := 0#32
  ![v1360.toNat, 256, 0]
def k0_off24 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let v1406 : Index := Scalar.indexCast v1085
  let c320_520 : Index := 320#32
  let c0_521 : Index := 0#32
  ![v1406.toNat, 320, 0]
def k0_off25 (i : grid0.Coords) (k0_t1 : Fin (k0_t1_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  let v1094 : BitVec 32 := v1093
  let v1425 : Index := Scalar.indexCast v1094
  let c128_529 : Index := 128#32
  ![v1425.toNat, 128]
def k0_off26 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let v1452 : Index := Scalar.indexCast v1085
  let c384_537 : Index := 384#32
  let c0_538 : Index := 0#32
  ![v1452.toNat, 384, 0]
def k0_off27 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let v1498 : Index := Scalar.indexCast v1085
  let c448_554 : Index := 448#32
  let c0_555 : Index := 0#32
  ![v1498.toNat, 448, 0]
def k0_off28 (i : grid0.Coords) (k0_t1 : Fin (k0_t1_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  let v1094 : BitVec 32 := v1093
  let v1517 : Index := Scalar.indexCast v1094
  let c256_563 : Index := 256#32
  ![v1517.toNat, 256]
def k0_off29 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1544 : Index := Scalar.indexCast v1087
  let c0_571 : Index := 0#32
  let c0_572 : Index := 0#32
  ![v1544.toNat, 0, 0]
def k0_off30 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1594 : Index := Scalar.indexCast v1087
  let c64_588 : Index := 64#32
  let c0_589 : Index := 0#32
  ![v1594.toNat, 64, 0]
def k0_off31 (i : grid0.Coords) (k0_t1 : Fin (k0_t1_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  let v1094 : BitVec 32 := v1093
  let v1617 : Index := Scalar.indexCast v1094
  let c384_597 : Index := 384#32
  ![v1617.toNat, 384]
def k0_off32 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1644 : Index := Scalar.indexCast v1087
  let c128_605 : Index := 128#32
  let c0_606 : Index := 0#32
  ![v1644.toNat, 128, 0]
def k0_off33 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1694 : Index := Scalar.indexCast v1087
  let c192_622 : Index := 192#32
  let c0_623 : Index := 0#32
  ![v1694.toNat, 192, 0]
def k0_off34 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1735 : Index := Scalar.indexCast v1087
  let c256_636 : Index := 256#32
  let c0_637 : Index := 0#32
  ![v1735.toNat, 256, 0]
def k0_off35 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1776 : Index := Scalar.indexCast v1087
  let c320_650 : Index := 320#32
  let c0_651 : Index := 0#32
  ![v1776.toNat, 320, 0]
def k0_off36 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1802 : Index := Scalar.indexCast v1087
  let c384_659 : Index := 384#32
  let c0_660 : Index := 0#32
  ![v1802.toNat, 384, 0]
def k0_off37 (i : grid0.Coords) (k0_t1 : Fin (k0_t1_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_404 : BitVec 32 := 1#32
  let arg9 : BitVec 32 := Scf.iv c0_i32_402 c1_i32_404 k0_t1
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1828 : Index := Scalar.indexCast v1087
  let c448_668 : Index := 448#32
  let c0_669 : Index := 0#32
  ![v1828.toNat, 448, 0]
@[reducible] def k0_t2_loop (i : grid0.Coords) : Scf.Loop 32 :=
  let c0_i32_402 : BitVec 32 := 0#32
  let arg2 : BitVec 32 := BitVec.ofNat 32 (i 2).val
  let c2_i32_86 : BitVec 32 := 2#32
  let v235 : BitVec 32 := Scalar.muli arg2 c2_i32_86
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let v1077 : BitVec 32 := Scalar.addi c0_i32_402 v1076
  let c1_i32_405 : BitVec 32 := 1#32
  ⟨v1080, v1077, c1_i32_405⟩
def k0_mult5 (i : grid0.Coords) (k0_t2 : Fin (k0_t2_loop i).trips) : BitVec 32 :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c256_i32_411 : BitVec 32 := 256#32
  let v1091 : BitVec 32 := Scalar.muli v1085 c256_i32_411
  v1091
def k0_mult6 (i : grid0.Coords) (k0_t2 : Fin (k0_t2_loop i).trips) : BitVec 32 :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  v1093
def k0_off38 (i : grid0.Coords) (k0_t2 : Fin (k0_t2_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c256_i32_411 : BitVec 32 := 256#32
  let v1091 : BitVec 32 := Scalar.muli v1085 c256_i32_411
  let v1092 : BitVec 32 := v1091
  let v1095 : Index := Scalar.indexCast v1092
  let c0_413 : Index := 0#32
  ![v1095.toNat, 0]
def k0_off39 (i : grid0.Coords) (k0_t2 : Fin (k0_t2_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c256_i32_411 : BitVec 32 := 256#32
  let v1091 : BitVec 32 := Scalar.muli v1085 c256_i32_411
  let v1092 : BitVec 32 := v1091
  let v1113 : Index := Scalar.indexCast v1092
  let c128_419 : Index := 128#32
  ![v1113.toNat, 128]
def k0_off40 (i : grid0.Coords) (k0_t2 : Fin (k0_t2_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c256_i32_411 : BitVec 32 := 256#32
  let v1091 : BitVec 32 := Scalar.muli v1085 c256_i32_411
  let v1092 : BitVec 32 := v1091
  let v1161 : Index := Scalar.indexCast v1092
  let c256_435 : Index := 256#32
  ![v1161.toNat, 256]
def k0_off41 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let v1188 : Index := Scalar.indexCast v1085
  let c0_443 : Index := 0#32
  let c0_444 : Index := 0#32
  ![v1188.toNat, 0, 0]
def k0_off42 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let v1228 : Index := Scalar.indexCast v1085
  let c64_456 : Index := 64#32
  let c0_457 : Index := 0#32
  ![v1228.toNat, 64, 0]
def k0_off43 (i : grid0.Coords) (k0_t2 : Fin (k0_t2_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c256_i32_411 : BitVec 32 := 256#32
  let v1091 : BitVec 32 := Scalar.muli v1085 c256_i32_411
  let v1092 : BitVec 32 := v1091
  let v1241 : Index := Scalar.indexCast v1092
  let c384_461 : Index := 384#32
  ![v1241.toNat, 384]
def k0_off44 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let v1268 : Index := Scalar.indexCast v1085
  let c128_469 : Index := 128#32
  let c0_470 : Index := 0#32
  ![v1268.toNat, 128, 0]
def k0_off45 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let v1314 : Index := Scalar.indexCast v1085
  let c192_486 : Index := 192#32
  let c0_487 : Index := 0#32
  ![v1314.toNat, 192, 0]
def k0_off46 (i : grid0.Coords) (k0_t2 : Fin (k0_t2_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  let v1094 : BitVec 32 := v1093
  let v1333 : Index := Scalar.indexCast v1094
  let c0_495 : Index := 0#32
  ![v1333.toNat, 0]
def k0_off47 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let v1360 : Index := Scalar.indexCast v1085
  let c256_503 : Index := 256#32
  let c0_504 : Index := 0#32
  ![v1360.toNat, 256, 0]
def k0_off48 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let v1406 : Index := Scalar.indexCast v1085
  let c320_520 : Index := 320#32
  let c0_521 : Index := 0#32
  ![v1406.toNat, 320, 0]
def k0_off49 (i : grid0.Coords) (k0_t2 : Fin (k0_t2_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  let v1094 : BitVec 32 := v1093
  let v1425 : Index := Scalar.indexCast v1094
  let c128_529 : Index := 128#32
  ![v1425.toNat, 128]
def k0_off50 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let v1452 : Index := Scalar.indexCast v1085
  let c384_537 : Index := 384#32
  let c0_538 : Index := 0#32
  ![v1452.toNat, 384, 0]
def k0_off51 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let v1498 : Index := Scalar.indexCast v1085
  let c448_554 : Index := 448#32
  let c0_555 : Index := 0#32
  ![v1498.toNat, 448, 0]
def k0_off52 (i : grid0.Coords) (k0_t2 : Fin (k0_t2_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  let v1094 : BitVec 32 := v1093
  let v1517 : Index := Scalar.indexCast v1094
  let c256_563 : Index := 256#32
  ![v1517.toNat, 256]
def k0_off53 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1544 : Index := Scalar.indexCast v1087
  let c0_571 : Index := 0#32
  let c0_572 : Index := 0#32
  ![v1544.toNat, 0, 0]
def k0_off54 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1594 : Index := Scalar.indexCast v1087
  let c64_588 : Index := 64#32
  let c0_589 : Index := 0#32
  ![v1594.toNat, 64, 0]
def k0_off55 (i : grid0.Coords) (k0_t2 : Fin (k0_t2_loop i).trips) : Fin 2 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let c256_i32_412 : BitVec 32 := 256#32
  let v1093 : BitVec 32 := Scalar.muli v1087 c256_i32_412
  let v1094 : BitVec 32 := v1093
  let v1617 : Index := Scalar.indexCast v1094
  let c384_597 : Index := 384#32
  ![v1617.toNat, 384]
def k0_off56 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1644 : Index := Scalar.indexCast v1087
  let c128_605 : Index := 128#32
  let c0_606 : Index := 0#32
  ![v1644.toNat, 128, 0]
def k0_off57 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1694 : Index := Scalar.indexCast v1087
  let c192_622 : Index := 192#32
  let c0_623 : Index := 0#32
  ![v1694.toNat, 192, 0]
def k0_off58 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1735 : Index := Scalar.indexCast v1087
  let c256_636 : Index := 256#32
  let c0_637 : Index := 0#32
  ![v1735.toNat, 256, 0]
def k0_off59 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1776 : Index := Scalar.indexCast v1087
  let c320_650 : Index := 320#32
  let c0_651 : Index := 0#32
  ![v1776.toNat, 320, 0]
def k0_off60 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1802 : Index := Scalar.indexCast v1087
  let c384_659 : Index := 384#32
  let c0_660 : Index := 0#32
  ![v1802.toNat, 384, 0]
def k0_off61 (i : grid0.Coords) (k0_t2 : Fin (k0_t2_loop i).trips) : Fin 3 → Nat :=
  let arg2 : BitVec 32 := BitVec.ofNat 32 (i 2).val
  let c2_i32_86 : BitVec 32 := 2#32
  let v235 : BitVec 32 := Scalar.muli arg2 c2_i32_86
  let c1_i32_406 : BitVec 32 := 1#32
  let v1083 : BitVec 32 := Scalar.subi v235 c1_i32_406
  let c2_i32_407 : BitVec 32 := 2#32
  let c0_i32_402 : BitVec 32 := 0#32
  let c1_i32_394 : BitVec 32 := 1#32
  let v1058 : BitVec 32 := Scalar.addi v235 c1_i32_394
  let c0_i32_396 : BitVec 32 := 0#32
  let v1060 : BitVec 1 := Scalar.cmpi .sgt v1058 c0_i32_396
  let v1061 : BitVec 32 := Scalar.extui v1060
  let c0_i32_397 : BitVec 32 := 0#32
  let v1062 : BitVec 1 := Scalar.cmpi .slt v1058 c0_i32_397
  let v1063 : BitVec 32 := Scalar.extui v1062
  let v1064 : BitVec 32 := Scalar.subi v1061 v1063
  let c2_i32_395 : BitVec 32 := 2#32
  let c0_i32_398 : BitVec 32 := 0#32
  let v1065 : BitVec 1 := Scalar.cmpi .sgt c2_i32_395 c0_i32_398
  let v1066 : BitVec 32 := Scalar.extui v1065
  let c0_i32_399 : BitVec 32 := 0#32
  let v1067 : BitVec 1 := Scalar.cmpi .slt c2_i32_395 c0_i32_399
  let v1068 : BitVec 32 := Scalar.extui v1067
  let v1069 : BitVec 32 := Scalar.subi v1066 v1068
  let v1070 : BitVec 1 := Scalar.cmpi .ne v1064 v1069
  let v1071 : BitVec 32 := Scalar.remsi v1058 c2_i32_395
  let c0_i32_400 : BitVec 32 := 0#32
  let v1072 : BitVec 1 := Scalar.cmpi .ne v1071 c0_i32_400
  let v1073 : BitVec 1 := Scalar.andi v1070 v1072
  let v1059 : BitVec 32 := Scalar.divsi v1058 c2_i32_395
  let c1_i32_401 : BitVec 32 := 1#32
  let v1074 : BitVec 32 := Scalar.subi v1059 c1_i32_401
  let v1075 : BitVec 32 := Scalar.select v1073 v1074 v1059
  let v1076 : BitVec 32 := Scalar.subi v1075 c0_i32_402
  let c1_i32_403 : BitVec 32 := 1#32
  let v1078 : BitVec 32 := Scalar.divsi v1076 c1_i32_403
  let v1079 : BitVec 32 := Scalar.muli v1078 c1_i32_403
  let v1080 : BitVec 32 := Scalar.addi c0_i32_402 v1079
  let c1_i32_405 : BitVec 32 := 1#32
  let arg9 : BitVec 32 := Scf.iv v1080 c1_i32_405 k0_t2
  let v1084 : BitVec 32 := Scalar.muli c2_i32_407 arg9
  let v1085 : BitVec 32 := Scalar.subi v1083 v1084
  let c1_i32_408 : BitVec 32 := 1#32
  let v1086 : BitVec 32 := Scalar.subi v1085 c1_i32_408
  let c0_i32_409 : BitVec 32 := 0#32
  let v1087 : BitVec 32 := Scalar.maxsi v1086 c0_i32_409
  let v1828 : Index := Scalar.indexCast v1087
  let c448_668 : Index := 448#32
  let c0_669 : Index := 0#32
  ![v1828.toNat, 448, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S32x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x2816, .f32⟩
  | .hbm, ⟨22, _⟩ => ⟨S2x8192x2816, .f32⟩
  | .hbm, ⟨23, _⟩ => ⟨S2x8192x2816, .f32⟩
  | .hbm, ⟨24, _⟩ => ⟨S_, .f32⟩
  | .hbm, ⟨25, _⟩ => ⟨S2x8192x2816, .f32⟩
  | .hbm, ⟨26, _⟩ => ⟨S2x8192x2816, .f32⟩
  | .hbm, ⟨27, _⟩ => ⟨S_, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S128x128 : Shape := ⟨2, ![128, 128]⟩
abbrev S128x8 : Shape := ⟨2, ![128, 8]⟩
abbrev S128x8x128 : Shape := ⟨3, ![128, 8, 128]⟩
abbrev S128x1024 : Shape := ⟨2, ![128, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x128x128 : Shape := ⟨3, ![1, 128, 128]⟩

abbrev nBuf : Space → Nat
  | .hbm => 38
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S_, .i1⟩
  | .hbm, ⟨13, _⟩ => ⟨S128x128, .i1⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S_, .i1⟩
  | .hbm, ⟨21, _⟩ => ⟨S128x128, .i1⟩
  | .hbm, ⟨22, _⟩ => ⟨S128x128, .i1⟩
  | .hbm, ⟨23, _⟩ => ⟨S_, .i32⟩
  | .hbm, ⟨24, _⟩ => ⟨S_, .f32⟩
  | .hbm, ⟨25, _⟩ => ⟨S8x128x128, .i1⟩
  | .hbm, ⟨26, _⟩ => ⟨S8x128x128, .f32⟩
  | .hbm, ⟨27, _⟩ => ⟨S8x128x128, .f32⟩
  | .hbm, ⟨28, _⟩ => ⟨S128x8, .f32⟩
  | .hbm, ⟨29, _⟩ => ⟨S128x8x128, .f32⟩
  | .hbm, ⟨30, _⟩ => ⟨S128x1024, .f32⟩
  | .hbm, ⟨31, _⟩ => ⟨S16384x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S8x128x128, .bf16⟩
  | .hbm, ⟨36, _⟩ => ⟨S1024x1024, .bf16⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S8x128x128, .bf16⟩
  | .local _ .vmem, ⟨8, _⟩ => ⟨S128x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v5 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x8192x1024 : Shape := ⟨3, ![2, 8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x64x128x8x128 : Shape := ⟨5, ![2, 64, 128, 8, 128]⟩
abbrev S128x128 : Shape := ⟨2, ![128, 128]⟩
abbrev S8x2x64x128x128 : Shape := ⟨5, ![8, 2, 64, 128, 128]⟩
abbrev S128x8 : Shape := ⟨2, ![128, 8]⟩
abbrev S1x1x128x8x1 : Shape := ⟨5, ![1, 1, 128, 8, 1]⟩
abbrev S16384x1024 : Shape := ⟨2, ![16384, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S_, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S_, .f32⟩
  | .hbm, ⟨36, _⟩ => ⟨S2x8192x2048, .f32⟩
  | .hbm, ⟨37, _⟩ => ⟨S2x8192x2048, .f32⟩
  | .hbm, ⟨38, _⟩ => ⟨S_, .f32⟩
  | .hbm, ⟨39, _⟩ => ⟨S2x8192x2048, .f32⟩
  | .hbm, ⟨40, _⟩ => ⟨S2x8192x2048, .f32⟩
  | .hbm, ⟨41, _⟩ => ⟨S2x8192x2048, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | .hbm, ⟨71, _⟩ => ⟨S2x64x128x8x128, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S_, .i32⟩
  | .hbm, ⟨84, _⟩ => ⟨S_, .f32⟩
  | .hbm, ⟨85, _⟩ => ⟨S8x128x128, .i1⟩
  | .hbm, ⟨86, _⟩ => ⟨S8x128x128, .f32⟩
  | .hbm, ⟨87, _⟩ => ⟨S8x128x128, .f32⟩
  | .hbm, ⟨88, _⟩ => ⟨S8x2x64x128x128, .f32⟩
  | .hbm, ⟨89, _⟩ => ⟨S2x64x128x8x128, .f32⟩
  | .hbm, ⟨90, _⟩ => ⟨S128x8, .f32⟩
  | .hbm, ⟨91, _⟩ => ⟨S1x1x128x8x1, .f32⟩
  | .hbm, ⟨92, _⟩ => ⟨S2x64x128x8x128, .f32⟩
  | .hbm, ⟨93, _⟩ => ⟨S2x64x128x8x128, .f32⟩
  | .hbm, ⟨94, _⟩ => ⟨S2x8192x1024, .f32⟩
  | .hbm, ⟨95, _⟩ => ⟨S2x8192x1024, .f32⟩
  | .hbm, ⟨96, _⟩ => ⟨S2x8192x1024, .f32⟩
  | .hbm, ⟨97, _⟩ => ⟨S2x8192x1024, .f32⟩
  | .hbm, ⟨98, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_v52 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v53 : Ref sig .tc := ⟨.hbm, 82, rfl⟩
abbrev main_c_11 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x2048 : Shape := ⟨3, ![1, 1024, 2048]⟩
abbrev S1x64 : Shape := ⟨2, ![1, 64]⟩
abbrev S16384x1024 : Shape := ⟨2, ![16384, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩
abbrev S1024x2048 : Shape := ⟨2, ![1024, 2048]⟩
abbrev S1024x512 : Shape := ⟨2, ![1024, 512]⟩
abbrev S1024x1536 : Shape := ⟨2, ![1024, 1536]⟩
abbrev S1536x1024 : Shape := ⟨2, ![1536, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S64 : Shape := ⟨1, ![64]⟩
abbrev S8x64 : Shape := ⟨2, ![8, 64]⟩
abbrev S1x512 : Shape := ⟨2, ![1, 512]⟩
abbrev S1024x1024 : Shape := ⟨2, ![1024, 1024]⟩
abbrev S16384x512 : Shape := ⟨2, ![16384, 512]⟩
abbrev S512x16384 : Shape := ⟨2, ![512, 16384]⟩
abbrev S2x512x8192 : Shape := ⟨3, ![2, 512, 8192]⟩
abbrev S64x512x256 : Shape := ⟨3, ![64, 512, 256]⟩
abbrev S1x512x512 : Shape := ⟨3, ![1, 512, 512]⟩
abbrev S2x512x256 : Shape := ⟨3, ![2, 512, 256]⟩
abbrev S1536x512 : Shape := ⟨2, ![1536, 512]⟩
abbrev S64x512 : Shape := ⟨2, ![64, 512]⟩
abbrev S64x1 : Shape := ⟨2, ![64, 1]⟩
abbrev S1x64x512 : Shape := ⟨3, ![1, 64, 512]⟩
abbrev S512x256 : Shape := ⟨2, ![512, 256]⟩
abbrev S1x512x256 : Shape := ⟨3, ![1, 512, 256]⟩
abbrev S2x8x64x8192 : Shape := ⟨4, ![2, 8, 64, 8192]⟩
abbrev S2x8192x8x64 : Shape := ⟨4, ![2, 8192, 8, 64]⟩
abbrev S1x2x8192x8x64 : Shape := ⟨5, ![1, 2, 8192, 8, 64]⟩
abbrev S2x8192x512 : Shape := ⟨3, ![2, 8192, 512]⟩
abbrev S2x15x512 : Shape := ⟨3, ![2, 15, 512]⟩
abbrev S1x2x15x512 : Shape := ⟨4, ![1, 2, 15, 512]⟩

abbrev nBuf : Space → Nat
  | .hbm => 85
  | .vmem => 29
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024x2048, .f32⟩
  | .hbm, ⟨7, _⟩ => ⟨S1x64, .f32⟩
  | .hbm, ⟨8, _⟩ => ⟨S1x64, .f32⟩
  | .hbm, ⟨9, _⟩ => ⟨S16384x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024x2816, .f32⟩
  | .hbm, ⟨14, _⟩ => ⟨S1024x2816, .f32⟩
  | .hbm, ⟨15, _⟩ => ⟨S1024x2816, .bf16⟩
  | .hbm, ⟨16, _⟩ => ⟨S1x1024x2816, .f32⟩
  | .hbm, ⟨17, _⟩ => ⟨S1024x2816, .f32⟩
  | .hbm, ⟨18, _⟩ => ⟨S1024x2816, .bf16⟩
  | .hbm, ⟨19, _⟩ => ⟨S1x2816x1024, .f32⟩
  | .hbm, ⟨20, _⟩ => ⟨S2816x1024, .f32⟩
  | .hbm, ⟨21, _⟩ => ⟨S2816x1024, .bf16⟩
  | .hbm, ⟨22, _⟩ => ⟨S16384x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024x2048, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S1024x1536, .f32⟩
  | .hbm, ⟨32, _⟩ => ⟨S1536x1024, .f32⟩
  | .hbm, ⟨33, _⟩ => ⟨S1536x1024, .bf16⟩
  | .hbm, ⟨34, _⟩ => ⟨S8x8, .i32⟩
  | .hbm, ⟨35, _⟩ => ⟨S8x8, .i32⟩
  | .hbm, ⟨36, _⟩ => ⟨S_, .i32⟩
  | .hbm, ⟨37, _⟩ => ⟨S8x8, .i32⟩
  | .hbm, ⟨38, _⟩ => ⟨S8x8, .i32⟩
  | .hbm, ⟨39, _⟩ => ⟨S8x8, .i1⟩
  | .hbm, ⟨40, _⟩ => ⟨S8x8, .f32⟩
  | .hbm, ⟨41, _⟩ => ⟨S_, .f32⟩
  | .hbm, ⟨42, _⟩ => ⟨S64x64, .f32⟩
  | .hbm, ⟨43, _⟩ => ⟨S8x1x8x1, .f32⟩
  | .hbm, ⟨44, _⟩ => ⟨S1x64x1x64, .f32⟩
  | .hbm, ⟨45, _⟩ => ⟨S8x64x8x64, .f32⟩
  | .hbm, ⟨46, _⟩ => ⟨S8x64x8x64, .f32⟩
  | .hbm, ⟨47, _⟩ => ⟨S8x64x8x64, .f32⟩
  | .hbm, ⟨48, _⟩ => ⟨S512x512, .f32⟩
  | .hbm, ⟨49, _⟩ => ⟨S512x512, .bf16⟩
  | .hbm, ⟨50, _⟩ => ⟨S64, .f32⟩
  | .hbm, ⟨51, _⟩ => ⟨S1x64, .f32⟩
  | .hbm, ⟨52, _⟩ => ⟨S8x64, .f32⟩
  | .hbm, ⟨53, _⟩ => ⟨S512, .f32⟩
  | .hbm, ⟨54, _⟩ => ⟨S1x512, .f32⟩
  | .hbm, ⟨55, _⟩ => ⟨S64, .f32⟩
  | .hbm, ⟨56, _⟩ => ⟨S1x64, .f32⟩
  | .hbm, ⟨57, _⟩ => ⟨S8x64, .f32⟩
  | .hbm, ⟨58, _⟩ => ⟨S512, .f32⟩
  | .hbm, ⟨59, _⟩ => ⟨S512x1, .f32⟩
  | .hbm, ⟨60, _⟩ => ⟨S64, .f32⟩
  | .hbm, ⟨61, _⟩ => ⟨S1x64, .f32⟩
  | .hbm, ⟨62, _⟩ => ⟨S8x64, .f32⟩
  | .hbm, ⟨63, _⟩ => ⟨S512, .f32⟩
  | .hbm, ⟨64, _⟩ => ⟨S512x1, .f32⟩
  | .hbm, ⟨65, _⟩ => ⟨S_, .f32⟩
  | .hbm, ⟨66, _⟩ => ⟨S512x1, .f32⟩
  | .hbm, ⟨67, _⟩ => ⟨S512x1, .f32⟩
  | .hbm, ⟨68, _⟩ => ⟨S1024x1024, .f32⟩
  | .hbm, ⟨69, _⟩ => ⟨S1024x1024, .bf16⟩
  | .hbm, ⟨70, _⟩ => ⟨S16384x512, .bf16⟩
  | .hbm, ⟨71, _⟩ => ⟨S16384x512, .f32⟩
  | .hbm, ⟨72, _⟩ => ⟨S512x16384, .bf16⟩
  | .hbm, ⟨73, _⟩ => ⟨S2x512x8192, .f32⟩
  | .hbm, ⟨74, _⟩ => ⟨S2x512x8192, .f32⟩
  | .hbm, ⟨75, _⟩ => ⟨S64x512x256, .bf16⟩
  | .hbm, ⟨76, _⟩ => ⟨S2x8x64x8192, .f32⟩
  | .hbm, ⟨77, _⟩ => ⟨S2x8192x8x64, .f32⟩
  | .hbm, ⟨78, _⟩ => ⟨S1x2x8192x8x64, .f32⟩
  | .hbm, ⟨79, _⟩ => ⟨S2x8x64x8192, .f32⟩
  | .hbm, ⟨80, _⟩ => ⟨S2x8192x8x64, .f32⟩
  | .hbm, ⟨81, _⟩ => ⟨S1x2x8192x8x64, .f32⟩
  | .hbm, ⟨82, _⟩ => ⟨S2x8192x512, .f32⟩
  | .hbm, ⟨83, _⟩ => ⟨S2x15x512, .f32⟩
  | .hbm, ⟨84, _⟩ => ⟨S1x2x15x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .bf16⟩
  | .local _ .vmem, ⟨12, _⟩ => ⟨S1536x1024, .bf16⟩
  | .local _ .vmem, ⟨13, _⟩ => ⟨S512x512, .bf16⟩
  | .local _ .vmem, ⟨14, _⟩ => ⟨S1x512, .f32⟩
  | .local _ .vmem, ⟨15, _⟩ => ⟨S512x1, .f32⟩
  | .local _ .vmem, ⟨16, _⟩ => ⟨S512x1, .f32⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S2x512x256, .bf16⟩
  | .local _ .vmem, ⟨28, _⟩ => ⟨S2x512x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v53_3 : Ref sig .tc := ⟨.hbm, 73, rfl⟩
abbrev main_v53_4 : Ref sig .tc := ⟨.hbm, 74, rfl⟩
abbrev main_v53_5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem11_1 : DmaSem sig := 24
abbrev cc1_sem12_0 : DmaSem sig := 25
abbrev cc1_sem12_1 : DmaSem sig := 26
abbrev cc1_sem13_0 : DmaSem sig := 27
abbrev cc1_sem13_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_12 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x512x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2x512x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== Reference4Ideal.lean ====
abbrev S2x8192x1024 : Shape := ⟨3, ![2, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x2048 : Shape := ⟨3, ![1, 1024, 2048]⟩
abbrev S1x64 : Shape := ⟨2, ![1, 64]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S1024x2048 : Shape := ⟨2, ![1024, 2048]⟩
abbrev S64 : Shape := ⟨1, ![64]⟩
abbrev S2x8192x2048 : Shape := ⟨3, ![2, 8192, 2048]⟩
abbrev S2x8192x512 : Shape := ⟨3, ![2, 8192, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x15x512 : Shape := ⟨3, ![2, 15, 512]⟩
abbrev S2x8207x512 : Shape := ⟨3, ![2, 8207, 512]⟩
abbrev S1x2x8192x8x64 : Shape := ⟨5, ![1, 2, 8192, 8, 64]⟩
abbrev S1x2x15x512 : Shape := ⟨4, ![1, 2, 15, 512]⟩

abbrev nBuf : Space → Nat
  | .hbm => 118
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024x2048, .f32⟩
  | .hbm, ⟨7, _⟩ => ⟨S1x64, .f32⟩
  | .hbm, ⟨8, _⟩ => ⟨S1x64, .f32⟩
  | .hbm, ⟨9, _⟩ => ⟨S1x1024x2816, .f32⟩
  | .hbm, ⟨10, _⟩ => ⟨S1024x2816, .f32⟩
  | .hbm, ⟨11, _⟩ => ⟨S1x1024x2816, .f32⟩
  | .hbm, ⟨12, _⟩ => ⟨S1024x2816, .f32⟩
  | .hbm, ⟨13, _⟩ => ⟨S1x2816x1024, .f32⟩
  | .hbm, ⟨14, _⟩ => ⟨S2816x1024, .f32⟩
  | .hbm, ⟨15, _⟩ => ⟨S1x1024, .f32⟩
  | .hbm, ⟨16, _⟩ => ⟨S1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x1024, .f32⟩
  | .hbm, ⟨46, _⟩ => ⟨S_, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S1x1024, .f32⟩
  | .hbm, ⟨51, _⟩ => ⟨S1024, .f32⟩
  | .hbm, ⟨52, _⟩ => ⟨S2x8192x1024, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S1024x2048, .f32⟩
  | .hbm, ⟨69, _⟩ => ⟨S64, .f32⟩
  | .hbm, ⟨70, _⟩ => ⟨S64, .f32⟩
  | .hbm, ⟨71, _⟩ => ⟨S2x8192x2048, .f32⟩
  | .hbm, ⟨72, _⟩ => ⟨S2x8192x512, .f32⟩
  | .hbm, ⟨73, _⟩ => ⟨S2x8192x8x64, .f32⟩
  | .hbm, ⟨74, _⟩ => ⟨S2x8192x8x64, .f32⟩
  | .hbm, ⟨75, _⟩ => ⟨S_, .f32⟩
  | .hbm, ⟨76, _⟩ => ⟨S2x8192x8, .f32⟩
  | .hbm, ⟨77, _⟩ => ⟨S2x8192x8x1, .f32⟩
  | .hbm, ⟨78, _⟩ => ⟨S_, .f32⟩
  | .hbm, ⟨79, _⟩ => ⟨S2x8192x8x1, .f32⟩
  | .hbm, ⟨80, _⟩ => ⟨S2x8192x8x1, .f32⟩
  | .hbm, ⟨81, _⟩ => ⟨S_, .f32⟩
  | .hbm, ⟨82, _⟩ => ⟨S2x8192x8x1, .f32⟩
  | .hbm, ⟨83, _⟩ => ⟨S2x8192x8x1, .f32⟩
  | .hbm, ⟨84, _⟩ => ⟨S2x8192x8x1, .f32⟩
  | .hbm, ⟨85, _⟩ => ⟨S2x8192x8x64, .f32⟩
  | .hbm, ⟨86, _⟩ => ⟨S2x8192x8x64, .f32⟩
  | .hbm, ⟨87, _⟩ => ⟨S1x1x1x64, .f32⟩
  | .hbm, ⟨88, _⟩ => ⟨S2x8192x8x64, .f32⟩
  | .hbm, ⟨89, _⟩ => ⟨S2x8192x8x64, .f32⟩
  | .hbm, ⟨90, _⟩ => ⟨S2x8192x512, .f32⟩
  | .hbm, ⟨91, _⟩ => ⟨S2x8192x8x64, .f32⟩
  | .hbm, ⟨92, _⟩ => ⟨S2x8192x8x64, .f32⟩
  | .hbm, ⟨93, _⟩ => ⟨S_, .f32⟩
  | .hbm, ⟨94, _⟩ => ⟨S2x8192x8, .f32⟩
  | .hbm, ⟨95, _⟩ => ⟨S2x8192x8x1, .f32⟩
  | .hbm, ⟨96, _⟩ => ⟨S_, .f32⟩
  | .hbm, ⟨97, _⟩ => ⟨S2x8192x8x1, .f32⟩
  | .hbm, ⟨98, _⟩ => ⟨S2x8192x8x1, .f32⟩
  | .hbm, ⟨99, _⟩ => ⟨S_, .f32⟩
  | .hbm, ⟨100, _⟩ => ⟨S2x8192x8x1, .f32⟩
  | .hbm, ⟨101, _⟩ => ⟨S2x8192x8x1, .f32⟩
  | .hbm, ⟨102, _⟩ => ⟨S2x8192x8x1, .f32⟩
  | .hbm, ⟨103, _⟩ => ⟨S2x8192x8x64, .f32⟩
  | .hbm, ⟨104, _⟩ => ⟨S2x8192x8x64, .f32⟩
  | .hbm, ⟨105, _⟩ => ⟨S1x1x1x64, .f32⟩
  | .hbm, ⟨106, _⟩ => ⟨S2x8192x8x64, .f32⟩
  | .hbm, ⟨107, _⟩ => ⟨S2x8192x8x64, .f32⟩
  | .hbm, ⟨108, _⟩ => ⟨S2x8192x512, .f32⟩
  | .hbm, ⟨109, _⟩ => ⟨S2x8192x8x64, .f32⟩
  | .hbm, ⟨110, _⟩ => ⟨S2x8192x512, .f32⟩
  | .hbm, ⟨111, _⟩ => ⟨S_, .f32⟩
  | .hbm, ⟨112, _⟩ => ⟨S2x15x512, .f32⟩
  | .hbm, ⟨113, _⟩ => ⟨S2x8207x512, .f32⟩
  | .hbm, ⟨114, _⟩ => ⟨S1x2x8192x8x64, .f32⟩
  | .hbm, ⟨115, _⟩ => ⟨S1x2x8192x8x64, .f32⟩
  | .hbm, ⟨116, _⟩ => ⟨S2x15x512, .f32⟩
  | .hbm, ⟨117, _⟩ => ⟨S1x2x15x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Kernel5.lean ====
abbrev S32x8x1024 : Shape := ⟨3, ![32, 8, 1024]⟩
abbrev S1x32x15x512 : Shape := ⟨4, ![1, 32, 15, 512]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x2048 : Shape := ⟨3, ![1, 1024, 2048]⟩
abbrev S1x64 : Shape := ⟨2, ![1, 64]⟩
abbrev S256x1024 : Shape := ⟨2, ![256, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S256 : Shape := ⟨1, ![256]⟩
abbrev S256x1 : Shape := ⟨2, ![256, 1]⟩
abbrev S256x2816 : Shape := ⟨2, ![256, 2816]⟩
abbrev S1024x2048 : Shape := ⟨2, ![1024, 2048]⟩
abbrev S1024x512 : Shape := ⟨2, ![1024, 512]⟩
abbrev S1024x1536 : Shape := ⟨2, ![1024, 1536]⟩
abbrev S1536x1024 : Shape := ⟨2, ![1536, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S64 : Shape := ⟨1, ![64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S256x512 : Shape := ⟨2, ![256, 512]⟩
abbrev S512x256 : Shape := ⟨2, ![512, 256]⟩
abbrev S1x512x256 : Shape := ⟨3, ![1, 512, 256]⟩
abbrev S256x1536 : Shape := ⟨2, ![256, 1536]⟩
abbrev S1536x256 : Shape := ⟨2, ![1536, 256]⟩
abbrev S64x256 : Shape := ⟨2, ![64, 256]⟩
abbrev S1x256 : Shape := ⟨2, ![1, 256]⟩
abbrev S64x1 : Shape := ⟨2, ![64, 1]⟩
abbrev S1x64x256 : Shape := ⟨3, ![1, 64, 256]⟩
abbrev S32x8x512 : Shape := ⟨3, ![32, 8, 512]⟩
abbrev S32x8x8x64 : Shape := ⟨4, ![32, 8, 8, 64]⟩
abbrev S1x32x8x8x64 : Shape := ⟨5, ![1, 32, 8, 8, 64]⟩
abbrev S32x15x512 : Shape := ⟨3, ![32, 15, 512]⟩
abbrev S32x23x512 : Shape := ⟨3, ![32, 23, 512]⟩

abbrev nBuf : Space → Nat
  | .hbm => 86
  | .vmem => 22
  | .smem => 0
  | _ => 0

abbrev bufTy : (tb : Table) → Fin (tcTables nBuf tb) → BufTy
  | .hbm, ⟨0, _⟩ => ⟨S32x8x1024, .f32⟩
  | .hbm, ⟨1, _⟩ => ⟨S1x32x15x512, .f32⟩
  | .hbm, ⟨2, _⟩ => ⟨S2x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1x1024x2048, .f32⟩
  | .hbm, ⟨8, _⟩ => ⟨S1x64, .f32⟩
  | .hbm, ⟨9, _⟩ => ⟨S1x64, .f32⟩
  | .hbm, ⟨10, _⟩ => ⟨S256x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x2816, .f32⟩
  | .hbm, ⟨15, _⟩ => ⟨S1024x2816, .f32⟩
  | .hbm, ⟨16, _⟩ => ⟨S1024x2816, .bf16⟩
  | .hbm, ⟨17, _⟩ => ⟨S1x1024x2816, .f32⟩
  | .hbm, ⟨18, _⟩ => ⟨S1024x2816, .f32⟩
  | .hbm, ⟨19, _⟩ => ⟨S1024x2816, .bf16⟩
  | .hbm, ⟨20, _⟩ => ⟨S1x2816x1024, .f32⟩
  | .hbm, ⟨21, _⟩ => ⟨S2816x1024, .f32⟩
  | .hbm, ⟨22, _⟩ => ⟨S2816x1024, .bf16⟩
  | .hbm, ⟨23, _⟩ => ⟨S256x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024x2048, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S1024x1536, .f32⟩
  | .hbm, ⟨33, _⟩ => ⟨S1536x1024, .f32⟩
  | .hbm, ⟨34, _⟩ => ⟨S1536x1024, .bf16⟩
  | .hbm, ⟨35, _⟩ => ⟨S8x8, .i32⟩
  | .hbm, ⟨36, _⟩ => ⟨S8x8, .i32⟩
  | .hbm, ⟨37, _⟩ => ⟨S_, .i32⟩
  | .hbm, ⟨38, _⟩ => ⟨S8x8, .i32⟩
  | .hbm, ⟨39, _⟩ => ⟨S8x8, .i32⟩
  | .hbm, ⟨40, _⟩ => ⟨S8x8, .i1⟩
  | .hbm, ⟨41, _⟩ => ⟨S8x8, .f32⟩
  | .hbm, ⟨42, _⟩ => ⟨S_, .f32⟩
  | .hbm, ⟨43, _⟩ => ⟨S64x64, .f32⟩
  | .hbm, ⟨44, _⟩ => ⟨S8x1x8x1, .f32⟩
  | .hbm, ⟨45, _⟩ => ⟨S1x64x1x64, .f32⟩
  | .hbm, ⟨46, _⟩ => ⟨S8x64x8x64, .f32⟩
  | .hbm, ⟨47, _⟩ => ⟨S8x64x8x64, .f32⟩
  | .hbm, ⟨48, _⟩ => ⟨S8x64x8x64, .f32⟩
  | .hbm, ⟨49, _⟩ => ⟨S512x512, .f32⟩
  | .hbm, ⟨50, _⟩ => ⟨S512x512, .bf16⟩
  | .hbm, ⟨51, _⟩ => ⟨S64, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S64, .f32⟩
  | .hbm, ⟨57, _⟩ => ⟨S1x64, .f32⟩
  | .hbm, ⟨58, _⟩ => ⟨S8x64, .f32⟩
  | .hbm, ⟨59, _⟩ => ⟨S512, .f32⟩
  | .hbm, ⟨60, _⟩ => ⟨S512x1, .f32⟩
  | .hbm, ⟨61, _⟩ => ⟨S64, .f32⟩
  | .hbm, ⟨62, _⟩ => ⟨S1x64, .f32⟩
  | .hbm, ⟨63, _⟩ => ⟨S8x64, .f32⟩
  | .hbm, ⟨64, _⟩ => ⟨S512, .f32⟩
  | .hbm, ⟨65, _⟩ => ⟨S512x1, .f32⟩
  | .hbm, ⟨66, _⟩ => ⟨S_, .f32⟩
  | .hbm, ⟨67, _⟩ => ⟨S512x1, .f32⟩
  | .hbm, ⟨68, _⟩ => ⟨S512x1, .f32⟩
  | .hbm, ⟨69, _⟩ => ⟨S1024x1536, .f32⟩
  | .hbm, ⟨70, _⟩ => ⟨S1024x1536, .bf16⟩
  | .hbm, ⟨71, _⟩ => ⟨S256x512, .bf16⟩
  | .hbm, ⟨72, _⟩ => ⟨S256x512, .f32⟩
  | .hbm, ⟨73, _⟩ => ⟨S512x256, .bf16⟩
  | .hbm, ⟨74, _⟩ => ⟨S1x512x256, .f32⟩
  | .hbm, ⟨75, _⟩ => ⟨S1x512x256, .f32⟩
  | .hbm, ⟨76, _⟩ => ⟨S1x512x256, .bf16⟩
  | .hbm, ⟨77, _⟩ => ⟨S256x512, .f32⟩
  | .hbm, ⟨78, _⟩ => ⟨S256x512, .f32⟩
  | .hbm, ⟨79, _⟩ => ⟨S32x8x512, .f32⟩
  | .hbm, ⟨80, _⟩ => ⟨S32x8x8x64, .f32⟩
  | .hbm, ⟨81, _⟩ => ⟨S1x32x8x8x64, .f32⟩
  | .hbm, ⟨82, _⟩ => ⟨S32x15x512, .f32⟩
  | .hbm, ⟨83, _⟩ => ⟨S32x23x512, .f32⟩
  | .hbm, ⟨84, _⟩ => ⟨S32x15x512, .f32⟩
  | .hbm, ⟨85, _⟩ => ⟨S1x32x15x512, .f32⟩
  | .local _ .vmem, ⟨0, _⟩ => ⟨S256x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1024x1536, .bf16⟩
  | .local _ .vmem, ⟨9, _⟩ => ⟨S1536x1024, .bf16⟩
  | .local _ .vmem, ⟨10, _⟩ => ⟨S512x512, .bf16⟩
  | .local _ .vmem, ⟨11, _⟩ => ⟨S1x512, .f32⟩
  | .local _ .vmem, ⟨12, _⟩ => ⟨S512x1, .f32⟩
  | .local _ .vmem, ⟨13, _⟩ => ⟨S512x1, .f32⟩
  | .local _ .vmem, ⟨14, _⟩ => ⟨S256x512, .bf16⟩
  | .local _ .vmem, ⟨15, _⟩ => ⟨S256x512, .f32⟩
  | .local _ .vmem, ⟨16, _⟩ => ⟨S512x256, .bf16⟩
  | .local _ .vmem, ⟨17, _⟩ => ⟨S1x512x256, .f32⟩
  | .local _ .vmem, ⟨18, _⟩ => ⟨S1x512x256, .f32⟩
  | .local _ .vmem, ⟨19, _⟩ => ⟨S1x512x256, .bf16⟩
  | .local _ .vmem, ⟨20, _⟩ => ⟨S256x512, .f32⟩
  | .local _ .vmem, ⟨21, _⟩ => ⟨S256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_v53_2 : Ref sig .tc := ⟨.hbm, 73, rfl⟩
abbrev main_v53_3 : Ref sig .tc := ⟨.hbm, 74, rfl⟩
abbrev main_v53_4 : Ref sig .tc := ⟨.hbm, 75, rfl⟩
abbrev main_v53_5 : Ref sig .tc := ⟨.hbm, 76, rfl⟩
abbrev main_v53_6 : Ref sig .tc := ⟨.hbm, 77, rfl⟩
abbrev main_v53_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg14_0 : Ref sig .tc := ⟨.vmem, 20, rfl⟩
abbrev cc1_stg15_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem15_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_12 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S256x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S512x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev stage1_11 : Fin 1 → Memref sig .tc .vmem S1x512x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S1x512x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev stage1_13 : Fin 1 → Memref sig .tc .vmem S1x512x256 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true]

abbrev stage1_14 : Fin 1 → Memref sig .tc .vmem S256x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true]

abbrev stage1_15 : Fin 1 → Memref sig .tc .vmem S256x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![true]
-- ==== Reference5Ideal.lean ====
abbrev S32x8x1024 : Shape := ⟨3, ![32, 8, 1024]⟩
abbrev S1x32x15x512 : Shape := ⟨4, ![1, 32, 15, 512]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x2048 : Shape := ⟨3, ![1, 1024, 2048]⟩
abbrev S1x64 : Shape := ⟨2, ![1, 64]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2816 : Shape := ⟨3, ![32, 8, 2816]⟩
abbrev S1024x2048 : Shape := ⟨2, ![1024, 2048]⟩
abbrev S64 : Shape := ⟨1, ![64]⟩
abbrev S32x8x2048 : Shape := ⟨3, ![32, 8, 2048]⟩
abbrev S32x8x512 : Shape := ⟨3, ![32, 8, 512]⟩
abbrev S32x8x8x64 : Shape := ⟨4, ![32, 8, 8, 64]⟩
abbrev S32x8x8 : Shape := ⟨3, ![32, 8, 8]⟩
abbrev S32x8x8x1 : Shape := ⟨4, ![32, 8, 8, 1]⟩
abbrev S1x1x1x64 : Shape := ⟨4, ![1, 1, 1, 64]⟩
abbrev S32x15x512 : Shape := ⟨3, ![32, 15, 512]⟩
abbrev S32x23x512 : Shape := ⟨3, ![32, 23, 512]⟩
abbrev S1x32x8x8x64 : Shape := ⟨5, ![1, 32, 8, 8, 64]⟩

abbrev nBuf : Space → Nat
  | .hbm => 117
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x32x15x512, .f32⟩
  | .hbm, ⟨2, _⟩ => ⟨S2x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1x1024x2048, .f32⟩
  | .hbm, ⟨8, _⟩ => ⟨S1x64, .f32⟩
  | .hbm, ⟨9, _⟩ => ⟨S1x64, .f32⟩
  | .hbm, ⟨10, _⟩ => ⟨S1x1024x2816, .f32⟩
  | .hbm, ⟨11, _⟩ => ⟨S1024x2816, .f32⟩
  | .hbm, ⟨12, _⟩ => ⟨S1x1024x2816, .f32⟩
  | .hbm, ⟨13, _⟩ => ⟨S1024x2816, .f32⟩
  | .hbm, ⟨14, _⟩ => ⟨S1x2816x1024, .f32⟩
  | .hbm, ⟨15, _⟩ => ⟨S2816x1024, .f32⟩
  | .hbm, ⟨16, _⟩ => ⟨S1x1024, .f32⟩
  | .hbm, ⟨17, _⟩ => ⟨S1024, .f32⟩
  | .hbm, ⟨18, _⟩ => ⟨S32x8x1024, .f32⟩
  | .hbm, ⟨19, _⟩ => ⟨S_, .f32⟩
  | .hbm, ⟨20, _⟩ => ⟨S32x8, .f32⟩
  | .hbm, ⟨21, _⟩ => ⟨S32x8x1, .f32⟩
  | .hbm, ⟨22, _⟩ => ⟨S_, .f32⟩
  | .hbm, ⟨23, _⟩ => ⟨S32x8x1, .f32⟩
  | .hbm, ⟨24, _⟩ => ⟨S32x8x1, .f32⟩
  | .hbm, ⟨25, _⟩ => ⟨S_, .f32⟩
  | .hbm, ⟨26, _⟩ => ⟨S32x8x1, .f32⟩
  | .hbm, ⟨27, _⟩ => ⟨S32x8x1, .f32⟩
  | .hbm, ⟨28, _⟩ => ⟨S32x8x1, .f32⟩
  | .hbm, ⟨29, _⟩ => ⟨S32x8x1024, .f32⟩
  | .hbm, ⟨30, _⟩ => ⟨S32x8x1024, .f32⟩
  | .hbm, ⟨31, _⟩ => ⟨S1x1x1024, .f32⟩
  | .hbm, ⟨32, _⟩ => ⟨S32x8x1024, .f32⟩
  | .hbm, ⟨33, _⟩ => ⟨S32x8x1024, .f32⟩
  | .hbm, ⟨34, _⟩ => ⟨S32x8x2816, .f32⟩
  | .hbm, ⟨35, _⟩ => ⟨S32x8x2816, .f32⟩
  | .hbm, ⟨36, _⟩ => ⟨S32x8x2816, .f32⟩
  | .hbm, ⟨37, _⟩ => ⟨S_, .f32⟩
  | .hbm, ⟨38, _⟩ => ⟨S32x8x2816, .f32⟩
  | .hbm, ⟨39, _⟩ => ⟨S32x8x2816, .f32⟩
  | .hbm, ⟨40, _⟩ => ⟨S_, .f32⟩
  | .hbm, ⟨41, _⟩ => ⟨S32x8x2816, .f32⟩
  | .hbm, ⟨42, _⟩ => ⟨S32x8x2816, .f32⟩
  | .hbm, ⟨43, _⟩ => ⟨S32x8x2816, .f32⟩
  | .hbm, ⟨44, _⟩ => ⟨S32x8x2816, .f32⟩
  | .hbm, ⟨45, _⟩ => ⟨S32x8x2816, .f32⟩
  | .hbm, ⟨46, _⟩ => ⟨S32x8x1024, .f32⟩
  | .hbm, ⟨47, _⟩ => ⟨S_, .f32⟩
  | .hbm, ⟨48, _⟩ => ⟨S32x8x1024, .f32⟩
  | .hbm, ⟨49, _⟩ => ⟨S32x8x1024, .f32⟩
  | .hbm, ⟨50, _⟩ => ⟨S32x8x1024, .f32⟩
  | .hbm, ⟨51, _⟩ => ⟨S1x1024, .f32⟩
  | .hbm, ⟨52, _⟩ => ⟨S1024, .f32⟩
  | .hbm, ⟨53, _⟩ => ⟨S32x8x1024, .f32⟩
  | .hbm, ⟨54, _⟩ => ⟨S_, .f32⟩
  | .hbm, ⟨55, _⟩ => ⟨S32x8, .f32⟩
  | .hbm, ⟨56, _⟩ => ⟨S32x8x1, .f32⟩
  | .hbm, ⟨57, _⟩ => ⟨S_, .f32⟩
  | .hbm, ⟨58, _⟩ => ⟨S32x8x1, .f32⟩
  | .hbm, ⟨59, _⟩ => ⟨S32x8x1, .f32⟩
  | .hbm, ⟨60, _⟩ => ⟨S_, .f32⟩
  | .hbm, ⟨61, _⟩ => ⟨S32x8x1, .f32⟩
  | .hbm, ⟨62, _⟩ => ⟨S32x8x1, .f32⟩
  | .hbm, ⟨63, _⟩ => ⟨S32x8x1, .f32⟩
  | .hbm, ⟨64, _⟩ => ⟨S32x8x1024, .f32⟩
  | .hbm, ⟨65, _⟩ => ⟨S32x8x1024, .f32⟩
  | .hbm, ⟨66, _⟩ => ⟨S1x1x1024, .f32⟩
  | .hbm, ⟨67, _⟩ => ⟨S32x8x1024, .f32⟩
  | .hbm, ⟨68, _⟩ => ⟨S32x8x1024, .f32⟩
  | .hbm, ⟨69, _⟩ => ⟨S1024x2048, .f32⟩
  | .hbm, ⟨70, _⟩ => ⟨S64, .f32⟩
  | .hbm, ⟨71, _⟩ => ⟨S64, .f32⟩
  | .hbm, ⟨72, _⟩ => ⟨S32x8x2048, .f32⟩
  | .hbm, ⟨73, _⟩ => ⟨S32x8x512, .f32⟩
  | .hbm, ⟨74, _⟩ => ⟨S32x8x8x64, .f32⟩
  | .hbm, ⟨75, _⟩ => ⟨S32x8x8x64, .f32⟩
  | .hbm, ⟨76, _⟩ => ⟨S_, .f32⟩
  | .hbm, ⟨77, _⟩ => ⟨S32x8x8, .f32⟩
  | .hbm, ⟨78, _⟩ => ⟨S32x8x8x1, .f32⟩
  | .hbm, ⟨79, _⟩ => ⟨S_, .f32⟩
  | .hbm, ⟨80, _⟩ => ⟨S32x8x8x1, .f32⟩
  | .hbm, ⟨81, _⟩ => ⟨S32x8x8x1, .f32⟩
  | .hbm, ⟨82, _⟩ => ⟨S_, .f32⟩
  | .hbm, ⟨83, _⟩ => ⟨S32x8x8x1, .f32⟩
  | .hbm, ⟨84, _⟩ => ⟨S32x8x8x1, .f32⟩
  | .hbm, ⟨85, _⟩ => ⟨S32x8x8x1, .f32⟩
  | .hbm, ⟨86, _⟩ => ⟨S32x8x8x64, .f32⟩
  | .hbm, ⟨87, _⟩ => ⟨S32x8x8x64, .f32⟩
  | .hbm, ⟨88, _⟩ => ⟨S1x1x1x64, .f32⟩
  | .hbm, ⟨89, _⟩ => ⟨S32x8x8x64, .f32⟩
  | .hbm, ⟨90, _⟩ => ⟨S32x8x8x64, .f32⟩
  | .hbm, ⟨91, _⟩ => ⟨S32x8x512, .f32⟩
  | .hbm, ⟨92, _⟩ => ⟨S32x8x8x64, .f32⟩
  | .hbm, ⟨93, _⟩ => ⟨S32x8x8x64, .f32⟩
  | .hbm, ⟨94, _⟩ => ⟨S_, .f32⟩
  | .hbm, ⟨95, _⟩ => ⟨S32x8x8, .f32⟩
  | .hbm, ⟨96, _⟩ => ⟨S32x8x8x1, .f32⟩
  | .hbm, ⟨97, _⟩ => ⟨S_, .f32⟩
  | .hbm, ⟨98, _⟩ => ⟨S32x8x8x1, .f32⟩
  | .hbm, ⟨99, _⟩ => ⟨S32x8x8x1, .f32⟩
  | .hbm, ⟨100, _⟩ => ⟨S_, .f32⟩
  | .hbm, ⟨101, _⟩ => ⟨S32x8x8x1, .f32⟩
  | .hbm, ⟨102, _⟩ => ⟨S32x8x8x1, .f32⟩
  | .hbm, ⟨103, _⟩ => ⟨S32x8x8x1, .f32⟩
  | .hbm, ⟨104, _⟩ => ⟨S32x8x8x64, .f32⟩
  | .hbm, ⟨105, _⟩ => ⟨S32x8x8x64, .f32⟩
  | .hbm, ⟨106, _⟩ => ⟨S1x1x1x64, .f32⟩
  | .hbm, ⟨107, _⟩ => ⟨S32x8x8x64, .f32⟩
  | .hbm, ⟨108, _⟩ => ⟨S32x8x8x64, .f32⟩
  | .hbm, ⟨109, _⟩ => ⟨S32x8x512, .f32⟩
  | .hbm, ⟨110, _⟩ => ⟨S32x8x8x64, .f32⟩
  | .hbm, ⟨111, _⟩ => ⟨S32x8x512, .f32⟩
  | .hbm, ⟨112, _⟩ => ⟨S32x15x512, .f32⟩
  | .hbm, ⟨113, _⟩ => ⟨S32x23x512, .f32⟩
  | .hbm, ⟨114, _⟩ => ⟨S1x32x8x8x64, .f32⟩
  | .hbm, ⟨115, _⟩ => ⟨S32x15x512, .f32⟩
  | .hbm, ⟨116, _⟩ => ⟨S1x32x15x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_v66 : Ref sig .tc := ⟨.hbm, 95, rfl⟩
abbrev main_v67 : Ref sig .tc := ⟨.hbm, 96, rfl⟩
abbrev main_cst_10 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Kernel6.lean ====
abbrev S32x8x1024 : Shape := ⟨3, ![32, 8, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x2048 : Shape := ⟨3, ![1, 1024, 2048]⟩
abbrev S1x64 : Shape := ⟨2, ![1, 64]⟩
abbrev S256x1024 : Shape := ⟨2, ![256, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S256 : Shape := ⟨1, ![256]⟩
abbrev S256x1 : Shape := ⟨2, ![256, 1]⟩
abbrev S256x2816 : Shape := ⟨2, ![256, 2816]⟩
abbrev S1024x2048 : Shape := ⟨2, ![1024, 2048]⟩
abbrev S1024x512 : Shape := ⟨2, ![1024, 512]⟩
abbrev S1024x1536 : Shape := ⟨2, ![1024, 1536]⟩
abbrev S1536x1024 : Shape := ⟨2, ![1536, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S64 : Shape := ⟨1, ![64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S256x512 : Shape := ⟨2, ![256, 512]⟩
abbrev S512x256 : Shape := ⟨2, ![512, 256]⟩
abbrev S1x512x256 : Shape := ⟨3, ![1, 512, 256]⟩
abbrev S256x1536 : Shape := ⟨2, ![256, 1536]⟩
abbrev S1536x256 : Shape := ⟨2, ![1536, 256]⟩
abbrev S64x256 : Shape := ⟨2, ![64, 256]⟩
abbrev S1x256 : Shape := ⟨2, ![1, 256]⟩
abbrev S64x1 : Shape := ⟨2, ![64, 1]⟩
abbrev S1x64x256 : Shape := ⟨3, ![1, 64, 256]⟩
abbrev S32x8x8x64 : Shape := ⟨4, ![32, 8, 8, 64]⟩
abbrev S1x32x8x8x64 : Shape := ⟨5, ![1, 32, 8, 8, 64]⟩

abbrev nBuf : Space → Nat
  | .hbm => 80
  | .vmem => 22
  | .smem => 0
  | _ => 0

abbrev bufTy : (tb : Table) → Fin (tcTables nBuf tb) → BufTy
  | .hbm, ⟨0, _⟩ => ⟨S32x8x1024, .f32⟩
  | .hbm, ⟨1, _⟩ => ⟨S2x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024x2048, .f32⟩
  | .hbm, ⟨7, _⟩ => ⟨S1x64, .f32⟩
  | .hbm, ⟨8, _⟩ => ⟨S1x64, .f32⟩
  | .hbm, ⟨9, _⟩ => ⟨S256x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024x2816, .f32⟩
  | .hbm, ⟨14, _⟩ => ⟨S1024x2816, .f32⟩
  | .hbm, ⟨15, _⟩ => ⟨S1024x2816, .bf16⟩
  | .hbm, ⟨16, _⟩ => ⟨S1x1024x2816, .f32⟩
  | .hbm, ⟨17, _⟩ => ⟨S1024x2816, .f32⟩
  | .hbm, ⟨18, _⟩ => ⟨S1024x2816, .bf16⟩
  | .hbm, ⟨19, _⟩ => ⟨S1x2816x1024, .f32⟩
  | .hbm, ⟨20, _⟩ => ⟨S2816x1024, .f32⟩
  | .hbm, ⟨21, _⟩ => ⟨S2816x1024, .bf16⟩
  | .hbm, ⟨22, _⟩ => ⟨S256x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024x2048, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S1024x1536, .f32⟩
  | .hbm, ⟨32, _⟩ => ⟨S1536x1024, .f32⟩
  | .hbm, ⟨33, _⟩ => ⟨S1536x1024, .bf16⟩
  | .hbm, ⟨34, _⟩ => ⟨S8x8, .i32⟩
  | .hbm, ⟨35, _⟩ => ⟨S8x8, .i32⟩
  | .hbm, ⟨36, _⟩ => ⟨S_, .i32⟩
  | .hbm, ⟨37, _⟩ => ⟨S8x8, .i32⟩
  | .hbm, ⟨38, _⟩ => ⟨S8x8, .i32⟩
  | .hbm, ⟨39, _⟩ => ⟨S8x8, .i1⟩
  | .hbm, ⟨40, _⟩ => ⟨S8x8, .f32⟩
  | .hbm, ⟨41, _⟩ => ⟨S_, .f32⟩
  | .hbm, ⟨42, _⟩ => ⟨S64x64, .f32⟩
  | .hbm, ⟨43, _⟩ => ⟨S8x1x8x1, .f32⟩
  | .hbm, ⟨44, _⟩ => ⟨S1x64x1x64, .f32⟩
  | .hbm, ⟨45, _⟩ => ⟨S8x64x8x64, .f32⟩
  | .hbm, ⟨46, _⟩ => ⟨S8x64x8x64, .f32⟩
  | .hbm, ⟨47, _⟩ => ⟨S8x64x8x64, .f32⟩
  | .hbm, ⟨48, _⟩ => ⟨S512x512, .f32⟩
  | .hbm, ⟨49, _⟩ => ⟨S512x512, .bf16⟩
  | .hbm, ⟨50, _⟩ => ⟨S64, .f32⟩
  | .hbm, ⟨51, _⟩ => ⟨S1x64, .f32⟩
  | .hbm, ⟨52, _⟩ => ⟨S8x64, .f32⟩
  | .hbm, ⟨53, _⟩ => ⟨S512, .f32⟩
  | .hbm, ⟨54, _⟩ => ⟨S1x512, .f32⟩
  | .hbm, ⟨55, _⟩ => ⟨S64, .f32⟩
  | .hbm, ⟨56, _⟩ => ⟨S1x64, .f32⟩
  | .hbm, ⟨57, _⟩ => ⟨S8x64, .f32⟩
  | .hbm, ⟨58, _⟩ => ⟨S512, .f32⟩
  | .hbm, ⟨59, _⟩ => ⟨S512x1, .f32⟩
  | .hbm, ⟨60, _⟩ => ⟨S64, .f32⟩
  | .hbm, ⟨61, _⟩ => ⟨S1x64, .f32⟩
  | .hbm, ⟨62, _⟩ => ⟨S8x64, .f32⟩
  | .hbm, ⟨63, _⟩ => ⟨S512, .f32⟩
  | .hbm, ⟨64, _⟩ => ⟨S512x1, .f32⟩
  | .hbm, ⟨65, _⟩ => ⟨S_, .f32⟩
  | .hbm, ⟨66, _⟩ => ⟨S512x1, .f32⟩
  | .hbm, ⟨67, _⟩ => ⟨S512x1, .f32⟩
  | .hbm, ⟨68, _⟩ => ⟨S1024x1536, .f32⟩
  | .hbm, ⟨69, _⟩ => ⟨S1024x1536, .bf16⟩
  | .hbm, ⟨70, _⟩ => ⟨S256x512, .bf16⟩
  | .hbm, ⟨71, _⟩ => ⟨S256x512, .f32⟩
  | .hbm, ⟨72, _⟩ => ⟨S512x256, .bf16⟩
  | .hbm, ⟨73, _⟩ => ⟨S1x512x256, .f32⟩
  | .hbm, ⟨74, _⟩ => ⟨S1x512x256, .f32⟩
  | .hbm, ⟨75, _⟩ => ⟨S1x512x256, .bf16⟩
  | .hbm, ⟨76, _⟩ => ⟨S256x512, .f32⟩
  | .hbm, ⟨77, _⟩ => ⟨S256x512, .f32⟩
  | .hbm, ⟨78, _⟩ => ⟨S32x8x8x64, .f32⟩
  | .hbm, ⟨79, _⟩ => ⟨S1x32x8x8x64, .f32⟩
  | .local _ .vmem, ⟨0, _⟩ => ⟨S256x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1024x1536, .bf16⟩
  | .local _ .vmem, ⟨9, _⟩ => ⟨S1536x1024, .bf16⟩
  | .local _ .vmem, ⟨10, _⟩ => ⟨S512x512, .bf16⟩
  | .local _ .vmem, ⟨11, _⟩ => ⟨S1x512, .f32⟩
  | .local _ .vmem, ⟨12, _⟩ => ⟨S512x1, .f32⟩
  | .local _ .vmem, ⟨13, _⟩ => ⟨S512x1, .f32⟩
  | .local _ .vmem, ⟨14, _⟩ => ⟨S256x512, .bf16⟩
  | .local _ .vmem, ⟨15, _⟩ => ⟨S256x512, .f32⟩
  | .local _ .vmem, ⟨16, _⟩ => ⟨S512x256, .bf16⟩
  | .local _ .vmem, ⟨17, _⟩ => ⟨S1x512x256, .f32⟩
  | .local _ .vmem, ⟨18, _⟩ => ⟨S1x512x256, .f32⟩
  | .local _ .vmem, ⟨19, _⟩ => ⟨S1x512x256, .bf16⟩
  | .local _ .vmem, ⟨20, _⟩ => ⟨S256x512, .f32⟩
  | .local _ .vmem, ⟨21, _⟩ => ⟨S256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v53_3 : Ref sig .tc := ⟨.hbm, 73, rfl⟩
abbrev main_v53_4 : Ref sig .tc := ⟨.hbm, 74, rfl⟩
abbrev main_v53_5 : Ref sig .tc := ⟨.hbm, 75, rfl⟩
abbrev main_v53_6 : Ref sig .tc := ⟨.hbm, 76, rfl⟩
abbrev main_v53_7 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg14_0 : Ref sig .tc := ⟨.vmem, 20, rfl⟩
abbrev cc1_stg15_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem15_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_12 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S256x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S512x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev stage1_11 : Fin 1 → Memref sig .tc .vmem S1x512x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S1x512x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev stage1_13 : Fin 1 → Memref sig .tc .vmem S1x512x256 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true]

abbrev stage1_14 : Fin 1 → Memref sig .tc .vmem S256x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true]

abbrev stage1_15 : Fin 1 → Memref sig .tc .vmem S256x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![true]
-- ==== Reference6Ideal.lean ====
abbrev S32x8x1024 : Shape := ⟨3, ![32, 8, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x2048 : Shape := ⟨3, ![1, 1024, 2048]⟩
abbrev S1x64 : Shape := ⟨2, ![1, 64]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2816 : Shape := ⟨3, ![32, 8, 2816]⟩
abbrev S1024x2048 : Shape := ⟨2, ![1024, 2048]⟩
abbrev S64 : Shape := ⟨1, ![64]⟩
abbrev S32x8x2048 : Shape := ⟨3, ![32, 8, 2048]⟩
abbrev S32x8x512 : Shape := ⟨3, ![32, 8, 512]⟩
abbrev S32x8x8x64 : Shape := ⟨4, ![32, 8, 8, 64]⟩
abbrev S32x8x8 : Shape := ⟨3, ![32, 8, 8]⟩
abbrev S32x8x8x1 : Shape := ⟨4, ![32, 8, 8, 1]⟩
abbrev S1x1x1x64 : Shape := ⟨4, ![1, 1, 1, 64]⟩
abbrev S1x32x8x8x64 : Shape := ⟨5, ![1, 32, 8, 8, 64]⟩

abbrev nBuf : Space → Nat
  | .hbm => 112
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S2x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024x2048, .f32⟩
  | .hbm, ⟨7, _⟩ => ⟨S1x64, .f32⟩
  | .hbm, ⟨8, _⟩ => ⟨S1x64, .f32⟩
  | .hbm, ⟨9, _⟩ => ⟨S1x1024x2816, .f32⟩
  | .hbm, ⟨10, _⟩ => ⟨S1024x2816, .f32⟩
  | .hbm, ⟨11, _⟩ => ⟨S1x1024x2816, .f32⟩
  | .hbm, ⟨12, _⟩ => ⟨S1024x2816, .f32⟩
  | .hbm, ⟨13, _⟩ => ⟨S1x2816x1024, .f32⟩
  | .hbm, ⟨14, _⟩ => ⟨S2816x1024, .f32⟩
  | .hbm, ⟨15, _⟩ => ⟨S1x1024, .f32⟩
  | .hbm, ⟨16, _⟩ => ⟨S1024, .f32⟩
  | .hbm, ⟨17, _⟩ => ⟨S32x8x1024, .f32⟩
  | .hbm, ⟨18, _⟩ => ⟨S_, .f32⟩
  | .hbm, ⟨19, _⟩ => ⟨S32x8, .f32⟩
  | .hbm, ⟨20, _⟩ => ⟨S32x8x1, .f32⟩
  | .hbm, ⟨21, _⟩ => ⟨S_, .f32⟩
  | .hbm, ⟨22, _⟩ => ⟨S32x8x1, .f32⟩
  | .hbm, ⟨23, _⟩ => ⟨S32x8x1, .f32⟩
  | .hbm, ⟨24, _⟩ => ⟨S_, .f32⟩
  | .hbm, ⟨25, _⟩ => ⟨S32x8x1, .f32⟩
  | .hbm, ⟨26, _⟩ => ⟨S32x8x1, .f32⟩
  | .hbm, ⟨27, _⟩ => ⟨S32x8x1, .f32⟩
  | .hbm, ⟨28, _⟩ => ⟨S32x8x1024, .f32⟩
  | .hbm, ⟨29, _⟩ => ⟨S32x8x1024, .f32⟩
  | .hbm, ⟨30, _⟩ => ⟨S1x1x1024, .f32⟩
  | .hbm, ⟨31, _⟩ => ⟨S32x8x1024, .f32⟩
  | .hbm, ⟨32, _⟩ => ⟨S32x8x1024, .f32⟩
  | .hbm, ⟨33, _⟩ => ⟨S32x8x2816, .f32⟩
  | .hbm, ⟨34, _⟩ => ⟨S32x8x2816, .f32⟩
  | .hbm, ⟨35, _⟩ => ⟨S32x8x2816, .f32⟩
  | .hbm, ⟨36, _⟩ => ⟨S_, .f32⟩
  | .hbm, ⟨37, _⟩ => ⟨S32x8x2816, .f32⟩
  | .hbm, ⟨38, _⟩ => ⟨S32x8x2816, .f32⟩
  | .hbm, ⟨39, _⟩ => ⟨S_, .f32⟩
  | .hbm, ⟨40, _⟩ => ⟨S32x8x2816, .f32⟩
  | .hbm, ⟨41, _⟩ => ⟨S32x8x2816, .f32⟩
  | .hbm, ⟨42, _⟩ => ⟨S32x8x2816, .f32⟩
  | .hbm, ⟨43, _⟩ => ⟨S32x8x2816, .f32⟩
  | .hbm, ⟨44, _⟩ => ⟨S32x8x2816, .f32⟩
  | .hbm, ⟨45, _⟩ => ⟨S32x8x1024, .f32⟩
  | .hbm, ⟨46, _⟩ => ⟨S_, .f32⟩
  | .hbm, ⟨47, _⟩ => ⟨S32x8x1024, .f32⟩
  | .hbm, ⟨48, _⟩ => ⟨S32x8x1024, .f32⟩
  | .hbm, ⟨49, _⟩ => ⟨S32x8x1024, .f32⟩
  | .hbm, ⟨50, _⟩ => ⟨S1x1024, .f32⟩
  | .hbm, ⟨51, _⟩ => ⟨S1024, .f32⟩
  | .hbm, ⟨52, _⟩ => ⟨S32x8x1024, .f32⟩
  | .hbm, ⟨53, _⟩ => ⟨S_, .f32⟩
  | .hbm, ⟨54, _⟩ => ⟨S32x8, .f32⟩
  | .hbm, ⟨55, _⟩ => ⟨S32x8x1, .f32⟩
  | .hbm, ⟨56, _⟩ => ⟨S_, .f32⟩
  | .hbm, ⟨57, _⟩ => ⟨S32x8x1, .f32⟩
  | .hbm, ⟨58, _⟩ => ⟨S32x8x1, .f32⟩
  | .hbm, ⟨59, _⟩ => ⟨S_, .f32⟩
  | .hbm, ⟨60, _⟩ => ⟨S32x8x1, .f32⟩
  | .hbm, ⟨61, _⟩ => ⟨S32x8x1, .f32⟩
  | .hbm, ⟨62, _⟩ => ⟨S32x8x1, .f32⟩
  | .hbm, ⟨63, _⟩ => ⟨S32x8x1024, .f32⟩
  | .hbm, ⟨64, _⟩ => ⟨S32x8x1024, .f32⟩
  | .hbm, ⟨65, _⟩ => ⟨S1x1x1024, .f32⟩
  | .hbm, ⟨66, _⟩ => ⟨S32x8x1024, .f32⟩
  | .hbm, ⟨67, _⟩ => ⟨S32x8x1024, .f32⟩
  | .hbm, ⟨68, _⟩ => ⟨S1024x2048, .f32⟩
  | .hbm, ⟨69, _⟩ => ⟨S64, .f32⟩
  | .hbm, ⟨70, _⟩ => ⟨S64, .f32⟩
  | .hbm, ⟨71, _⟩ => ⟨S32x8x2048, .f32⟩
  | .hbm, ⟨72, _⟩ => ⟨S32x8x512, .f32⟩
  | .hbm, ⟨73, _⟩ => ⟨S32x8x8x64, .f32⟩
  | .hbm, ⟨74, _⟩ => ⟨S32x8x8x64, .f32⟩
  | .hbm, ⟨75, _⟩ => ⟨S_, .f32⟩
  | .hbm, ⟨76, _⟩ => ⟨S32x8x8, .f32⟩
  | .hbm, ⟨77, _⟩ => ⟨S32x8x8x1, .f32⟩
  | .hbm, ⟨78, _⟩ => ⟨S_, .f32⟩
  | .hbm, ⟨79, _⟩ => ⟨S32x8x8x1, .f32⟩
  | .hbm, ⟨80, _⟩ => ⟨S32x8x8x1, .f32⟩
  | .hbm, ⟨81, _⟩ => ⟨S_, .f32⟩
  | .hbm, ⟨82, _⟩ => ⟨S32x8x8x1, .f32⟩
  | .hbm, ⟨83, _⟩ => ⟨S32x8x8x1, .f32⟩
  | .hbm, ⟨84, _⟩ => ⟨S32x8x8x1, .f32⟩
  | .hbm, ⟨85, _⟩ => ⟨S32x8x8x64, .f32⟩
  | .hbm, ⟨86, _⟩ => ⟨S32x8x8x64, .f32⟩
  | .hbm, ⟨87, _⟩ => ⟨S1x1x1x64, .f32⟩
  | .hbm, ⟨88, _⟩ => ⟨S32x8x8x64, .f32⟩
  | .hbm, ⟨89, _⟩ => ⟨S32x8x8x64, .f32⟩
  | .hbm, ⟨90, _⟩ => ⟨S32x8x512, .f32⟩
  | .hbm, ⟨91, _⟩ => ⟨S32x8x8x64, .f32⟩
  | .hbm, ⟨92, _⟩ => ⟨S32x8x8x64, .f32⟩
  | .hbm, ⟨93, _⟩ => ⟨S_, .f32⟩
  | .hbm, ⟨94, _⟩ => ⟨S32x8x8, .f32⟩
  | .hbm, ⟨95, _⟩ => ⟨S32x8x8x1, .f32⟩
  | .hbm, ⟨96, _⟩ => ⟨S_, .f32⟩
  | .hbm, ⟨97, _⟩ => ⟨S32x8x8x1, .f32⟩
  | .hbm, ⟨98, _⟩ => ⟨S32x8x8x1, .f32⟩
  | .hbm, ⟨99, _⟩ => ⟨S_, .f32⟩
  | .hbm, ⟨100, _⟩ => ⟨S32x8x8x1, .f32⟩
  | .hbm, ⟨101, _⟩ => ⟨S32x8x8x1, .f32⟩
  | .hbm, ⟨102, _⟩ => ⟨S32x8x8x1, .f32⟩
  | .hbm, ⟨103, _⟩ => ⟨S32x8x8x64, .f32⟩
  | .hbm, ⟨104, _⟩ => ⟨S32x8x8x64, .f32⟩
  | .hbm, ⟨105, _⟩ => ⟨S1x1x1x64, .f32⟩
  | .hbm, ⟨106, _⟩ => ⟨S32x8x8x64, .f32⟩
  | .hbm, ⟨107, _⟩ => ⟨S32x8x8x64, .f32⟩
  | .hbm, ⟨108, _⟩ => ⟨S32x8x512, .f32⟩
  | .hbm, ⟨109, _⟩ => ⟨S32x8x8x64, .f32⟩
  | .hbm, ⟨110, _⟩ => ⟨S32x8x512, .f32⟩
  | .hbm, ⟨111, _⟩ => ⟨S1x32x8x8x64, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Kernel7.lean ====
abbrev S2x8192x1024 : Shape := ⟨3, ![2, 8192, 1024]⟩
abbrev S512x16384 : Shape := ⟨2, ![512, 16384]⟩
abbrev S2x8192x512 : Shape := ⟨3, ![2, 8192, 512]⟩
abbrev S4x128x128 : Shape := ⟨3, ![4, 128, 128]⟩
abbrev S512 : Shape := ⟨1, ![512]⟩
abbrev S1024x1024 : Shape := ⟨2, ![1024, 1024]⟩
abbrev S16384x1024 : Shape := ⟨2, ![16384, 1024]⟩
abbrev S16384x512 : Shape := ⟨2, ![16384, 512]⟩
abbrev S1x512 : Shape := ⟨2, ![1, 512]⟩
abbrev S512x1024 : Shape := ⟨2, ![512, 1024]⟩
abbrev S32x512x512 : Shape := ⟨3, ![32, 512, 512]⟩
abbrev S1024x16x512 : Shape := ⟨3, ![1024, 16, 512]⟩
abbrev S512x512 : Shape := ⟨2, ![512, 512]⟩
abbrev S1x512x512 : Shape := ⟨3, ![1, 512, 512]⟩
abbrev S1x16x512 : Shape := ⟨3, ![1, 16, 512]⟩
abbrev S1x528x512 : Shape := ⟨3, ![1, 528, 512]⟩
abbrev S1x512x1 : Shape := ⟨3, ![1, 512, 1]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 17
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S512x16384, .f32⟩
  | .hbm, ⟨2, _⟩ => ⟨S2x8192x512, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S16384x1024, .f32⟩
  | .hbm, ⟨7, _⟩ => ⟨S16384x512, .f32⟩
  | .hbm, ⟨8, _⟩ => ⟨S4x128x128, .bf16⟩
  | .hbm, ⟨9, _⟩ => ⟨S1x512, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S32x512x512, .f32⟩
  | .hbm, ⟨15, _⟩ => ⟨S1024x16x512, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512x512, .f32⟩
  | .local _ .vmem, ⟨5, _⟩ => ⟨S1x512x512, .f32⟩
  | .local _ .vmem, ⟨6, _⟩ => ⟨S1x16x512, .f32⟩
  | .local _ .vmem, ⟨7, _⟩ => ⟨S1x16x512, .f32⟩
  | .local _ .vmem, ⟨8, _⟩ => ⟨S4x128x128, .bf16⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x528x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S2x8192x1024 : Shape := ⟨3, ![2, 8192, 1024]⟩
abbrev S512x16384 : Shape := ⟨2, ![512, 16384]⟩
abbrev S2x8192x512 : Shape := ⟨3, ![2, 8192, 512]⟩
abbrev S4x128x128 : Shape := ⟨3, ![4, 128, 128]⟩
abbrev S512 : Shape := ⟨1, ![512]⟩
abbrev S1024x1024 : Shape := ⟨2, ![1024, 1024]⟩
abbrev S16384x512 : Shape := ⟨2, ![16384, 512]⟩
abbrev S_ : Shape := ⟨0, ![]⟩
abbrev S2x15x512 : Shape := ⟨3, ![2, 15, 512]⟩
abbrev S2x8207x512 : Shape := ⟨3, ![2, 8207, 512]⟩
abbrev S2x1x512 : Shape := ⟨3, ![2, 1, 512]⟩
abbrev S2x8208x512 : Shape := ⟨3, ![2, 8208, 512]⟩
abbrev S8192 : Shape := ⟨1, ![8192]⟩
abbrev S2x8192x128 : Shape := ⟨3, ![2, 8192, 128]⟩
abbrev S1x8192x1 : Shape := ⟨3, ![1, 8192, 1]⟩
abbrev S1x128x128 : Shape := ⟨3, ![1, 128, 128]⟩
abbrev S128x128 : Shape := ⟨2, ![128, 128]⟩
abbrev S1x1x512 : Shape := ⟨3, ![1, 1, 512]⟩
abbrev S16384x1024 : Shape := ⟨2, ![16384, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S512x16384, .f32⟩
  | .hbm, ⟨2, _⟩ => ⟨S2x8192x512, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S16384x512, .f32⟩
  | .hbm, ⟨7, _⟩ => ⟨S2x8192x512, .f32⟩
  | .hbm, ⟨8, _⟩ => ⟨S_, .f32⟩
  | .hbm, ⟨9, _⟩ => ⟨S2x15x512, .f32⟩
  | .hbm, ⟨10, _⟩ => ⟨S2x8207x512, .f32⟩
  | .hbm, ⟨11, _⟩ => ⟨S_, .f32⟩
  | .hbm, ⟨12, _⟩ => ⟨S2x1x512, .f32⟩
  | .hbm, ⟨13, _⟩ => ⟨S_, .f32⟩
  | .hbm, ⟨14, _⟩ => ⟨S_, .f32⟩
  | .hbm, ⟨15, _⟩ => ⟨S2x8207x512, .f32⟩
  | .hbm, ⟨16, _⟩ => ⟨S2x8208x512, .f32⟩
  | .hbm, ⟨17, _⟩ => ⟨S2x8192x512, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S2x8192x128, .f32⟩
  | .hbm, ⟨23, _⟩ => ⟨S2x8192x128, .f32⟩
  | .hbm, ⟨24, _⟩ => ⟨S2x8192x128, .f32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .f32⟩
  | .hbm, ⟨32, _⟩ => ⟨S1x8192x1, .f32⟩
  | .hbm, ⟨33, _⟩ => ⟨S2x8192x128, .f32⟩
  | .hbm, ⟨34, _⟩ => ⟨S2x8192x128, .f32⟩
  | .hbm, ⟨35, _⟩ => ⟨S2x8192x128, .f32⟩
  | .hbm, ⟨36, _⟩ => ⟨S2x8192x128, .f32⟩
  | .hbm, ⟨37, _⟩ => ⟨S1x128x128, .f32⟩
  | .hbm, ⟨38, _⟩ => ⟨S128x128, .f32⟩
  | .hbm, ⟨39, _⟩ => ⟨S2x8192x128, .f32⟩
  | .hbm, ⟨40, _⟩ => ⟨S2x8192x128, .f32⟩
  | .hbm, ⟨41, _⟩ => ⟨S2x8192x128, .f32⟩
  | .hbm, ⟨42, _⟩ => ⟨S2x8192x128, .f32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .f32⟩
  | .hbm, ⟨50, _⟩ => ⟨S1x8192x1, .f32⟩
  | .hbm, ⟨51, _⟩ => ⟨S2x8192x128, .f32⟩
  | .hbm, ⟨52, _⟩ => ⟨S2x8192x128, .f32⟩
  | .hbm, ⟨53, _⟩ => ⟨S2x8192x128, .f32⟩
  | .hbm, ⟨54, _⟩ => ⟨S2x8192x128, .f32⟩
  | .hbm, ⟨55, _⟩ => ⟨S1x128x128, .f32⟩
  | .hbm, ⟨56, _⟩ => ⟨S128x128, .f32⟩
  | .hbm, ⟨57, _⟩ => ⟨S2x8192x128, .f32⟩
  | .hbm, ⟨58, _⟩ => ⟨S2x8192x128, .f32⟩
  | .hbm, ⟨59, _⟩ => ⟨S2x8192x128, .f32⟩
  | .hbm, ⟨60, _⟩ => ⟨S2x8192x128, .f32⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .f32⟩
  | .hbm, ⟨68, _⟩ => ⟨S1x8192x1, .f32⟩
  | .hbm, ⟨69, _⟩ => ⟨S2x8192x128, .f32⟩
  | .hbm, ⟨70, _⟩ => ⟨S2x8192x128, .f32⟩
  | .hbm, ⟨71, _⟩ => ⟨S2x8192x128, .f32⟩
  | .hbm, ⟨72, _⟩ => ⟨S2x8192x128, .f32⟩
  | .hbm, ⟨73, _⟩ => ⟨S1x128x128, .f32⟩
  | .hbm, ⟨74, _⟩ => ⟨S128x128, .f32⟩
  | .hbm, ⟨75, _⟩ => ⟨S2x8192x128, .f32⟩
  | .hbm, ⟨76, _⟩ => ⟨S2x8192x128, .f32⟩
  | .hbm, ⟨77, _⟩ => ⟨S2x8192x128, .f32⟩
  | .hbm, ⟨78, _⟩ => ⟨S2x8192x128, .f32⟩
  | .hbm, ⟨79, _⟩ => ⟨S_, .i32⟩
  | .hbm, ⟨80, _⟩ => ⟨S8192, .i32⟩
  | .hbm, ⟨81, _⟩ => ⟨S8192, .i32⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .f32⟩
  | .hbm, ⟨86, _⟩ => ⟨S1x8192x1, .f32⟩
  | .hbm, ⟨87, _⟩ => ⟨S2x8192x128, .f32⟩
  | .hbm, ⟨88, _⟩ => ⟨S2x8192x128, .f32⟩
  | .hbm, ⟨89, _⟩ => ⟨S2x8192x128, .f32⟩
  | .hbm, ⟨90, _⟩ => ⟨S2x8192x128, .f32⟩
  | .hbm, ⟨91, _⟩ => ⟨S1x128x128, .f32⟩
  | .hbm, ⟨92, _⟩ => ⟨S128x128, .f32⟩
  | .hbm, ⟨93, _⟩ => ⟨S2x8192x128, .f32⟩
  | .hbm, ⟨94, _⟩ => ⟨S2x8192x512, .f32⟩
  | .hbm, ⟨95, _⟩ => ⟨S1x1x512, .f32⟩
  | .hbm, ⟨96, _⟩ => ⟨S2x8192x512, .f32⟩
  | .hbm, ⟨97, _⟩ => ⟨S2x8192x512, .f32⟩
  | .hbm, ⟨98, _⟩ => ⟨S2x8192x1024, .f32⟩
  | .hbm, ⟨99, _⟩ => ⟨S2x8192x1024, .f32⟩
  | .hbm, ⟨100, _⟩ => ⟨S2x8192x1024, .f32⟩
  | .hbm, ⟨101, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_c_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_7 : Ref sig .tc := ⟨.hbm, 79, rfl⟩
abbrev main_v62 : Ref sig .tc := ⟨.hbm, 80, rfl⟩
abbrev main_v63 : Ref sig .tc := ⟨.hbm, 81, rfl⟩
abbrev main_c_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Kernel8.lean ====
abbrev S32x8x1024 : Shape := ⟨3, ![32, 8, 1024]⟩
abbrev S32x8x512 : Shape := ⟨3, ![32, 8, 512]⟩
abbrev S32x15x512 : Shape := ⟨3, ![32, 15, 512]⟩
abbrev S4x128x128 : Shape := ⟨3, ![4, 128, 128]⟩
abbrev S512 : Shape := ⟨1, ![512]⟩
abbrev S1024x1024 : Shape := ⟨2, ![1024, 1024]⟩
abbrev S256x1024 : Shape := ⟨2, ![256, 1024]⟩
abbrev S1x512 : Shape := ⟨2, ![1, 512]⟩
abbrev S512x1024 : Shape := ⟨2, ![512, 1024]⟩
abbrev S_ : Shape := ⟨0, ![]⟩
abbrev S32x16x512 : Shape := ⟨3, ![32, 16, 512]⟩
abbrev S256x512 : Shape := ⟨2, ![256, 512]⟩
abbrev S32x24x512 : Shape := ⟨3, ![32, 24, 512]⟩
abbrev S1x8x1 : Shape := ⟨3, ![1, 8, 1]⟩
abbrev S32x8x128 : Shape := ⟨3, ![32, 8, 128]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 19
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x512, .f32⟩
  | .hbm, ⟨3, _⟩ => ⟨S32x15x512, .f32⟩
  | .hbm, ⟨4, _⟩ => ⟨S4x128x128, .f32⟩
  | .hbm, ⟨5, _⟩ => ⟨S512, .f32⟩
  | .hbm, ⟨6, _⟩ => ⟨S1024x1024, .f32⟩
  | .hbm, ⟨7, _⟩ => ⟨S256x1024, .f32⟩
  | .hbm, ⟨8, _⟩ => ⟨S4x128x128, .bf16⟩
  | .hbm, ⟨9, _⟩ => ⟨S1x512, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S_, .i32⟩
  | .hbm, ⟨15, _⟩ => ⟨S_, .f32⟩
  | .hbm, ⟨16, _⟩ => ⟨S32x16x512, .f32⟩
  | .hbm, ⟨17, _⟩ => ⟨S256x512, .f32⟩
  | .hbm, ⟨18, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S32x8x512, .f32⟩
  | .local _ .vmem, ⟨3, _⟩ => ⟨S32x16x512, .f32⟩
  | .local _ .vmem, ⟨4, _⟩ => ⟨S4x128x128, .bf16⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S32x24x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference8Ideal.lean ====
abbrev S32x8x1024 : Shape := ⟨3, ![32, 8, 1024]⟩
abbrev S32x8x512 : Shape := ⟨3, ![32, 8, 512]⟩
abbrev S32x15x512 : Shape := ⟨3, ![32, 15, 512]⟩
abbrev S4x128x128 : Shape := ⟨3, ![4, 128, 128]⟩
abbrev S512 : Shape := ⟨1, ![512]⟩
abbrev S1024x1024 : Shape := ⟨2, ![1024, 1024]⟩
abbrev S32x23x512 : Shape := ⟨3, ![32, 23, 512]⟩
abbrev S_ : Shape := ⟨0, ![]⟩
abbrev S32x1x512 : Shape := ⟨3, ![32, 1, 512]⟩
abbrev S32x24x512 : Shape := ⟨3, ![32, 24, 512]⟩
abbrev S8 : Shape := ⟨1, ![8]⟩
abbrev S32x8x128 : Shape := ⟨3, ![32, 8, 128]⟩
abbrev S1x8x1 : Shape := ⟨3, ![1, 8, 1]⟩
abbrev S1x128x128 : Shape := ⟨3, ![1, 128, 128]⟩
abbrev S128x128 : Shape := ⟨2, ![128, 128]⟩
abbrev S1x1x512 : Shape := ⟨3, ![1, 1, 512]⟩
abbrev S256x1024 : Shape := ⟨2, ![256, 1024]⟩

abbrev nBuf : Space → Nat
  | .hbm => 99
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x512, .f32⟩
  | .hbm, ⟨3, _⟩ => ⟨S32x15x512, .f32⟩
  | .hbm, ⟨4, _⟩ => ⟨S4x128x128, .f32⟩
  | .hbm, ⟨5, _⟩ => ⟨S512, .f32⟩
  | .hbm, ⟨6, _⟩ => ⟨S1024x1024, .f32⟩
  | .hbm, ⟨7, _⟩ => ⟨S32x23x512, .f32⟩
  | .hbm, ⟨8, _⟩ => ⟨S_, .f32⟩
  | .hbm, ⟨9, _⟩ => ⟨S32x1x512, .f32⟩
  | .hbm, ⟨10, _⟩ => ⟨S_, .f32⟩
  | .hbm, ⟨11, _⟩ => ⟨S_, .f32⟩
  | .hbm, ⟨12, _⟩ => ⟨S32x23x512, .f32⟩
  | .hbm, ⟨13, _⟩ => ⟨S32x24x512, .f32⟩
  | .hbm, ⟨14, _⟩ => ⟨S32x8x512, .f32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S32x8x128, .f32⟩
  | .hbm, ⟨20, _⟩ => ⟨S32x8x128, .f32⟩
  | .hbm, ⟨21, _⟩ => ⟨S32x8x128, .f32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .f32⟩
  | .hbm, ⟨29, _⟩ => ⟨S1x8x1, .f32⟩
  | .hbm, ⟨30, _⟩ => ⟨S32x8x128, .f32⟩
  | .hbm, ⟨31, _⟩ => ⟨S32x8x128, .f32⟩
  | .hbm, ⟨32, _⟩ => ⟨S32x8x128, .f32⟩
  | .hbm, ⟨33, _⟩ => ⟨S32x8x128, .f32⟩
  | .hbm, ⟨34, _⟩ => ⟨S1x128x128, .f32⟩
  | .hbm, ⟨35, _⟩ => ⟨S128x128, .f32⟩
  | .hbm, ⟨36, _⟩ => ⟨S32x8x128, .f32⟩
  | .hbm, ⟨37, _⟩ => ⟨S32x8x128, .f32⟩
  | .hbm, ⟨38, _⟩ => ⟨S32x8x128, .f32⟩
  | .hbm, ⟨39, _⟩ => ⟨S32x8x128, .f32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S8, .f32⟩
  | .hbm, ⟨47, _⟩ => ⟨S1x8x1, .f32⟩
  | .hbm, ⟨48, _⟩ => ⟨S32x8x128, .f32⟩
  | .hbm, ⟨49, _⟩ => ⟨S32x8x128, .f32⟩
  | .hbm, ⟨50, _⟩ => ⟨S32x8x128, .f32⟩
  | .hbm, ⟨51, _⟩ => ⟨S32x8x128, .f32⟩
  | .hbm, ⟨52, _⟩ => ⟨S1x128x128, .f32⟩
  | .hbm, ⟨53, _⟩ => ⟨S128x128, .f32⟩
  | .hbm, ⟨54, _⟩ => ⟨S32x8x128, .f32⟩
  | .hbm, ⟨55, _⟩ => ⟨S32x8x128, .f32⟩
  | .hbm, ⟨56, _⟩ => ⟨S32x8x128, .f32⟩
  | .hbm, ⟨57, _⟩ => ⟨S32x8x128, .f32⟩
  | .hbm, ⟨58, _⟩ => ⟨S_, .i32⟩
  | .hbm, ⟨59, _⟩ => ⟨S8, .i32⟩
  | .hbm, ⟨60, _⟩ => ⟨S8, .i32⟩
  | .hbm, ⟨61, _⟩ => ⟨S_, .i32⟩
  | .hbm, ⟨62, _⟩ => ⟨S8, .i32⟩
  | .hbm, ⟨63, _⟩ => ⟨S8, .i32⟩
  | .hbm, ⟨64, _⟩ => ⟨S8, .f32⟩
  | .hbm, ⟨65, _⟩ => ⟨S1x8x1, .f32⟩
  | .hbm, ⟨66, _⟩ => ⟨S32x8x128, .f32⟩
  | .hbm, ⟨67, _⟩ => ⟨S32x8x128, .f32⟩
  | .hbm, ⟨68, _⟩ => ⟨S32x8x128, .f32⟩
  | .hbm, ⟨69, _⟩ => ⟨S32x8x128, .f32⟩
  | .hbm, ⟨70, _⟩ => ⟨S1x128x128, .f32⟩
  | .hbm, ⟨71, _⟩ => ⟨S128x128, .f32⟩
  | .hbm, ⟨72, _⟩ => ⟨S32x8x128, .f32⟩
  | .hbm, ⟨73, _⟩ => ⟨S32x8x128, .f32⟩
  | .hbm, ⟨74, _⟩ => ⟨S32x8x128, .f32⟩
  | .hbm, ⟨75, _⟩ => ⟨S32x8x128, .f32⟩
  | .hbm, ⟨76, _⟩ => ⟨S_, .i32⟩
  | .hbm, ⟨77, _⟩ => ⟨S8, .i32⟩
  | .hbm, ⟨78, _⟩ => ⟨S8, .i32⟩
  | .hbm, ⟨79, _⟩ => ⟨S_, .i32⟩
  | .hbm, ⟨80, _⟩ => ⟨S8, .i32⟩
  | .hbm, ⟨81, _⟩ => ⟨S8, .i32⟩
  | .hbm, ⟨82, _⟩ => ⟨S8, .f32⟩
  | .hbm, ⟨83, _⟩ => ⟨S1x8x1, .f32⟩
  | .hbm, ⟨84, _⟩ => ⟨S32x8x128, .f32⟩
  | .hbm, ⟨85, _⟩ => ⟨S32x8x128, .f32⟩
  | .hbm, ⟨86, _⟩ => ⟨S32x8x128, .f32⟩
  | .hbm, ⟨87, _⟩ => ⟨S32x8x128, .f32⟩
  | .hbm, ⟨88, _⟩ => ⟨S1x128x128, .f32⟩
  | .hbm, ⟨89, _⟩ => ⟨S128x128, .f32⟩
  | .hbm, ⟨90, _⟩ => ⟨S32x8x128, .f32⟩
  | .hbm, ⟨91, _⟩ => ⟨S32x8x512, .f32⟩
  | .hbm, ⟨92, _⟩ => ⟨S1x1x512, .f32⟩
  | .hbm, ⟨93, _⟩ => ⟨S32x8x512, .f32⟩
  | .hbm, ⟨94, _⟩ => ⟨S32x8x512, .f32⟩
  | .hbm, ⟨95, _⟩ => ⟨S32x8x1024, .f32⟩
  | .hbm, ⟨96, _⟩ => ⟨S32x8x1024, .f32⟩
  | .hbm, ⟨97, _⟩ => ⟨S32x8x1024, .f32⟩
  | .hbm, ⟨98, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_call0_call0_cst : Ref sig .tc := ⟨.hbm, 10, rfl⟩
abbrev main_call0_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_6 : Ref sig .tc := ⟨.hbm, 76, rfl⟩
abbrev main_v59 : Ref sig .tc := ⟨.hbm, 77, rfl⟩
abbrev main_v60 : Ref sig .tc := ⟨.hbm, 78, rfl⟩
abbrev main_c_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Kernel9.lean ====
abbrev S32x8x1024 : Shape := ⟨3, ![32, 8, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S128x128 : Shape := ⟨2, ![128, 128]⟩
abbrev S128x8 : Shape := ⟨2, ![128, 8]⟩
abbrev S128x8x128 : Shape := ⟨3, ![128, 8, 128]⟩
abbrev S128x1024 : Shape := ⟨2, ![128, 1024]⟩
abbrev S32x32 : Shape := ⟨2, ![32, 32]⟩
abbrev S8x8x8 : Shape := ⟨3, ![8, 8, 8]⟩
abbrev S32x1x32x1 : Shape := ⟨4, ![32, 1, 32, 1]⟩
abbrev S8x1x8x1x8 : Shape := ⟨5, ![8, 1, 8, 1, 8]⟩
abbrev S1x32x1x32x1 : Shape := ⟨5, ![1, 32, 1, 32, 1]⟩
abbrev S8x32x8x32x8 : Shape := ⟨5, ![8, 32, 8, 32, 8]⟩
abbrev S8x256x256 : Shape := ⟨3, ![8, 256, 256]⟩
abbrev S8x1024 : Shape := ⟨2, ![8, 1024]⟩
abbrev S1x8x1x1024 : Shape := ⟨4, ![1, 8, 1, 1024]⟩
abbrev S32x8x1x1024 : Shape := ⟨4, ![32, 8, 1, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S256x128 : Shape := ⟨2, ![256, 128]⟩

abbrev nBuf : Space → Nat
  | .hbm => 58
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S_, .i1⟩
  | .hbm, ⟨13, _⟩ => ⟨S128x128, .i1⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S_, .i1⟩
  | .hbm, ⟨21, _⟩ => ⟨S128x128, .i1⟩
  | .hbm, ⟨22, _⟩ => ⟨S128x128, .i1⟩
  | .hbm, ⟨23, _⟩ => ⟨S_, .i32⟩
  | .hbm, ⟨24, _⟩ => ⟨S_, .f32⟩
  | .hbm, ⟨25, _⟩ => ⟨S8x128x128, .i1⟩
  | .hbm, ⟨26, _⟩ => ⟨S8x128x128, .f32⟩
  | .hbm, ⟨27, _⟩ => ⟨S8x128x128, .f32⟩
  | .hbm, ⟨28, _⟩ => ⟨S128x8, .f32⟩
  | .hbm, ⟨29, _⟩ => ⟨S128x8x128, .f32⟩
  | .hbm, ⟨30, _⟩ => ⟨S128x1024, .f32⟩
  | .hbm, ⟨31, _⟩ => ⟨S32x32, .i32⟩
  | .hbm, ⟨32, _⟩ => ⟨S32x32, .i32⟩
  | .hbm, ⟨33, _⟩ => ⟨S_, .i32⟩
  | .hbm, ⟨34, _⟩ => ⟨S32x32, .i32⟩
  | .hbm, ⟨35, _⟩ => ⟨S32x32, .i32⟩
  | .hbm, ⟨36, _⟩ => ⟨S32x32, .i1⟩
  | .hbm, ⟨37, _⟩ => ⟨S32x32, .f32⟩
  | .hbm, ⟨38, _⟩ => ⟨S8x8x8, .f32⟩
  | .hbm, ⟨39, _⟩ => ⟨S32x1x32x1, .f32⟩
  | .hbm, ⟨40, _⟩ => ⟨S8x1x8x1x8, .f32⟩
  | .hbm, ⟨41, _⟩ => ⟨S1x32x1x32x1, .f32⟩
  | .hbm, ⟨42, _⟩ => ⟨S8x32x8x32x8, .f32⟩
  | .hbm, ⟨43, _⟩ => ⟨S8x32x8x32x8, .f32⟩
  | .hbm, ⟨44, _⟩ => ⟨S8x32x8x32x8, .f32⟩
  | .hbm, ⟨45, _⟩ => ⟨S8x256x256, .f32⟩
  | .hbm, ⟨46, _⟩ => ⟨S8x1024, .f32⟩
  | .hbm, ⟨47, _⟩ => ⟨S1x8x1x1024, .f32⟩
  | .hbm, ⟨48, _⟩ => ⟨S32x8x1x1024, .f32⟩
  | .hbm, ⟨49, _⟩ => ⟨S256x1024, .f32⟩
  | .hbm, ⟨50, _⟩ => ⟨S256x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S8x256x256, .bf16⟩
  | .hbm, ⟨55, _⟩ => ⟨S1024x1024, .bf16⟩
  | .hbm, ⟨56, _⟩ => ⟨S256x1024, .f32⟩
  | .hbm, ⟨57, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S8x256x256, .bf16⟩
  | .local _ .vmem, ⟨7, _⟩ => ⟨S256x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v5 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28_0 : Ref sig .tc := ⟨.hbm, 56, rfl⟩
abbrev main_v28_1 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference9Ideal.lean ====
abbrev S32x8x1024 : Shape := ⟨3, ![32, 8, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2048 : Shape := ⟨3, ![32, 8, 2048]⟩
abbrev S32x128x1024 : Shape := ⟨3, ![32, 128, 1024]⟩
abbrev S32x1x128x8x128 : Shape := ⟨5, ![32, 1, 128, 8, 128]⟩
abbrev S128x128 : Shape := ⟨2, ![128, 128]⟩
abbrev S8x32x1x128x128 : Shape := ⟨5, ![8, 32, 1, 128, 128]⟩
abbrev S128x8 : Shape := ⟨2, ![128, 8]⟩
abbrev S1x1x128x8x1 : Shape := ⟨5, ![1, 1, 128, 8, 1]⟩
abbrev S256x1024 : Shape := ⟨2, ![256, 1024]⟩

abbrev nBuf : Space → Nat
  | .hbm => 104
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S32x8x1024, .f32⟩
  | .hbm, ⟨9, _⟩ => ⟨S_, .f32⟩
  | .hbm, ⟨10, _⟩ => ⟨S32x8, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S32x8x1, .f32⟩
  | .hbm, ⟨19, _⟩ => ⟨S32x8x1024, .f32⟩
  | .hbm, ⟨20, _⟩ => ⟨S32x8x1024, .f32⟩
  | .hbm, ⟨21, _⟩ => ⟨S1x1x1024, .f32⟩
  | .hbm, ⟨22, _⟩ => ⟨S32x8x1024, .f32⟩
  | .hbm, ⟨23, _⟩ => ⟨S32x8x1024, .f32⟩
  | .hbm, ⟨24, _⟩ => ⟨S32x8x2048, .f32⟩
  | .hbm, ⟨25, _⟩ => ⟨S32x8x2048, .f32⟩
  | .hbm, ⟨26, _⟩ => ⟨S32x8x2048, .f32⟩
  | .hbm, ⟨27, _⟩ => ⟨S_, .f32⟩
  | .hbm, ⟨28, _⟩ => ⟨S32x8x2048, .f32⟩
  | .hbm, ⟨29, _⟩ => ⟨S32x8x2048, .f32⟩
  | .hbm, ⟨30, _⟩ => ⟨S32x8x2048, .f32⟩
  | .hbm, ⟨31, _⟩ => ⟨S_, .f32⟩
  | .hbm, ⟨32, _⟩ => ⟨S32x8x2048, .f32⟩
  | .hbm, ⟨33, _⟩ => ⟨S32x8x2048, .f32⟩
  | .hbm, ⟨34, _⟩ => ⟨S32x8x2048, .f32⟩
  | .hbm, ⟨35, _⟩ => ⟨S_, .f32⟩
  | .hbm, ⟨36, _⟩ => ⟨S32x8x2048, .f32⟩
  | .hbm, ⟨37, _⟩ => ⟨S32x8x2048, .f32⟩
  | .hbm, ⟨38, _⟩ => ⟨S_, .f32⟩
  | .hbm, ⟨39, _⟩ => ⟨S32x8x2048, .f32⟩
  | .hbm, ⟨40, _⟩ => ⟨S32x8x2048, .f32⟩
  | .hbm, ⟨41, _⟩ => ⟨S32x8x2048, .f32⟩
  | .hbm, ⟨42, _⟩ => ⟨S32x8x1024, .f32⟩
  | .hbm, ⟨43, _⟩ => ⟨S32x8x1024, .f32⟩
  | .hbm, ⟨44, _⟩ => ⟨S_, .f32⟩
  | .hbm, ⟨45, _⟩ => ⟨S32x8, .f32⟩
  | .hbm, ⟨46, _⟩ => ⟨S32x8x1, .f32⟩
  | .hbm, ⟨47, _⟩ => ⟨S_, .f32⟩
  | .hbm, ⟨48, _⟩ => ⟨S32x8x1, .f32⟩
  | .hbm, ⟨49, _⟩ => ⟨S32x8x1, .f32⟩
  | .hbm, ⟨50, _⟩ => ⟨S32x8x1024, .f32⟩
  | .hbm, ⟨51, _⟩ => ⟨S32x8x1024, .f32⟩
  | .hbm, ⟨52, _⟩ => ⟨S32x8x1024, .f32⟩
  | .hbm, ⟨53, _⟩ => ⟨S_, .f32⟩
  | .hbm, ⟨54, _⟩ => ⟨S32x8, .f32⟩
  | .hbm, ⟨55, _⟩ => ⟨S32x8x1, .f32⟩
  | .hbm, ⟨56, _⟩ => ⟨S_, .f32⟩
  | .hbm, ⟨57, _⟩ => ⟨S32x8x1, .f32⟩
  | .hbm, ⟨58, _⟩ => ⟨S32x8x1, .f32⟩
  | .hbm, ⟨59, _⟩ => ⟨S_, .f32⟩
  | .hbm, ⟨60, _⟩ => ⟨S32x8x1, .f32⟩
  | .hbm, ⟨61, _⟩ => ⟨S32x8x1, .f32⟩
  | .hbm, ⟨62, _⟩ => ⟨S32x8x1, .f32⟩
  | .hbm, ⟨63, _⟩ => ⟨S32x8x1024, .f32⟩
  | .hbm, ⟨64, _⟩ => ⟨S32x8x1024, .f32⟩
  | .hbm, ⟨65, _⟩ => ⟨S1x1x1024, .f32⟩
  | .hbm, ⟨66, _⟩ => ⟨S32x8x1024, .f32⟩
  | .hbm, ⟨67, _⟩ => ⟨S32x8x1024, .f32⟩
  | .hbm, ⟨68, _⟩ => ⟨S1x1x1024, .f32⟩
  | .hbm, ⟨69, _⟩ => ⟨S32x8x1024, .f32⟩
  | .hbm, ⟨70, _⟩ => ⟨S32x8x1024, .f32⟩
  | .hbm, ⟨71, _⟩ => ⟨S_, .i32⟩
  | .hbm, ⟨72, _⟩ => ⟨S_, .f32⟩
  | .hbm, ⟨73, _⟩ => ⟨S32x128x1024, .f32⟩
  | .hbm, ⟨74, _⟩ => ⟨S32x1x128x8x128, .f32⟩
  | .hbm, ⟨75, _⟩ => ⟨S_, .i1⟩
  | .hbm, ⟨76, _⟩ => ⟨S128x128, .i1⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .i1⟩
  | .hbm, ⟨84, _⟩ => ⟨S128x128, .i1⟩
  | .hbm, ⟨85, _⟩ => ⟨S128x128, .i1⟩
  | .hbm, ⟨86, _⟩ => ⟨S_, .i32⟩
  | .hbm, ⟨87, _⟩ => ⟨S_, .f32⟩
  | .hbm, ⟨88, _⟩ => ⟨S8x128x128, .i1⟩
  | .hbm, ⟨89, _⟩ => ⟨S8x128x128, .f32⟩
  | .hbm, ⟨90, _⟩ => ⟨S8x128x128, .f32⟩
  | .hbm, ⟨91, _⟩ => ⟨S8x32x1x128x128, .f32⟩
  | .hbm, ⟨92, _⟩ => ⟨S32x1x128x8x128, .f32⟩
  | .hbm, ⟨93, _⟩ => ⟨S128x8, .f32⟩
  | .hbm, ⟨94, _⟩ => ⟨S1x1x128x8x1, .f32⟩
  | .hbm, ⟨95, _⟩ => ⟨S32x1x128x8x128, .f32⟩
  | .hbm, ⟨96, _⟩ => ⟨S32x1x128x8x128, .f32⟩
  | .hbm, ⟨97, _⟩ => ⟨S32x128x1024, .f32⟩
  | .hbm, ⟨98, _⟩ => ⟨S32x8x1024, .f32⟩
  | .hbm, ⟨99, _⟩ => ⟨S32x8x1024, .f32⟩
  | .hbm, ⟨100, _⟩ => ⟨S32x8x1024, .f32⟩
  | .hbm, ⟨101, _⟩ => ⟨S32x8x1024, .f32⟩
  | .hbm, ⟨102, _⟩ => ⟨S256x1024, .f32⟩
  | .hbm, ⟨103, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c : Ref sig .tc := ⟨.hbm, 71, rfl⟩
abbrev main_call0_v0 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_c_0 : Ref sig .tc := ⟨.hbm, 83, rfl⟩
abbrev main_call1_v5 : Ref sig .tc := ⟨.hbm, 84, rfl⟩
abbrev main_v54 : Ref sig .tc := ⟨.hbm, 85, rfl⟩
abbrev main_c_12 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Proof.Ffn.Ref.lean ====
module

public import proofs.«01_k».proof.Proof.Gen.Reference2Ideal
public import Idealize.ShloMosaic.Lib.Pointwise

@[expose] public section

set_option maxRecDepth 16384

noncomputable section

open Idealize.ShloMosaic Idealize.ShloMosaic.TcCoe Idealize.SL.Sem

namespace Cert.Reference2Ideal.Math

open Cert.Reference2Ideal Cert.Reference2Ideal.Gen

/-- The sum of squares of a row, over its 1024 places, plus the small constant: what the row is divided by the root of. -/
def spread (x : Fin 1024 → EReal) : EReal :=
  Ideal.rsqrt (Ideal.div (∑ k, x k * x k) (Ideal.ofBits FTy.f32 1149239296#32) + Ideal.ofBits FTy.f32 897988541#32)

/-- A normalised row against column `n` of a weight matrix. -/
def proj (x g : Fin 1024 → EReal) (w : Fin 1024 → Fin 2816 → EReal) (n : Fin 2816) : EReal :=
  ∑ k, x k * spread x * g k * w k n

/-- One entry of the feed-forward layer: the row's own entry plus half of the gated product carried back by `wd`. -/
def entry (x g : Fin 1024 → EReal) (wg wu : Fin 1024 → Fin 2816 → EReal) (wd : Fin 2816 → Fin 1024 → EReal)
    (j : Fin 1024) : EReal :=
  x j + Ideal.ofBits FTy.f32 1056964608#32 *
    ∑ n, proj x g wg n * Ideal.logistic (proj x g wg n) * proj x g wu n * wd n j

/-- The feed-forward reference as one function of its five argument arrays. -/
abbrev out (a0 : FVec Ideal S2x8192x1024 .f32) (a1 : FVec Ideal S1024 .f32) (a2 a3 : FVec Ideal S1024x2816 .f32)
    (a4 : FVec Ideal S2816x1024 .f32) : FVec Ideal S16384x1024 .f32 :=
  shapeCast _ (addf a0 (mulf (broadcastInDim S2x8192x1024 ![] bcast_S_S2x8192x1024 (constant S_ .f32 0x3F000000#32)) (Host.dotGeneral dot_S2x8192x2816_S2816x1024_S2x8192x1024_2_0_01_1_n_n none (mulf (mulf (Host.dotGeneral dot_S2x8192x1024_S1024x2816_S2x8192x2816_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))) a2) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))) a2)))))) (Host.dotGeneral dot_S2x8192x1024_S1024x2816_S2x8192x2816_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))) a3)) a4))) shapeCasts_S2x8192x1024_S16384x1024

/-- The reference read at row `i 0` and column `i 1`. -/
theorem out_apply (a0 : FVec Ideal S2x8192x1024 .f32) (a1 : FVec Ideal S1024 .f32) (a2 a3 : FVec Ideal S1024x2816 .f32)
    (a4 : FVec Ideal S2816x1024 .f32) (i : S16384x1024.Idx) (b : Fin 2) (s : Fin 8192) (j : Fin 1024)
    (hb : (i 0).val / 8192 = b.val) (hs : (i 0).val % 8192 = s.val) (hj : (i 1).val = j.val) :
    out a0 a1 a2 a3 a4 i = entry (fun k => a0 (ix3 b s k)) (fun k => a1 (ix1 k)) (fun k n => a2 (ix2 k n))
      (fun k n => a3 (ix2 k n)) (fun n k => a4 (ix2 n k)) j := by
  obtain ⟨b, hb'⟩ := b
  obtain ⟨s, hs'⟩ := s
  obtain ⟨j, hj'⟩ := j
  dsimp only at hb hs hj
  subst hb hs hj
  pointwise [out]
  rfl

end Cert.Reference2Ideal.Math

end
-- ==== Proof.Ffn.Value.lean ====
module

public import proofs.«01_k».proof.Proof.Gen.Kernel2Ideal.Frame
public import proofs.«01_k».proof.Proof.Ffn.Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Math

open Cert.Kernel2Ideal Cert.Kernel2Ideal.Gen

variable (m : (ℓ : Loc nD τ sig) → Buf (Elt Ideal) ℓ)

/-- Where each window's block lies at each of the 32 steps: the rows move with the step, the weights stay. -/
theorem places : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- The block that a step stores, read at a row and a column, over any five blocks. -/
theorem stored_apply (X : FVec Ideal S512x1024 .f32) (G : FVec Ideal S1x1024 .f32) (A B : FVec Ideal S1024x2816 .bf16)
    (D : FVec Ideal S2816x1024 .bf16) (y : S512x1024.Idx) :
    k0_pay1 (F := Ideal) X G A B D y = Cert.Reference2Ideal.Math.entry (fun k => X (ix2 (y 0) k)) (fun k => G (ix2 0 k))
      (fun k n => A (ix2 k n)) (fun k n => B (ix2 k n)) (fun n k => D (ix2 n k)) (y 1) := by
  idx_vars y
  pointwise [k0_pay1]
  rfl

/-- Entry `y` of the block that step `t` stores is the reference at the row and column where that entry lies. -/
theorem entry_eq (c : Dev nD) (t : Fin cfg0.N) (y) :
    k0_pay1 (iblk m c 0 t) (iblk m c 1 t) (iblk m c 2 t) (iblk m c 3 t) (iblk m c 4 t) y
      = Cert.Reference2Ideal.Math.out (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 5).blk t).view.emb y) := by
  have ht : t.val < 32 := t.isLt
  have hy : (y 0).val < 512 := (y 0).isLt
  refine (stored_apply _ _ _ _ _ y).trans (Eq.trans ?_ (Cert.Reference2Ideal.Math.out_apply _ _ _ _ _ _
    ⟨(t.val * 512 + (y 0).val) / 8192, by omega⟩ ⟨(t.val * 512 + (y 0).val) % 8192, by omega⟩ (y 1) ?_ ?_ ?_).symm)
  · congr 1
    · funext k; blk_simp [iblk]; entry_read; pointwise; blk_ext [places t]
    · funext k; blk_simp [iblk]; entry_read; pointwise; blk_ext [places t]
    · funext k n; blk_ext [iblk, V, places t]
    · funext k n; blk_ext [iblk, V, places t]
    · funext k n; blk_ext [iblk, V, places t]
  · blk_simp [places t]
  · blk_simp [places t]
  · blk_simp [places t]

/-- The result array after the run is the reference's array. -/
theorem result_eq (c : Dev nD) : (dats m 0 c).arrAt 5 (cfgs 0).N
    = Cert.Reference2Ideal.Math.out (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp; rw [after0_5]; frame_out
  exact entry_eq m c t y

end Cert.Kernel2Ideal.Math

end
-- ==== Proof.Ffn.Claim.lean ====
module

public import proofs.«01_k».proof.Defs
public import proofs.«01_k».proof.Proof.Gen.Reference2Ideal.Run
public import proofs.«01_k».proof.Proof.Ffn.Value

@[expose] public section

set_option maxRecDepth 16384

noncomputable section

namespace Cert.Proof

open Idealize.ShloMosaic Idealize.SL.Sem

/-- The feed-forward reference runs to its end, leaves its arguments as they were and every counter at zero. -/
theorem ffn_reference_frame : Cert.quiescent_Reference2Ideal := by
  intro m g _
  exact (θ_run Cert.Reference2Ideal.defs _ _).mono
    (fun r h => ⟨fun c => (h.1 c).2, h.2⟩)
    (show θ_run _ _ _ (fun r => (∀ c, _ ∧ _) ∧ r.2.sem = fun _ => 0) from
      (θ_run Cert.Reference2Ideal.defs _ _).mono
        (fun r h => ⟨h, Idealize.ShloMosaic.sem_eq_zero_of_no_sems (by decide) r.2⟩)
        (Cert.Reference2Ideal.Value.run (F := Ideal) m g))

/-- The feed-forward kernel and its reference end with equal arrays over the reals. -/
theorem ffn_algebraic : Cert.algebraic_Kernel2Ideal_Reference2Ideal := by
  pair_intro
  · run_from Cert.Kernel2Ideal.Gen.run_main m g
  · run_from Cert.Reference2Ideal.Value.run m' g'
    exact (Cert.Kernel2Ideal.Math.result_eq m c).symm

end Cert.Proof

end
-- ==== Proof.Mix.Ref.lean ====
module

public import proofs.«01_k».proof.Proof.Gen.Reference3Ideal
public import Idealize.ShloMosaic.Lib.Pointwise

@[expose] public section

set_option maxRecDepth 16384

noncomputable section

open Idealize.ShloMosaic Idealize.ShloMosaic.TcCoe Idealize.SL.Sem

namespace Cert.Reference3Ideal.Math

open Cert.Reference3Ideal Cert.Reference3Ideal.Gen

/-- The reciprocal root of a row's mean square, with the small constant added under the root. -/
def spread (x : Fin 1024 → EReal) : EReal :=
  Ideal.rsqrt (Ideal.div (∑ k, x k * x k) (Ideal.ofBits FTy.f32 1149239296#32) + Ideal.ofBits FTy.f32 897988541#32)

/-- The smooth gate of one number, by the hyperbolic tangent. -/
def bend (z : EReal) : EReal :=
  z * (Ideal.ofBits FTy.f32 1056964608#32 * (1
    + Ideal.tanh (Ideal.ofBits FTy.f32 1061962282#32 * (z + Ideal.ofBits FTy.f32 1027024659#32 * (z * z * z)))))

/-- A normalised row against column `n` of a weight matrix, then bent. -/
def unit (x g : Fin 1024 → EReal) (w : Fin 1024 → Fin 1024 → EReal) (n : Fin 1024) : EReal :=
  bend (∑ k, x k * spread x * g k * w k n)

/-- A row less its mean. -/
def centre (v : Fin 1024 → EReal) (j : Fin 1024) : EReal :=
  v j - Ideal.div (∑ k, v k) (Ideal.ofBits FTy.f32 1149239296#32)

/-- A row normalised to mean zero and unit spread, scaled and shifted. -/
def level (v g b : Fin 1024 → EReal) (j : Fin 1024) : EReal :=
  centre v j * spread (centre v) * g j + b j

/-- The group of 128 columns that a column lies in. -/
def grp (n : Fin 1024) : Fin 8 := ⟨n.val / 128, by omega⟩

/-- What the rows of a chunk give to row `r` in column `n`: their mixture by the group's weights, and the column's shift. -/
def mixed (v : Fin 128 → Fin 1024 → EReal) (w : Fin 8 → Fin 128 → Fin 128 → EReal) (b : Fin 128 → Fin 1024 → EReal)
    (r : Fin 128) (n : Fin 1024) : EReal :=
  ∑ s, v s n * w (grp n) r s + b r n

/-- One entry of the mixer: the row's own entry plus the gated row carried back by `wo`; `y` is the row and `x` its chunk's 128 rows. -/
def entry (y : Fin 1024 → EReal) (x : Fin 128 → Fin 1024 → EReal) (g : Fin 1024 → EReal) (wu wv : Fin 1024 → Fin 1024 → EReal)
    (lg lb : Fin 1024 → EReal) (w : Fin 8 → Fin 128 → Fin 128 → EReal) (b : Fin 128 → Fin 1024 → EReal)
    (wo : Fin 1024 → Fin 1024 → EReal) (r : Fin 128) (j : Fin 1024) : EReal :=
  y j + ∑ n, unit y g wu n * mixed (fun s => level (unit (x s) g wv) lg lb) w b r n * wo n j

/-- The rows, normalised by their mean square and scaled. -/
def normed (a0 : FVec Ideal S2x8192x1024 .f32) (a1 : FVec Ideal S1024 .f32) : FVec Ideal S2x8192x1024 .f32 :=
  mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))

/-- The normalised rows at an index. -/
theorem normed_apply (a0 : FVec Ideal S2x8192x1024 .f32) (a1 : FVec Ideal S1024 .f32) (b : Fin 2) (s : Fin 8192) (k : Fin 1024) :
    normed a0 a1 (ix3 b s k) = a0 (ix3 b s k) * spread (fun k => a0 (ix3 b s k)) * a1 (ix1 k) := by
  pointwise [normed]
  rfl

/-- The rows carried into both halves of the columns. -/
def wide (H : FVec Ideal S2x8192x1024 .f32) (a2 : FVec Ideal S1024x2048 .f32) : FVec Ideal S2x8192x2048 .f32 :=
  Host.dotGeneral dot_S2x8192x1024_S1024x2048_S2x8192x2048_2_0_01_1_n_n none H a2

/-- The wide product at an index. -/
theorem wide_apply (H : FVec Ideal S2x8192x1024 .f32) (a2 : FVec Ideal S1024x2048 .f32) (b : Fin 2) (s : Fin 8192) (n : Fin 2048) :
    wide H a2 (ix3 b s n) = ∑ k, H (ix3 b s k) * a2 (ix2 k n) := by
  pointwise [wide]

/-- The smooth gate of every entry. -/
def act (Z : FVec Ideal S2x8192x2048 .f32) : FVec Ideal S2x8192x2048 .f32 :=
  mulf Z (mulf (broadcastInDim S2x8192x2048 ![] bcast_S_S2x8192x2048 (constant S_ .f32 0x3F000000#32)) (addf (broadcastInDim S2x8192x2048 ![] bcast_S_S2x8192x2048 (constant S_ .f32 0x3F800000#32)) (Host.tanh (mulf (broadcastInDim S2x8192x2048 ![] bcast_S_S2x8192x2048 (constant S_ .f32 0x3F4C422A#32)) (addf Z (mulf (broadcastInDim S2x8192x2048 ![] bcast_S_S2x8192x2048 (constant S_ .f32 0x3D372713#32)) (mulf (mulf Z Z) Z)))))))

/-- The bent array at an index. -/
theorem act_apply (Z : FVec Ideal S2x8192x2048 .f32) (i : S2x8192x2048.Idx) : act Z i = bend (Z i) := by
  pointwise [act]
  rfl

/-- The second half of the columns, less each row's mean. -/
def centred (U : FVec Ideal S2x8192x2048 .f32) : FVec Ideal S2x8192x1024 .f32 :=
  subf (extractStridedSlice S2x8192x1024 ![0, 0, 1024] U slices_S2x8192x2048_S2x8192x1024_0_0_1024) (broadcastInDim S2x8192x1024 ![0, 1, 2] bcast_S2x8192x1_S2x8192x1024_0_1_2 (Host.divf (broadcastInDim S2x8192x1 ![0, 1] bcast_S2x8192_S2x8192x1_0_1 (Host.reduceAdd (extractStridedSlice S2x8192x1024 ![0, 0, 1024] U slices_S2x8192x2048_S2x8192x1024_0_0_1024) (constant S_ .f32 0x00000000#32) reducesTo_S2x8192x1024_S2x8192_d2 h_S_)) (broadcastInDim S2x8192x1 ![] bcast_S_S2x8192x1 (constant S_ .f32 0x44800000#32))))

/-- The centred rows at an index. -/
theorem centred_apply (U : FVec Ideal S2x8192x2048 .f32) (b : Fin 2) (s : Fin 8192) (j : Fin 1024) :
    centred U (ix3 b s j) = centre (fun n => U (ix3 b s ⟨1024 + n.val, by omega⟩)) j := by
  pointwise [centred]
  rfl

/-- Centred rows brought to unit spread, scaled and shifted. -/
def scaled (C : FVec Ideal S2x8192x1024 .f32) (a3 a4 : FVec Ideal S1024 .f32) : FVec Ideal S2x8192x1024 .f32 :=
  addf (mulf (mulf C (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf C C) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a3))) (broadcastInDim S2x8192x1024 ![0, 1, 2] bcast_S1x1x1024_S2x8192x1024_0_1_2 (broadcastInDim S1x1x1024 ![2] bcast_S1024_S1x1x1024_2 a4))

/-- The levelled rows at an index. -/
theorem scaled_apply (C : FVec Ideal S2x8192x1024 .f32) (a3 a4 : FVec Ideal S1024 .f32) (b : Fin 2) (s : Fin 8192) (j : Fin 1024) :
    scaled C a3 a4 (ix3 b s j) = C (ix3 b s j) * spread (fun k => C (ix3 b s k)) * a3 (ix1 j) + a4 (ix1 j) := by
  pointwise [scaled]
  rfl

/-- The chunk weights with every later row's weight put to zero. -/
def causal (a5 : FVec Ideal S8x128x128 .f32) : FVec Ideal S8x128x128 .f32 :=
  select (broadcastInDim S8x128x128 ![1, 2] bcast_S128x128_S8x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) a5 (broadcastInDim S8x128x128 ![] bcast_S_S8x128x128 (sitofp .f32 (constantI S_ 32 0#32)))

/-- The chunks' mixtures, column group by column group, with the groups' shifts. -/
def gate (V : FVec Ideal S2x8192x1024 .f32) (W : FVec Ideal S8x128x128 .f32) (a6 : FVec Ideal S8x128 .f32) : FVec Ideal S2x8192x1024 .f32 :=
  shapeCast _ (addf (transpose S2x64x128x8x128 [1, 2, 4, 0, 3] (Host.dotGeneral dot_S2x64x128x8x128_S8x128x128_S8x2x64x128x128_2_2_014_1_3_0 none (shapeCast _ V shapeCasts_S2x8192x1024_S2x64x128x8x128) W) transposes_S8x2x64x128x128_S2x64x128x8x128_1_2_4_0_3) (broadcastInDim S2x64x128x8x128 ![0, 1, 2, 3, 4] bcast_S1x1x128x8x1_S2x64x128x8x128_0_1_2_3_4 (broadcastInDim S1x1x128x8x1 ![2, 3] bcast_S128x8_S1x1x128x8x1_2_3 (transpose S128x8 [1, 0] a6 transposes_S8x128_S128x8_1_0)))) shapeCasts_S2x64x128x8x128_S2x8192x1024

/-- The mixture at an index. -/
theorem gate_apply (V : FVec Ideal S2x8192x1024 .f32) (W : FVec Ideal S8x128x128 .f32) (a6 : FVec Ideal S8x128 .f32)
    (b : Fin 2) (s : Fin 8192) (j : Fin 1024) :
    gate V W a6 (ix3 b s j) = mixed (fun u n => V (ix3 b ⟨s.val / 128 * 128 + u.val, by omega⟩ n))
      (fun g r u => W (ix3 g r u)) (fun r n => a6 (ix2 (grp n) r)) ⟨s.val % 128, by omega⟩ j := by
  pointwise [gate]
  rfl

/-- The mixer's reference as one function of its eight argument arrays. -/
abbrev out (a0 : FVec Ideal S2x8192x1024 .f32) (a1 : FVec Ideal S1024 .f32) (a2 : FVec Ideal S1024x2048 .f32)
    (a3 a4 : FVec Ideal S1024 .f32) (a5 : FVec Ideal S8x128x128 .f32) (a6 : FVec Ideal S8x128 .f32)
    (a7 : FVec Ideal S1024x1024 .f32) : FVec Ideal S16384x1024 .f32 :=
  shapeCast _ (addf a0 (Host.dotGeneral dot_S2x8192x1024_S1024x1024_S2x8192x1024_2_0_01_1_n_n none (mulf (extractStridedSlice S2x8192x1024 ![0, 0, 0] (act (wide (normed a0 a1) a2)) slices_S2x8192x2048_S2x8192x1024_0_0_0) (gate (scaled (centred (act (wide (normed a0 a1) a2))) a3 a4) (causal a5) a6)) a7)) shapeCasts_S2x8192x1024_S16384x1024

/-- The reference at an index, as one expression over its arguments. -/
theorem out_apply (a0 : FVec Ideal S2x8192x1024 .f32) (a1 : FVec Ideal S1024 .f32) (a2 : FVec Ideal S1024x2048 .f32)
    (a3 a4 : FVec Ideal S1024 .f32) (a5 : FVec Ideal S8x128x128 .f32) (a6 : FVec Ideal S8x128 .f32)
    (a7 : FVec Ideal S1024x1024 .f32) (i : S16384x1024.Idx) (b : Fin 2) (s : Fin 8192) (j : Fin 1024)
    (hb : (i 0).val / 8192 = b.val) (hs : (i 0).val % 8192 = s.val) (hj : (i 1).val = j.val) :
    out a0 a1 a2 a3 a4 a5 a6 a7 i = entry (fun k => a0 (ix3 b s k)) (fun u k => a0 (ix3 b ⟨s.val / 128 * 128 + u.val, by omega⟩ k)) (fun k => a1 (ix1 k))
      (fun k n => a2 (ix2 k ⟨n.val, by omega⟩)) (fun k n => a2 (ix2 k ⟨1024 + n.val, by omega⟩))
      (fun k => a3 (ix1 k)) (fun k => a4 (ix1 k)) (fun g r u => causal a5 (ix3 g r u)) (fun r n => a6 (ix2 (grp n) r))
      (fun n k => a7 (ix2 n k)) ⟨s.val % 128, by omega⟩ j := by
  obtain ⟨b, hb'⟩ := b
  obtain ⟨s, hs'⟩ := s
  obtain ⟨j, hj'⟩ := j
  dsimp only at hb hs hj
  subst hb hs hj
  pointwise [out]
  simp only [act_apply, gate_apply, scaled_apply, centred_apply, wide_apply, normed_apply]
  rfl

end Cert.Reference3Ideal.Math

end
-- ==== Proof.Mix.Host.lean ====
module

public import proofs.«01_k».proof.Proof.Gen.Kernel3Ideal.Frame
public import proofs.«01_k».proof.Proof.Mix.Ref
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Math

open Cert.Kernel3Ideal Cert.Kernel3Ideal.Gen

variable (m : (ℓ : Loc nD τ sig) → Buf (Elt Ideal) ℓ)

/-- The left half of the carrying weights. -/
theorem V_v1 (c : Dev nD) : V m c main_v1 = truncf (F := Ideal) FTy.bf16 (extractStridedSlice S1024x1024 ![0, 0] (m ((c : Thread nD τ).loc main_arg2)) slices_S1024x2048_S1024x1024_0_0) bitsLt_bf16_f32 := by
  conv_lhs => simp only [V, hostOps0, hostOps0_1, hostOps0_2, hostOps0_3, hostOps0_4, List.flatten_cons, List.flatten_nil, List.append_nil, List.cons_append, List.nil_append]
  entry_read
  rfl

/-- The right half of the carrying weights. -/
theorem V_v3 (c : Dev nD) : V m c main_v3 = truncf (F := Ideal) FTy.bf16 (extractStridedSlice S1024x1024 ![0, 1024] (m ((c : Thread nD τ).loc main_arg2)) slices_S1024x2048_S1024x1024_0_1024) bitsLt_bf16_f32 := by
  conv_lhs => simp only [V, hostOps0, hostOps0_1, hostOps0_2, hostOps0_3, hostOps0_4, List.flatten_cons, List.flatten_nil, List.append_nil, List.cons_append, List.nil_append]
  entry_read
  rfl

/-- The groups' shifts, one per column. -/
theorem V_v9 (c : Dev nD) : V m c main_v9 = shapeCast S128x1024 (broadcastInDim S128x8x128 ![0, 1] bcast_S128x8_S128x8x128_0_1 (transpose S128x8 [1, 0] (m ((c : Thread nD τ).loc main_arg6)) transposes_S8x128_S128x8_1_0)) shapeCasts_S128x8x128_S128x1024 := by
  conv_lhs => simp only [V, hostOps0, hostOps0_1, hostOps0_2, hostOps0_3, hostOps0_4, List.flatten_cons, List.flatten_nil, List.append_nil, List.cons_append, List.nil_append]
  entry_read
  rfl

/-- The rows, one below the other. -/
theorem V_v10 (c : Dev nD) : V m c main_v10 = shapeCast S16384x1024 (m ((c : Thread nD τ).loc main_arg0)) shapeCasts_S2x8192x1024_S16384x1024 := by
  conv_lhs => simp only [V, hostOps0, hostOps0_1, hostOps0_2, hostOps0_3, hostOps0_4, List.flatten_cons, List.flatten_nil, List.append_nil, List.cons_append, List.nil_append]
  entry_read
  rfl

/-- The first scale, as a row. -/
theorem V_v11 (c : Dev nD) : V m c main_v11 = shapeCast S1x1024 (m ((c : Thread nD τ).loc main_arg1)) shapeCasts_S1024_S1x1024 := by
  conv_lhs => simp only [V, hostOps0, hostOps0_1, hostOps0_2, hostOps0_3, hostOps0_4, List.flatten_cons, List.flatten_nil, List.append_nil, List.cons_append, List.nil_append]
  entry_read
  rfl

/-- The levelling scale, as a row. -/
theorem V_v12 (c : Dev nD) : V m c main_v12 = shapeCast S1x1024 (m ((c : Thread nD τ).loc main_arg3)) shapeCasts_S1024_S1x1024 := by
  conv_lhs => simp only [V, hostOps0, hostOps0_1, hostOps0_2, hostOps0_3, hostOps0_4, List.flatten_cons, List.flatten_nil, List.append_nil, List.cons_append, List.nil_append]
  entry_read
  rfl

/-- The levelling shift, as a row. -/
theorem V_v13 (c : Dev nD) : V m c main_v13 = shapeCast S1x1024 (m ((c : Thread nD τ).loc main_arg4)) shapeCasts_S1024_S1x1024 := by
  conv_lhs => simp only [V, hostOps0, hostOps0_1, hostOps0_2, hostOps0_3, hostOps0_4, List.flatten_cons, List.flatten_nil, List.append_nil, List.cons_append, List.nil_append]
  entry_read
  rfl

/-- The groups' weights, cut below the diagonal. -/
theorem V_v14 (c : Dev nD) : V m c main_v14 = Cert.Reference3Ideal.Math.causal (m ((c : Thread nD τ).loc main_arg5)) := by
  conv_lhs => simp only [V, hostOps0, hostOps0_1, hostOps0_2, hostOps0_3, hostOps0_4, List.flatten_cons, List.flatten_nil, List.append_nil, List.cons_append, List.nil_append]
  entry_read
  rfl

/-- The weights that carry back. -/
theorem V_v15 (c : Dev nD) : V m c main_v15 = truncf (F := Ideal) FTy.bf16 (m ((c : Thread nD τ).loc main_arg7)) bitsLt_bf16_f32 := by
  conv_lhs => simp only [V, hostOps0, hostOps0_1, hostOps0_2, hostOps0_3, hostOps0_4, List.flatten_cons, List.flatten_nil, List.append_nil, List.cons_append, List.nil_append]
  entry_read
  rfl

end Cert.Kernel3Ideal.Math

end
-- ==== Proof.Mix.Value.lean ====
module

public import proofs.«01_k».proof.Proof.Gen.Kernel3Ideal.Frame
public import proofs.«01_k».proof.Proof.Mix.Ref
public import proofs.«01_k».proof.Proof.Mix.Host
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Math

open Cert.Kernel3Ideal Cert.Kernel3Ideal.Gen Cert.Reference3Ideal.Math

variable (m : (ℓ : Loc nD τ sig) → Buf (Elt Ideal) ℓ)

/-- The mixture that the scratch rows hold before the shift is added. -/
def blend (V : FVec Ideal S512x1024 .bf16) (W : FVec Ideal S8x128x128 .bf16) (y : S512x1024.Idx) : EReal :=
  ∑ s : Fin 128, V (ix2 ⟨(y 0).val / 128 * 128 + s.val, by have : (y 0).val < 512 := (y 0).isLt; omega⟩ (y 1))
    * W (ix3 (grp (y 1)) ⟨(y 0).val % 128, by omega⟩ s)

/-- The scratch rows at the end: mixture and shift. -/
def shifted (V : FVec Ideal S512x1024 .bf16) (W : FVec Ideal S8x128x128 .bf16) (B : FVec Ideal S128x1024 .f32)
    (y : S512x1024.Idx) : EReal :=
  blend V W y + B (ix2 ⟨(y 0).val % 128, by omega⟩ (y 1))

/-- A column off the tile's columns keeps what it held. -/
theorem tile_off {o p : ℕ} (L : List (View.Piece (Elt Ideal) S512x1024 .f32)) (inb)
    (w : (Rect.unit (s := S512x1024) ![o, p] ![128, 128] inb).shape.Idx → Elt Ideal .f32)
    (y : S512x1024.Idx) (h : (y 1).val < p ∨ p + 128 ≤ (y 1).val) :
    View.canon (⟨Rect.unit (s := S512x1024) ![o, p] ![128, 128] inb, w⟩ :: L) y = View.canon L y := by
  apply View.canon_cons_of_not_mem
  rw [Rect.mem_set_unit]
  intro hm
  have h1 := hm 1
  simp only [Matrix.cons_val_one, Matrix.cons_val_zero] at h1
  omega

/-- A row before the tile's rows keeps what it held. -/
theorem tile_above {o p e : ℕ} (L : List (View.Piece (Elt Ideal) S512x1024 .f32)) (inb)
    (w : (Rect.unit (s := S512x1024) ![o, p] ![128, e] inb).shape.Idx → Elt Ideal .f32)
    (y : S512x1024.Idx) (h : (y 0).val < o ∨ o + 128 ≤ (y 0).val) :
    View.canon (⟨Rect.unit (s := S512x1024) ![o, p] ![128, e] inb, w⟩ :: L) y = View.canon L y := by
  apply View.canon_cons_of_not_mem
  rw [Rect.mem_set_unit]
  intro hm
  have h1 := hm 0
  simp only [Matrix.cons_val_zero] at h1
  omega

/-- An entry of a tile reads the stored product there. -/
theorem tile_on {o p : ℕ} (L : List (View.Piece (Elt Ideal) S512x1024 .f32)) (inb)
    (w : (Rect.unit (s := S512x1024) ![o, p] ![128, 128] inb).shape.Idx → Elt Ideal .f32)
    (y : S512x1024.Idx) (h0 : o ≤ (y 0).val) (h0' : (y 0).val < o + 128) (h1 : p ≤ (y 1).val) (h1' : (y 1).val < p + 128) :
    View.canon (⟨Rect.unit (s := S512x1024) ![o, p] ![128, 128] inb, w⟩ :: L) y
      = w (ix2 ⟨(y 0).val - o, by omega⟩ ⟨(y 1).val - p, by omega⟩) := by
  refine Eq.trans (congrArg _ ?_) (View.canon_cons_emb (Rect.unit (s := S512x1024) ![o, p] ![128, 128] inb) w L _)
  funext a
  refine Fin.ext ?_
  fin_cases a
  · show (y 0).val = o + 1 * ((y 0).val - o); omega
  · show (y 1).val = p + 1 * ((y 1).val - p); omega

/-- An entry of a chunk's rows reads the row block that was stored. -/
theorem rows_on {o : ℕ} (L : List (View.Piece (Elt Ideal) S512x1024 .f32)) (inb)
    (w : (Rect.unit (s := S512x1024) ![o, 0] ![128, 1024] inb).shape.Idx → Elt Ideal .f32)
    (y : S512x1024.Idx) (h0 : o ≤ (y 0).val) (h0' : (y 0).val < o + 128) :
    View.canon (⟨Rect.unit (s := S512x1024) ![o, 0] ![128, 1024] inb, w⟩ :: L) y
      = w (ix2 ⟨(y 0).val - o, by omega⟩ (y 1)) := by
  refine Eq.trans (congrArg _ ?_) (View.canon_cons_emb (Rect.unit (s := S512x1024) ![o, 0] ![128, 1024] inb) w L _)
  funext a
  refine Fin.ext ?_
  fin_cases a
  · show (y 0).val = o + 1 * ((y 0).val - o); omega
  · show (y 1).val = 0 + 1 * (y 1).val; omega

/-- The mixture of a chunk at an entry of a tile. -/
theorem blend_at (V : FVec Ideal S512x1024 .bf16) (W : FVec Ideal S8x128x128 .bf16) (y : S512x1024.Idx) (g : Fin 8) (o : ℕ)
    (a b) (hs : ∀ s : Fin 128, o + s.val < 512) (hb) (ho : (y 0).val / 128 * 128 = o) (ha : (y 0).val % 128 = a.val)
    (hb' : g.val * 128 + b = (y 1).val)
    (hg : (y 1).val / 128 = g.val) :
    ∑ s : Fin 128, W (ix3 g a s) * V (ix2 ⟨o + s.val, hs s⟩ ⟨g.val * 128 + b, hb⟩) = blend V W y := by
  subst ho
  obtain ⟨a, ha'⟩ := a
  dsimp only at ha
  subst ha
  have e : g = grp (y 1) := Fin.ext hg.symm
  subst e
  refine Finset.sum_congr rfl fun s _ => ?_
  rw [mul_comm]
  congr 2
  congr 1
  exact Fin.ext hb'

/-- Eight tiles side by side, each the mixture of its columns, make the chunk's rows of the mixture. -/
theorem tiles_eq (V : FVec Ideal S512x1024 .bf16) (W : FVec Ideal S8x128x128 .bf16) (o : ℕ) (ho : o % 128 = 0) (ho' : o + 128 ≤ 512)
    (i0 i1 i2 i3 i4 i5 i6 i7)
    (w0 : (Rect.unit (s := S512x1024) ![o, 0] ![128, 128] i0).shape.Idx → Elt Ideal .f32)
    (h0 : ∀ a b : Fin 128, w0 (ix2 a b) = ∑ s : Fin 128, W (ix3 0 a s) * V (ix2 ⟨o + s.val, by omega⟩ ⟨0 + b.val, by omega⟩))
    (w1 : (Rect.unit (s := S512x1024) ![o, 128] ![128, 128] i1).shape.Idx → Elt Ideal .f32)
    (h1 : ∀ a b : Fin 128, w1 (ix2 a b) = ∑ s : Fin 128, W (ix3 1 a s) * V (ix2 ⟨o + s.val, by omega⟩ ⟨128 + b.val, by omega⟩))
    (w2 : (Rect.unit (s := S512x1024) ![o, 256] ![128, 128] i2).shape.Idx → Elt Ideal .f32)
    (h2 : ∀ a b : Fin 128, w2 (ix2 a b) = ∑ s : Fin 128, W (ix3 2 a s) * V (ix2 ⟨o + s.val, by omega⟩ ⟨256 + b.val, by omega⟩))
    (w3 : (Rect.unit (s := S512x1024) ![o, 384] ![128, 128] i3).shape.Idx → Elt Ideal .f32)
    (h3 : ∀ a b : Fin 128, w3 (ix2 a b) = ∑ s : Fin 128, W (ix3 3 a s) * V (ix2 ⟨o + s.val, by omega⟩ ⟨384 + b.val, by omega⟩))
    (w4 : (Rect.unit (s := S512x1024) ![o, 512] ![128, 128] i4).shape.Idx → Elt Ideal .f32)
    (h4 : ∀ a b : Fin 128, w4 (ix2 a b) = ∑ s : Fin 128, W (ix3 4 a s) * V (ix2 ⟨o + s.val, by omega⟩ ⟨512 + b.val, by omega⟩))
    (w5 : (Rect.unit (s := S512x1024) ![o, 640] ![128, 128] i5).shape.Idx → Elt Ideal .f32)
    (h5 : ∀ a b : Fin 128, w5 (ix2 a b) = ∑ s : Fin 128, W (ix3 5 a s) * V (ix2 ⟨o + s.val, by omega⟩ ⟨640 + b.val, by omega⟩))
    (w6 : (Rect.unit (s := S512x1024) ![o, 768] ![128, 128] i6).shape.Idx → Elt Ideal .f32)
    (h6 : ∀ a b : Fin 128, w6 (ix2 a b) = ∑ s : Fin 128, W (ix3 6 a s) * V (ix2 ⟨o + s.val, by omega⟩ ⟨768 + b.val, by omega⟩))
    (w7 : (Rect.unit (s := S512x1024) ![o, 896] ![128, 128] i7).shape.Idx → Elt Ideal .f32)
    (h7 : ∀ a b : Fin 128, w7 (ix2 a b) = ∑ s : Fin 128, W (ix3 7 a s) * V (ix2 ⟨o + s.val, by omega⟩ ⟨896 + b.val, by omega⟩))
    (L : List (View.Piece (Elt Ideal) S512x1024 .f32)) (y : S512x1024.Idx) (hy0 : o ≤ (y 0).val) (hy1 : (y 0).val < o + 128) :
    View.canon (⟨Rect.unit (s := S512x1024) ![o, 896] ![128, 128] i7, w7⟩ :: ⟨Rect.unit (s := S512x1024) ![o, 768] ![128, 128] i6, w6⟩ :: ⟨Rect.unit (s := S512x1024) ![o, 640] ![128, 128] i5, w5⟩ :: ⟨Rect.unit (s := S512x1024) ![o, 512] ![128, 128] i4, w4⟩ :: ⟨Rect.unit (s := S512x1024) ![o, 384] ![128, 128] i3, w3⟩ :: ⟨Rect.unit (s := S512x1024) ![o, 256] ![128, 128] i2, w2⟩ :: ⟨Rect.unit (s := S512x1024) ![o, 128] ![128, 128] i1, w1⟩ :: ⟨Rect.unit (s := S512x1024) ![o, 0] ![128, 128] i0, w0⟩ :: L) y = blend V W y := by
  have hc : (y 1).val < 1024 := (y 1).isLt
  have hk : (y 1).val / 128 = 0 ∨ (y 1).val / 128 = 1 ∨ (y 1).val / 128 = 2 ∨ (y 1).val / 128 = 3
    ∨ (y 1).val / 128 = 4 ∨ (y 1).val / 128 = 5 ∨ (y 1).val / 128 = 6 ∨ (y 1).val / 128 = 7 := by omega
  rcases hk with hk | hk | hk | hk | hk | hk | hk | hk
  · rw [tile_off _ i7 w7 y (by omega), tile_off _ i6 w6 y (by omega), tile_off _ i5 w5 y (by omega), tile_off _ i4 w4 y (by omega), tile_off _ i3 w3 y (by omega), tile_off _ i2 w2 y (by omega), tile_off _ i1 w1 y (by omega), tile_on _ i0 w0 y hy0 hy1 (by omega) (by omega), h0]
    exact blend_at V W y 0 o ⟨(y 0).val - o, by omega⟩ ((y 1).val - 0) (fun s => by omega) (by show 0 * 128 + ((y 1).val - 0) < 1024; omega) (by omega) (by show _ = (y 0).val - o; omega) (by show 0 * 128 + ((y 1).val - 0) = _; omega) hk
  · rw [tile_off _ i7 w7 y (by omega), tile_off _ i6 w6 y (by omega), tile_off _ i5 w5 y (by omega), tile_off _ i4 w4 y (by omega), tile_off _ i3 w3 y (by omega), tile_off _ i2 w2 y (by omega), tile_on _ i1 w1 y hy0 hy1 (by omega) (by omega), h1]
    exact blend_at V W y 1 o ⟨(y 0).val - o, by omega⟩ ((y 1).val - 128) (fun s => by omega) (by show 1 * 128 + ((y 1).val - 128) < 1024; omega) (by omega) (by show _ = (y 0).val - o; omega) (by show 1 * 128 + ((y 1).val - 128) = _; omega) hk
  · rw [tile_off _ i7 w7 y (by omega), tile_off _ i6 w6 y (by omega), tile_off _ i5 w5 y (by omega), tile_off _ i4 w4 y (by omega), tile_off _ i3 w3 y (by omega), tile_on _ i2 w2 y hy0 hy1 (by omega) (by omega), h2]
    exact blend_at V W y 2 o ⟨(y 0).val - o, by omega⟩ ((y 1).val - 256) (fun s => by omega) (by show 2 * 128 + ((y 1).val - 256) < 1024; omega) (by omega) (by show _ = (y 0).val - o; omega) (by show 2 * 128 + ((y 1).val - 256) = _; omega) hk
  · rw [tile_off _ i7 w7 y (by omega), tile_off _ i6 w6 y (by omega), tile_off _ i5 w5 y (by omega), tile_off _ i4 w4 y (by omega), tile_on _ i3 w3 y hy0 hy1 (by omega) (by omega), h3]
    exact blend_at V W y 3 o ⟨(y 0).val - o, by omega⟩ ((y 1).val - 384) (fun s => by omega) (by show 3 * 128 + ((y 1).val - 384) < 1024; omega) (by omega) (by show _ = (y 0).val - o; omega) (by show 3 * 128 + ((y 1).val - 384) = _; omega) hk
  · rw [tile_off _ i7 w7 y (by omega), tile_off _ i6 w6 y (by omega), tile_off _ i5 w5 y (by omega), tile_on _ i4 w4 y hy0 hy1 (by omega) (by omega), h4]
    exact blend_at V W y 4 o ⟨(y 0).val - o, by omega⟩ ((y 1).val - 512) (fun s => by omega) (by show 4 * 128 + ((y 1).val - 512) < 1024; omega) (by omega) (by show _ = (y 0).val - o; omega) (by show 4 * 128 + ((y 1).val - 512) = _; omega) hk
  · rw [tile_off _ i7 w7 y (by omega), tile_off _ i6 w6 y (by omega), tile_on _ i5 w5 y hy0 hy1 (by omega) (by omega), h5]
    exact blend_at V W y 5 o ⟨(y 0).val - o, by omega⟩ ((y 1).val - 640) (fun s => by omega) (by show 5 * 128 + ((y 1).val - 640) < 1024; omega) (by omega) (by show _ = (y 0).val - o; omega) (by show 5 * 128 + ((y 1).val - 640) = _; omega) hk
  · rw [tile_off _ i7 w7 y (by omega), tile_on _ i6 w6 y hy0 hy1 (by omega) (by omega), h6]
    exact blend_at V W y 6 o ⟨(y 0).val - o, by omega⟩ ((y 1).val - 768) (fun s => by omega) (by show 6 * 128 + ((y 1).val - 768) < 1024; omega) (by omega) (by show _ = (y 0).val - o; omega) (by show 6 * 128 + ((y 1).val - 768) = _; omega) hk
  · rw [tile_on _ i7 w7 y hy0 hy1 (by omega) (by omega), h7]
    exact blend_at V W y 7 o ⟨(y 0).val - o, by omega⟩ ((y 1).val - 896) (fun s => by omega) (by show 7 * 128 + ((y 1).val - 896) < 1024; omega) (by omega) (by show _ = (y 0).val - o; omega) (by show 7 * 128 + ((y 1).val - 896) = _; omega) hk

/-- The index of a row inside its chunk. -/
theorem rows_idx {o : ℕ} (inb) (y : S512x1024.Idx) (h0 : o ≤ (y 0).val) (h0' : (y 0).val < o + 128) :
    (Rect.unit (s := S512x1024) ![o, 0] ![128, 1024] inb).toLoadRect.idx (ix2 ⟨(y 0).val - o, by omega⟩ (y 1)) = y := by
  funext a
  refine Fin.ext ?_
  fin_cases a
  · show o + 1 * ((y 0).val - o) = (y 0).val; omega
  · show 0 + 1 * (y 1).val = (y 1).val; omega

/-- The row and column of an entry of a chunk. -/
theorem row_ix {o : ℕ} (B : Vec Ideal S128x1024 .f32) (y : S512x1024.Idx) (h0 : o ≤ (y 0).val) (h0' : (y 0).val < o + 128)
    (ho : o % 128 = 0) : B (ix2 ⟨(y 0).val - o, by omega⟩ (y 1)) = B (ix2 ⟨(y 0).val % 128, by omega⟩ (y 1)) := by
  have e : (y 0).val - o = (y 0).val % 128 := by omega
  simp only [e]

/-- The first tile's payload, cut out of the levelled rows. -/
def corner (V : FVec Ideal S512x1024 .bf16) (v74 : Vec Ideal S1x128x128 .bf16) : FVec Ideal S128x128 .f32 :=
  shapeCast S128x128 (matmul dot_S128x128_S128x128_S128x128_1_0_0_1_n_n none
    (shapeCast S128x128 v74 shapeCasts_S1x128x128_S128x128 : FVec Ideal S128x128 .bf16)
    (extractStridedSlice S128x128 ![0, 0] V slices_S512x1024_o0_0_S128x128 : FVec Ideal S128x128 .bf16)
    (constant S128x128 .f32 0x00000000#32)) shapeCasts_S128x128_S128x128

/-- A tile's product at its corner is the mixture there. -/
theorem corner_eq (a b c d e f w) : k0_pay10 (F := Ideal) a b c d e f w = corner (k0_pay9 a b c d e f) w := rfl

/-- After all stores, the scratch array holds every chunk's mixture with the shifts added. -/
theorem scratch_eq (c : Dev nD) (arg1 harg1 arg2 harg2 arg4 harg4 arg5 harg5 arg6 harg6 arg7 harg7 arg8 harg8 arg11)
    (x0 : Vec Ideal S512x1024 .f32) (x1 : Vec Ideal S1x1024 .f32) (x3 x4 x5 x6 x7) :
    kernelRun0_A.sl.v326 (F := Ideal) c arg1 harg1 arg2 harg2 arg4 harg4 arg5 harg5 arg6 harg6 arg7 harg7 arg8 harg8 arg11 x0 x1 x3 x4 x5 x6 x7
    = shifted (k0_pay9 (k0_pay6 x0 x1 x3) (k0_pay7 x0 x1 x3) (k0_pay8 x0 x1 x3) (FloatOps.ofBits FTy.f32 1027024659#32) x4 x5) x6 x7 := by
  frame_out
  rw [View.readCov_eq_canon']
  simp only [corner_eq]
  generalize (k0_pay9 (k0_pay6 x0 x1 x3) (k0_pay7 x0 x1 x3) (k0_pay8 x0 x1 x3) (FloatOps.ofBits FTy.f32 1027024659#32) x4 x5) = V
  refine funext fun (y : S512x1024.Idx) => ?_
  have hid : ∀ inb, (Rect.unit (s := S512x1024) ![0, 0] ![512, 1024] inb).toLoadRect.idx y = y := by
    intro inb; funext a; refine Fin.ext ?_
    fin_cases a
    · show 0 + 1 * (y 0).val = (y 0).val; omega
    · show 0 + 1 * (y 1).val = (y 1).val; omega
  rw [hid]
  have hr : (y 0).val < 512 := (y 0).isLt
  have hk : (y 0).val / 128 = 3 ∨ (y 0).val / 128 = 2 ∨ (y 0).val / 128 = 1 ∨ (y 0).val / 128 = 0 := by omega
  unfold shifted
  rcases hk with hk | hk | hk | hk
  · have h0 : 384 ≤ (y 0).val := by omega
    have h1 : (y 0).val < 384 + 128 := by omega
    skip
    rw [rows_on _ _ _ y h0 h1]
    have hadd : ∀ (R : Vec Ideal S128x1024 .f32) (x : S128x1024.Idx), k0_pay1 (F := Ideal) R x7 x = R x + x7 x := by
      intro R x; idx_vars x; pointwise [k0_pay1]
    rw [hadd]
    refine congr (congrArg _ ?_) (row_ix x7 y h0 h1 (by decide))
    rw [View.readCov_eq_canon']
    beta_reduce
    rw [rows_idx _ y h0 h1]
    refine tiles_eq V x6 384 (by decide) (by decide) _ _ _ _ _ _ _ _ _ ?_ _ ?_ _ ?_ _ ?_ _ ?_ _ ?_ _ ?_ _ ?_ _ y h0 h1
    · intro a b; pointwise [k0_pay42]
    · intro a b; pointwise [k0_pay43]
    · intro a b; pointwise [k0_pay44]
    · intro a b; pointwise [k0_pay45]
    · intro a b; pointwise [k0_pay46]
    · intro a b; pointwise [k0_pay47]
    · intro a b; pointwise [k0_pay48]
    · intro a b; pointwise [k0_pay49]
  · have h0 : 256 ≤ (y 0).val := by omega
    have h1 : (y 0).val < 256 + 128 := by omega
    iterate 9 rw [tile_above _ _ _ y (by omega)]
    rw [rows_on _ _ _ y h0 h1]
    have hadd : ∀ (R : Vec Ideal S128x1024 .f32) (x : S128x1024.Idx), (k0_pay41 (F := Ideal) (k0_pay40 R x7)) x = R x + x7 x := by
      intro R x; idx_vars x; pointwise [k0_pay40, k0_pay41]
    rw [hadd]
    refine congr (congrArg _ ?_) (row_ix x7 y h0 h1 (by decide))
    rw [View.readCov_eq_canon']
    beta_reduce
    rw [rows_idx _ y h0 h1]
    refine tiles_eq V x6 256 (by decide) (by decide) _ _ _ _ _ _ _ _ _ ?_ _ ?_ _ ?_ _ ?_ _ ?_ _ ?_ _ ?_ _ ?_ _ y h0 h1
    · intro a b; pointwise [k0_pay30]
    · intro a b; pointwise [k0_pay31]
    · intro a b; pointwise [k0_pay32]
    · intro a b; pointwise [k0_pay33]
    · intro a b; pointwise [k0_pay34, k0_pay35, k0_pay36]
    · intro a b; pointwise [k0_pay37]
    · intro a b; pointwise [k0_pay38]
    · intro a b; pointwise [k0_pay39]
  · have h0 : 128 ≤ (y 0).val := by omega
    have h1 : (y 0).val < 128 + 128 := by omega
    iterate 18 rw [tile_above _ _ _ y (by omega)]
    rw [rows_on _ _ _ y h0 h1]
    have hadd : ∀ (R : Vec Ideal S128x1024 .f32) (x : S128x1024.Idx), k0_pay29 (F := Ideal) R x7 x = R x + x7 x := by
      intro R x; idx_vars x; pointwise [k0_pay29]
    rw [hadd]
    refine congr (congrArg _ ?_) (row_ix x7 y h0 h1 (by decide))
    rw [View.readCov_eq_canon']
    beta_reduce
    rw [rows_idx _ y h0 h1]
    refine tiles_eq V x6 128 (by decide) (by decide) _ _ _ _ _ _ _ _ _ ?_ _ ?_ _ ?_ _ ?_ _ ?_ _ ?_ _ ?_ _ ?_ _ y h0 h1
    · intro a b; pointwise [k0_pay20, k0_pay21]
    · intro a b; pointwise [k0_pay22]
    · intro a b; pointwise [k0_pay23]
    · intro a b; pointwise [k0_pay24]
    · intro a b; pointwise [k0_pay25]
    · intro a b; pointwise [k0_pay26]
    · intro a b; pointwise [k0_pay27]
    · intro a b; pointwise [k0_pay28]
  · have h0 : 0 ≤ (y 0).val := by omega
    have h1 : (y 0).val < 0 + 128 := by omega
    iterate 27 rw [tile_above _ _ _ y (by omega)]
    rw [rows_on _ _ _ y h0 h1]
    have hadd : ∀ (R : Vec Ideal S128x1024 .f32) (x : S128x1024.Idx), k0_pay19 (F := Ideal) R x7 x = R x + x7 x := by
      intro R x; idx_vars x; pointwise [k0_pay19]
    rw [hadd]
    refine congr (congrArg _ ?_) (row_ix x7 y h0 h1 (by decide))
    rw [View.readCov_eq_canon']
    beta_reduce
    rw [rows_idx _ y h0 h1]
    refine tiles_eq V x6 0 (by decide) (by decide) _ _ _ _ _ _ _ _ _ ?_ _ ?_ _ ?_ _ ?_ _ ?_ _ ?_ _ ?_ _ ?_ _ y h0 h1
    · intro a b; pointwise [corner]
    · intro a b; pointwise [k0_pay11]
    · intro a b; pointwise [k0_pay12]
    · intro a b; pointwise [k0_pay13]
    · intro a b; pointwise [k0_pay14]
    · intro a b; pointwise [k0_pay15, k0_pay16]
    · intro a b; pointwise [k0_pay17]
    · intro a b; pointwise [k0_pay18]

/-- The block a step leaves, as one expression over the blocks that it read. -/
theorem out_eq (c : Dev nD) (t : Fin cfg0.N) : outsAt0 m c t
    = k0_pay2 (k0_pay3 (iblk m c 0 t)) (k0_pay5 (iblk m c 0 t) (iblk m c 1 t) (iblk m c 2 t))
        (shifted (k0_pay9 (k0_pay6 (iblk m c 0 t) (iblk m c 1 t) (iblk m c 3 t))
                        (k0_pay7 (iblk m c 0 t) (iblk m c 1 t) (iblk m c 3 t))
                        (k0_pay8 (iblk m c 0 t) (iblk m c 1 t) (iblk m c 3 t)) (FloatOps.ofBits FTy.f32 1027024659#32)
                        (iblk m c 4 t) (iblk m c 5 t)) (iblk m c 6 t) (iblk m c 7 t)) (iblk m c 8 t) := by
  unfold outsAt0 out0_A_9 kernelRun0_A
  dsimp only
  rw [scratch_eq]
  frame_out

/-- Halving before or after the product bends a number alike. -/
theorem bend_eq (z : EReal) : Ideal.ofBits FTy.f32 1056964608#32 * z * (1 + Ideal.tanh (Ideal.ofBits FTy.f32 1061962282#32
    * (z + Ideal.ofBits FTy.f32 1027024659#32 * (z * z * z)))) = bend z := by
  unfold bend
  rw [mul_comm (Ideal.ofBits FTy.f32 1056964608#32) z, mul_assoc]

/-- The second half's product at a row and a column. -/
theorem product_apply (X : FVec Ideal S512x1024 .f32) (G : FVec Ideal S1x1024 .f32) (B : FVec Ideal S1024x1024 .bf16)
    (r : Fin 512) (n : Fin 1024) : k0_pay6 (F := Ideal) X G B (ix2 r n)
      = ∑ k, X (ix2 r k) * spread (fun k => X (ix2 r k)) * G (ix2 0 k) * B (ix2 k n) := by
  pointwise [k0_pay6, k0_pay4, k0_pay3]
  rfl

/-- The first half's bent product at a row and a column. -/
theorem gated_apply (X : FVec Ideal S512x1024 .f32) (G : FVec Ideal S1x1024 .f32) (A : FVec Ideal S1024x1024 .bf16)
    (r : Fin 512) (n : Fin 1024) : k0_pay5 (F := Ideal) X G A (ix2 r n)
      = unit (fun k => X (ix2 r k)) (fun k => G (ix2 0 k)) (fun k n => A (ix2 k n)) n := by
  pointwise [k0_pay5, k0_pay4, k0_pay3]
  exact bend_eq _

/-- The levelling at a row and a column, over any arrays. -/
theorem level_apply (Z Y U : FVec Ideal S512x1024 .f32) (e : Ideal .f32) (P Q : FVec Ideal S1x1024 .f32) (r : Fin 512) (n : Fin 1024) :
    k0_pay9 (F := Ideal) Z Y U e P Q (ix2 r n)
      = level (fun n => Y (ix2 r n) * (1 + Ideal.tanh (Ideal.ofBits FTy.f32 1061962282#32 * (Z (ix2 r n) + e * U (ix2 r n)))))
          (fun k => P (ix2 0 k)) (fun k => Q (ix2 0 k)) n := by
  pointwise [k0_pay9]
  rfl

/-- The second half's bent product, levelled along its row, at a row and a column. -/
theorem levelled_apply (X : FVec Ideal S512x1024 .f32) (G : FVec Ideal S1x1024 .f32) (B : FVec Ideal S1024x1024 .bf16)
    (P Q : FVec Ideal S1x1024 .f32) (r : Fin 512) (n : Fin 1024) :
    k0_pay9 (F := Ideal) (k0_pay6 X G B) (k0_pay7 X G B) (k0_pay8 X G B) (Ideal.ofBits FTy.f32 1027024659#32) P Q (ix2 r n)
      = level (unit (fun k => X (ix2 r k)) (fun k => G (ix2 0 k)) (fun k n => B (ix2 k n))) (fun k => P (ix2 0 k)) (fun k => Q (ix2 0 k)) n := by
  rw [level_apply]
  congr 1
  funext n
  pointwise [k0_pay7, k0_pay8]
  rw [product_apply]
  exact bend_eq _

/-- The block that a step stores, read at a row and a column, over any nine blocks. -/
theorem stored_apply (X : FVec Ideal S512x1024 .f32) (G : FVec Ideal S1x1024 .f32) (A B : FVec Ideal S1024x1024 .bf16)
    (P Q : FVec Ideal S1x1024 .f32) (W : FVec Ideal S8x128x128 .bf16) (H : FVec Ideal S128x1024 .f32)
    (D : FVec Ideal S1024x1024 .bf16) (y : S512x1024.Idx) :
    k0_pay2 (F := Ideal) (k0_pay3 X) (k0_pay5 X G A)
        (shifted (k0_pay9 (k0_pay6 X G B) (k0_pay7 X G B) (k0_pay8 X G B) (FloatOps.ofBits FTy.f32 1027024659#32) P Q) W H) D y
      = entry (fun k => X (ix2 (y 0) k)) (fun u k => X (ix2 ⟨(y 0).val / 128 * 128 + u.val, by have : (y 0).val < 512 := (y 0).isLt; omega⟩ k))
          (fun k => G (ix2 0 k)) (fun k n => A (ix2 k n)) (fun k n => B (ix2 k n)) (fun k => P (ix2 0 k)) (fun k => Q (ix2 0 k))
          (fun g r u => W (ix3 g r u)) (fun r n => H (ix2 r n)) (fun n k => D (ix2 n k))
          ⟨(y 0).val % 128, by omega⟩ (y 1) := by
  idx_vars y
  pointwise [k0_pay2, k0_pay3]
  unfold shifted blend
  simp only [gated_apply]
  exact congrArg (X (ix2 y0 y1) + ·) (Finset.sum_congr rfl fun n _ => congrArg₂ (· * ·) (congrArg₂ (· * ·) rfl
    (congrArg₂ (· + ·) (Finset.sum_congr rfl fun u _ => congrArg₂ (· * ·) (levelled_apply X G B P Q _ _) rfl) rfl)) rfl)

/-- Where each window's block lies at each of the 32 steps: the rows move with the step, all else stays. -/
theorem places : ∀ t : Fin cfg0.N, win0_0.index t = ![t.val, 0]
    ∧ win0_1.index t = ![0, 0] ∧ win0_2.index t = ![0, 0] ∧ win0_3.index t = ![0, 0] ∧ win0_4.index t = ![0, 0]
    ∧ win0_5.index t = ![0, 0] ∧ win0_6.index t = ![0, 0, 0] ∧ win0_7.index t = ![0, 0] ∧ win0_8.index t = ![0, 0]
    ∧ win0_9.index t = ![t.val, 0] :=
  (by decide +kernel : ∀ t : Fin grid0.N, _)

/-- Equal parts give equal entries. -/
theorem entry_congr {y y' : Fin 1024 → EReal} {x x' : Fin 128 → Fin 1024 → EReal} {g g' : Fin 1024 → EReal}
    {wu wu' wv wv' : Fin 1024 → Fin 1024 → EReal} {lg lg' lb lb' : Fin 1024 → EReal} {w w' : Fin 8 → Fin 128 → Fin 128 → EReal}
    {b b' : Fin 128 → Fin 1024 → EReal} {wo wo' : Fin 1024 → Fin 1024 → EReal} {r r' : Fin 128} {j : Fin 1024}
    (h0 : y = y') (h1 : x = x') (h2 : g = g') (h3 : wu = wu') (h4 : wv = wv') (h5 : lg = lg') (h6 : lb = lb') (h7 : w = w')
    (h8 : b = b') (h9 : wo = wo') (h10 : r = r') : entry y x g wu wv lg lb w b wo r j = entry y' x' g' wu' wv' lg' lb' w' b' wo' r' j := by
  subst h0 h1 h2 h3 h4 h5 h6 h7 h8 h9 h10; rfl

/-- The stacked rows at an index. -/
theorem stacked_apply (A : FVec Ideal S2x8192x1024 .f32) (i : S16384x1024.Idx) (b : Fin 2) (s : Fin 8192) (k : Fin 1024)
    (h : (i 0).val = b.val * 8192 + s.val) (hk : (i 1).val = k.val) :
    shapeCast S16384x1024 A shapeCasts_S2x8192x1024_S16384x1024 i = A (ix3 b s k) := by
  idx_vars i
  pointwise
  blk_ext

/-- A row of a step's block is the row of the input where it lies. -/
theorem row_eq (c : Dev nD) (t : Fin cfg0.N) (p : Fin 512) (k : Fin 1024) (b : Fin 2) (s : Fin 8192)
    (h : t.val * 512 + p.val = b.val * 8192 + s.val) :
    iblk m c 0 t (ix2 p k) = m ((c : Thread nD τ).loc main_arg0) (ix3 b s k) := by
  blk_simp [iblk]
  rw [V_v10]
  refine (stacked_apply _ _ b s k ?_ ?_).trans rfl
  · blk_simp [places t]; omega
  · blk_simp [places t]

set_option maxHeartbeats 2000000 in
/-- Entry `y` of the block that step `t` stores is the reference at the row and column where that entry lies. -/
theorem entry_eq (c : Dev nD) (t : Fin cfg0.N) (y) :
    outsAt0 m c t y
      = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (((cfg0.win 9).blk t).view.emb y) := by
  have ht : t.val < 32 := t.isLt
  have hy : (y 0).val < 512 := (y 0).isLt
  rw [out_eq]
  refine (stored_apply _ _ _ _ _ _ _ _ _ y).trans (Eq.trans ?_ (out_apply _ _ _ _ _ _ _ _ _
    ⟨(t.val * 512 + (y 0).val) / 8192, by omega⟩ ⟨(t.val * 512 + (y 0).val) % 8192, by omega⟩ (y 1) ?_ ?_ ?_).symm)
  · refine entry_congr ?_ ?_ ?_ ?_ ?_ ?_ ?_ ?_ ?_ ?_ ?_
    · funext k; exact row_eq m c t _ k _ _ (by dsimp only; omega)
    · funext u k; exact row_eq m c t _ k _ _ (by have := u.isLt; dsimp only; omega)
    · funext k; blk_simp [iblk]; rw [V_v11]; pointwise; blk_ext [places t]
    · funext k n; blk_simp [iblk]; rw [V_v1]; pointwise; blk_ext [places t]
    · funext k n; blk_simp [iblk]; rw [V_v3]; pointwise; blk_ext [places t]
    · funext k; blk_simp [iblk]; rw [V_v12]; pointwise; blk_ext [places t]
    · funext k; blk_simp [iblk]; rw [V_v13]; pointwise; blk_ext [places t]
    · funext k n r; blk_simp [iblk]; rw [V_v14]; blk_ext [places t]
    · funext k n; blk_simp [iblk]; rw [V_v9]; pointwise; blk_ext [places t]; rfl
    · funext k n; blk_simp [iblk]; rw [V_v15]; pointwise; blk_ext [places t]
    · refine Fin.ext ?_; show _ % 128 = _ % 8192 % 128; omega
  · blk_simp [places t]
  · blk_simp [places t]
  · blk_simp [places t]

/-- The result array after the run is the reference's array. -/
theorem result_eq (c : Dev nD) : (dats m 0 c).arrAt 9 (cfgs 0).N
    = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  refine (dats m 0 c).arrAt_eq_of_covers 9 _ (by decide +kernel) fun t hf y => ?_
  blk_simp; rw [after0_9]
  exact entry_eq m c t y

end Cert.Kernel3Ideal.Math

end
-- ==== Proof.Mix.Claim.lean ====
module

public import proofs.«01_k».proof.Defs
public import proofs.«01_k».proof.Proof.Gen.Reference3Ideal.Run
public import proofs.«01_k».proof.Proof.Mix.Value

@[expose] public section

set_option maxRecDepth 16384

noncomputable section

namespace Cert.Proof

open Idealize.ShloMosaic Idealize.SL.Sem

/-- The mixer reference runs to its end, leaves its arguments as they were and every counter at zero. -/
theorem mix_reference_frame : Cert.quiescent_Reference3Ideal := by
  intro m g _
  exact (θ_run Cert.Reference3Ideal.defs _ _).mono
    (fun r h => ⟨fun c => (h.1 c).2, h.2⟩)
    (show θ_run _ _ _ (fun r => (∀ c, _ ∧ _) ∧ r.2.sem = fun _ => 0) from
      (θ_run Cert.Reference3Ideal.defs _ _).mono
        (fun r h => ⟨h, Idealize.ShloMosaic.sem_eq_zero_of_no_sems (by decide) r.2⟩)
        (Cert.Reference3Ideal.Value.run (F := Ideal) m g))

/-- The mixer kernel and its reference end with equal arrays over the reals. -/
theorem mix_algebraic : Cert.algebraic_Kernel3Ideal_Reference3Ideal := by
  pair_intro
  · run_from Cert.Kernel3Ideal.Gen.run_main m g
    exacts [Cert.Kernel3Ideal.Gen.V_main_arg0 m c, Cert.Kernel3Ideal.Gen.V_main_arg1 m c, Cert.Kernel3Ideal.Gen.V_main_arg2 m c, Cert.Kernel3Ideal.Gen.V_main_arg3 m c, Cert.Kernel3Ideal.Gen.V_main_arg4 m c, Cert.Kernel3Ideal.Gen.V_main_arg5 m c, Cert.Kernel3Ideal.Gen.V_main_arg6 m c, Cert.Kernel3Ideal.Gen.V_main_arg7 m c]
  · run_from Cert.Reference3Ideal.Value.run m' g'
    obtain ⟨a0, a1, a2, a3, a4, a5, a6, a7⟩ := hagree c
    refine Eq.trans ?_ (Cert.Kernel3Ideal.Math.result_eq m c).symm
    rw [← a0, ← a1, ← a2, ← a3, ← a4, ← a5, ← a6, ← a7]
    rfl

end Cert.Proof

end
-- ==== Proof.Join.Ref.lean ====
module

public import proofs.«01_k».proof.Proof.Gen.Reference4Ideal
public import proofs.«01_k».proof.Proof.Ffn.Ref
public import Idealize.ShloMosaic.Lib.Pointwise

@[expose] public section

set_option maxRecDepth 16384

noncomputable section

open Idealize.ShloMosaic Idealize.ShloMosaic.TcCoe Idealize.SL.Sem

namespace Cert.Reference4Ideal.Math

open Cert.Reference4Ideal Cert.Reference4Ideal.Gen
open Cert.Reference2Ideal.Math (spread entry)

/-- A normalised row against column `n` of the projecting weights. -/
def line (x g : Fin 1024 → EReal) (w : Fin 1024 → Fin 2048 → EReal) (n : Fin 2048) : EReal :=
  ∑ k, x k * spread x * g k * w k n

/-- One entry of a head's 64 numbers, normalised by their mean square and scaled. -/
def head (z g : Fin 64 → EReal) (d : Fin 64) : EReal :=
  z d * Ideal.rsqrt (Ideal.div (∑ e, z e * z e) (Ideal.ofBits FTy.f32 1115684864#32) + Ideal.ofBits FTy.f32 897988541#32) * g d

/-- The rows after the feed-forward. -/
def fed (a0 : FVec Ideal S2x8192x1024 .f32) (a1 : FVec Ideal S2x1024 .f32) (a3 a4 : FVec Ideal S2x1024x2816 .f32)
    (a5 : FVec Ideal S2x2816x1024 .f32) : FVec Ideal S2x8192x1024 .f32 :=
  addf a0 (mulf (broadcastInDim S2x8192x1024 ![] bcast_S_S2x8192x1024 (constant S_ .f32 0x3F000000#32)) (Host.dotGeneral dot_S2x8192x2816_S2816x1024_S2x8192x1024_2_0_01_1_n_n none (mulf (mulf (Host.dotGeneral dot_S2x8192x1024_S1024x2816_S2x8192x2816_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ (extractStridedSlice S1x1024x2816 ![0, 0, 0] a3 slices_S2x1024x2816_S1x1024x2816_0_0_0) shapeCasts_S1x1024x2816_S1024x2816)) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ (extractStridedSlice S1x1024x2816 ![0, 0, 0] a3 slices_S2x1024x2816_S1x1024x2816_0_0_0) shapeCasts_S1x1024x2816_S1024x2816))))))) (Host.dotGeneral dot_S2x8192x1024_S1024x2816_S2x8192x2816_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ (extractStridedSlice S1x1024x2816 ![0, 0, 0] a4 slices_S2x1024x2816_S1x1024x2816_0_0_0) shapeCasts_S1x1024x2816_S1024x2816))) (shapeCast _ (extractStridedSlice S1x2816x1024 ![0, 0, 0] a5 slices_S2x2816x1024_S1x2816x1024_0_0_0) shapeCasts_S1x2816x1024_S2816x1024)))

/-- The rows after the feed-forward, at an index. -/
theorem fed_apply (a0 : FVec Ideal S2x8192x1024 .f32) (a1 : FVec Ideal S2x1024 .f32) (a3 a4 : FVec Ideal S2x1024x2816 .f32)
    (a5 : FVec Ideal S2x2816x1024 .f32) (b : Fin 2) (s : Fin 8192) (j : Fin 1024) :
    fed a0 a1 a3 a4 a5 (ix3 b s j) = entry (fun k => a0 (ix3 b s k)) (fun k => a1 (ix2 0 k)) (fun k n => a3 (ix3 0 k n))
      (fun k n => a4 (ix3 0 k n)) (fun n k => a5 (ix3 0 n k)) j := by
  pointwise [fed]
  rfl

/-- Rows normalised by their mean square and scaled by the first row of gains. -/
def normed (X : FVec Ideal S2x8192x1024 .f32) (g : FVec Ideal S2x1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] g slices_S2x1024_S1x1024_0_0) shapeCasts_S1x1024_S1024)))

/-- The normalised rows at an index. -/
theorem normed_apply (X : FVec Ideal S2x8192x1024 .f32) (g : FVec Ideal S2x1024 .f32) (b : Fin 2) (s : Fin 8192) (k : Fin 1024) :
    normed X g (ix3 b s k) = X (ix3 b s k) * spread (fun k => X (ix3 b s k)) * g (ix2 0 k) := by
  pointwise [normed]
  rfl

/-- The whole projection of the rows: queries, keys, values and pool rows side by side. -/
def table (X : FVec Ideal S2x8192x1024 .f32) (g : FVec Ideal S2x1024 .f32) (a6 : FVec Ideal S1x1024x2048 .f32) :
    FVec Ideal S2x8192x2048 .f32 :=
  Host.dotGeneral dot_S2x8192x1024_S1024x2048_S2x8192x2048_2_0_01_1_n_n none (normed X g) (shapeCast _ a6 shapeCasts_S1x1024x2048_S1024x2048)

/-- The projection at an index. -/
theorem table_apply (X : FVec Ideal S2x8192x1024 .f32) (g : FVec Ideal S2x1024 .f32) (a6 : FVec Ideal S1x1024x2048 .f32)
    (b : Fin 2) (s : Fin 8192) (n : Fin 2048) :
    table X g a6 (ix3 b s n) = line (fun k => X (ix3 b s k)) (fun k => g (ix2 0 k)) (fun k n => a6 (ix3 0 k n)) n := by
  pointwise [table]
  simp only [normed_apply]
  rfl

/-- The key columns of the projection, in eight heads of 64. -/
def heads (T : FVec Ideal S2x8192x2048 .f32) : FVec Ideal S2x8192x8x64 .f32 :=
  shapeCast _ (extractStridedSlice S2x8192x512 ![0, 0, 512] T slices_S2x8192x2048_S2x8192x512_0_0_512) shapeCasts_S2x8192x512_S2x8192x8x64

/-- A head's column of the projection. -/
theorem heads_apply (T : FVec Ideal S2x8192x2048 .f32) (b : Fin 2) (s : Fin 8192) (h : Fin 8) (d : Fin 64) :
    heads T (ix4 b s h d) = T (ix3 b s ⟨512 + (h.val * 64 + d.val), by omega⟩) := by
  pointwise [heads]

/-- The keys, normalised head by head and scaled. -/
def keys (T : FVec Ideal S2x8192x2048 .f32) (g : FVec Ideal S1x64 .f32) : FVec Ideal S2x8192x8x64 .f32 :=
  mulf (mulf (heads T) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (heads T) (heads T)) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast _ g shapeCasts_S1x64_S64)))

/-- The keys at an index. -/
theorem keys_apply (T : FVec Ideal S2x8192x2048 .f32) (g : FVec Ideal S1x64 .f32) (b : Fin 2) (s : Fin 8192) (h : Fin 8) (d : Fin 64) :
    keys T g (ix4 b s h d) = head (fun d => T (ix3 b s ⟨512 + (h.val * 64 + d.val), by omega⟩)) (fun d => g (ix2 0 d)) d := by
  pointwise [keys]
  simp only [heads_apply]
  rfl

/-- The first result: the keys of every row, as one function of the projection and the gains. -/
abbrev outK (T : FVec Ideal S2x8192x2048 .f32) (g : FVec Ideal S1x64 .f32) : FVec Ideal S1x2x8192x8x64 .f32 :=
  broadcastInDim S1x2x8192x8x64 ![1, 2, 3, 4] bcast_S2x8192x8x64_S1x2x8192x8x64_1_2_3_4 (keys T g)

/-- The second result: the values of every row. -/
abbrev outV (T : FVec Ideal S2x8192x2048 .f32) : FVec Ideal S1x2x8192x8x64 .f32 :=
  broadcastInDim S1x2x8192x8x64 ![1, 2, 3, 4] bcast_S2x8192x8x64_S1x2x8192x8x64_1_2_3_4 (shapeCast _ (extractStridedSlice S2x8192x512 ![0, 0, 1024] T slices_S2x8192x2048_S2x8192x512_0_0_1024) shapeCasts_S2x8192x512_S2x8192x8x64)

/-- The third result: the last fifteen pool rows of each sequence. -/
abbrev outU (T : FVec Ideal S2x8192x2048 .f32) : FVec Ideal S1x2x15x512 .f32 :=
  broadcastInDim S1x2x15x512 ![1, 2, 3] bcast_S2x15x512_S1x2x15x512_1_2_3 (extractStridedSlice S2x15x512 ![0, 8192, 0] (concatenate S2x8207x512 1 [⟨S2x15x512, (broadcastInDim S2x15x512 ![] bcast_S_S2x15x512 (constant S_ .f32 0x00000000#32))⟩, ⟨S2x8192x512, (extractStridedSlice S2x8192x512 ![0, 0, 1536] T slices_S2x8192x2048_S2x8192x512_0_0_1536)⟩] concatenates_S2x15x512_S2x8192x512_S2x8207x512_d1) slices_S2x8207x512_S2x15x512_0_8192_0)

/-- The first result at an index. -/
theorem outK_apply (T : FVec Ideal S2x8192x2048 .f32) (g : FVec Ideal S1x64 .f32) (b : Fin 2) (s : Fin 8192) (h : Fin 8) (d : Fin 64) :
    outK T g (ix5 0 b s h d) = head (fun d => T (ix3 b s ⟨512 + (h.val * 64 + d.val), by omega⟩)) (fun d => g (ix2 0 d)) d := by
  pointwise [outK]
  exact keys_apply T g b s h d

/-- The second result at an index. -/
theorem outV_apply (T : FVec Ideal S2x8192x2048 .f32) (b : Fin 2) (s : Fin 8192) (h : Fin 8) (d : Fin 64) :
    outV T (ix5 0 b s h d) = T (ix3 b s ⟨1024 + (h.val * 64 + d.val), by omega⟩) := by
  pointwise [outV]

/-- The third result at an index. -/
theorem outU_apply (T : FVec Ideal S2x8192x2048 .f32) (b : Fin 2) (r : Fin 15) (n : Fin 512) :
    outU T (ix4 0 b r n) = T (ix3 b ⟨8177 + r.val, by omega⟩ ⟨1536 + n.val, by omega⟩) := by
  pointwise [outU]
  rw [dif_neg (by omega)]
  congr 2
  refine Fin.ext ?_
  show 8192 + r.val - 15 = 8177 + r.val
  omega

end Cert.Reference4Ideal.Math

end
-- ==== Proof.Join.Host.lean ====
module

public import proofs.«01_k».proof.Proof.Gen.Kernel4Ideal.Frame
public import proofs.«01_k».proof.Proof.Join.Ref
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Math

open Cert.Kernel4Ideal Cert.Kernel4Ideal.Gen

variable (m : (ℓ : Loc nD τ sig) → Buf (Elt Ideal) ℓ) (ρ : Dev nD → PrngReg)

/-- The rows that enter the first call. -/
theorem V1_v0 (c : Dev nD) : V1 m ρ c main_v0 = shapeCast S16384x1024 (m ((c : Thread nD τ).loc main_arg0)) shapeCasts_S2x8192x1024_S16384x1024 := by
  dsimp only [V1, W1, hostOps0]
  entry_read
  rfl

/-- The gains of the first call. -/
theorem V1_v3 (c : Dev nD) : V1 m ρ c main_v3 = shapeCast S1x1024 (shapeCast S1024 (extractStridedSlice S1x1024 ![0, 0] (m ((c : Thread nD τ).loc main_arg1)) slices_S2x1024_S1x1024_0_0) shapeCasts_S1x1024_S1024) shapeCasts_S1024_S1x1024 := by
  dsimp only [V1, W1, hostOps0]
  entry_read
  rfl

/-- The gating weights of the first call. -/
theorem V1_v6 (c : Dev nD) : V1 m ρ c main_v6 = truncf (F := Ideal) FTy.bf16 (shapeCast S1024x2816 (extractStridedSlice S1x1024x2816 ![0, 0, 0] (m ((c : Thread nD τ).loc main_arg3)) slices_S2x1024x2816_S1x1024x2816_0_0_0) shapeCasts_S1x1024x2816_S1024x2816) bitsLt_bf16_f32 := by
  dsimp only [V1, W1, hostOps0]
  entry_read
  rfl

/-- The other weights of the first call. -/
theorem V1_v9 (c : Dev nD) : V1 m ρ c main_v9 = truncf (F := Ideal) FTy.bf16 (shapeCast S1024x2816 (extractStridedSlice S1x1024x2816 ![0, 0, 0] (m ((c : Thread nD τ).loc main_arg4)) slices_S2x1024x2816_S1x1024x2816_0_0_0) shapeCasts_S1x1024x2816_S1024x2816) bitsLt_bf16_f32 := by
  dsimp only [V1, W1, hostOps0]
  entry_read
  rfl

/-- The carrying weights of the first call. -/
theorem V1_v12 (c : Dev nD) : V1 m ρ c main_v12 = truncf (F := Ideal) FTy.bf16 (shapeCast S2816x1024 (extractStridedSlice S1x2816x1024 ![0, 0, 0] (m ((c : Thread nD τ).loc main_arg5)) slices_S2x2816x1024_S1x2816x1024_0_0_0) shapeCasts_S1x2816x1024_S2816x1024) bitsLt_bf16_f32 := by
  dsimp only [V1, W1, hostOps0]
  entry_read
  rfl

/-- The rows that enter the second call are what the first call leaves. -/
theorem V5_v13 (c : Dev nD) : V5 m ρ c main_v13 = (dat0 (V1 m ρ) c).arrAt 5 cfg0.N :=
  (W5_of m ρ c main_v13 (by decide)).trans ((W4_of m ρ c main_v13 (by decide)).trans ((W3_of m ρ c main_v13 (by decide)).trans (W2_arr m ρ c 5)))

/-- The gains of the second call. -/
theorem V5_v16 (c : Dev nD) : V5 m ρ c main_v16 = shapeCast S1x1024 (shapeCast S1024 (extractStridedSlice S1x1024 ![0, 0] (m ((c : Thread nD τ).loc main_arg2)) slices_S2x1024_S1x1024_0_0) shapeCasts_S1x1024_S1024) shapeCasts_S1024_S1x1024 := by
  refine (W5_of m ρ c main_v16 (by decide)).trans ((W4_of m ρ c main_v16 (by decide)).trans ?_)
  rw [← W2_args m ρ c main_arg2 (by decide)]
  dsimp only [W3, hostOps1]
  entry_read
  rfl

/-- The key columns of the projecting weights. -/
theorem W4_v19 (c : Dev nD) : W4 m ρ c (Proc.devRef .tc main_v19) = extractStridedSlice S1024x512 ![0, 512] (shapeCast S1024x2048 (m ((c : Thread nD τ).loc main_arg6)) shapeCasts_S1x1024x2048_S1024x2048) slices_S1024x2048_S1024x512_0_512 := by
  refine (W4_of m ρ c main_v19 (by decide)).trans ?_
  rw [← W2_args m ρ c main_arg6 (by decide)]
  dsimp only [W3, hostOps1]
  entry_read
  rfl

/-- The pool columns of the projecting weights. -/
theorem W4_v21 (c : Dev nD) : W4 m ρ c (Proc.devRef .tc main_v21) = extractStridedSlice S1024x512 ![0, 1536] (shapeCast S1024x2048 (m ((c : Thread nD τ).loc main_arg6)) shapeCasts_S1x1024x2048_S1024x2048) slices_S1024x2048_S1024x512_0_1536 := by
  refine (W4_of m ρ c main_v21 (by decide)).trans ?_
  rw [← W2_args m ρ c main_arg6 (by decide)]
  dsimp only [W3, hostOps1]
  entry_read
  rfl

/-- The key and pool columns side by side. -/
theorem V5_v52 (c : Dev nD) : V5 m ρ c main_v52 = truncf (F := Ideal) FTy.bf16 (concatenate S1024x1024 1 [⟨S1024x512, extractStridedSlice S1024x512 ![0, 512] (shapeCast S1024x2048 (m ((c : Thread nD τ).loc main_arg6)) shapeCasts_S1x1024x2048_S1024x2048) slices_S1024x2048_S1024x512_0_512⟩, ⟨S1024x512, extractStridedSlice S1024x512 ![0, 1536] (shapeCast S1024x2048 (m ((c : Thread nD τ).loc main_arg6)) shapeCasts_S1x1024x2048_S1024x2048) slices_S1024x2048_S1024x512_0_1536⟩] concatenates_S1024x512_S1024x512_S1024x1024_d1) bitsLt_bf16_f32 := by
  rw [← W4_v19 m ρ c, ← W4_v21 m ρ c]
  dsimp only [V5, W5, hostOps1_2]
  entry_read
  rfl

/-- Equal parts make equal rows of three parts. -/
theorem join3 {a b c a' b' c' : FVec Ideal S1024x512 .f32} (ha : a = a') (hb : b = b') (hc : c = c') :
    concatenate S1024x1536 1 [⟨S1024x512, a⟩, ⟨S1024x512, b⟩, ⟨S1024x512, c⟩] concatenates_S1024x512_S1024x512_S1024x512_S1024x1536_d1
      = concatenate S1024x1536 1 [⟨S1024x512, a'⟩, ⟨S1024x512, b'⟩, ⟨S1024x512, c'⟩] concatenates_S1024x512_S1024x512_S1024x512_S1024x1536_d1 := by
  subst ha hb hc; rfl

/-- The query, key and value columns of the projecting weights, one per row. -/
theorem V5_v24 (c : Dev nD) : V5 m ρ c main_v24 = truncf (F := Ideal) FTy.bf16 (transpose S1536x1024 [1, 0] (concatenate S1024x1536 1 [⟨S1024x512, extractStridedSlice S1024x512 ![0, 0] (shapeCast S1024x2048 (m ((c : Thread nD τ).loc main_arg6)) shapeCasts_S1x1024x2048_S1024x2048) slices_S1024x2048_S1024x512_0_0⟩, ⟨S1024x512, extractStridedSlice S1024x512 ![0, 512] (shapeCast S1024x2048 (m ((c : Thread nD τ).loc main_arg6)) shapeCasts_S1x1024x2048_S1024x2048) slices_S1024x2048_S1024x512_0_512⟩, ⟨S1024x512, extractStridedSlice S1024x512 ![0, 1024] (shapeCast S1024x2048 (m ((c : Thread nD τ).loc main_arg6)) shapeCasts_S1x1024x2048_S1024x2048) slices_S1024x2048_S1024x512_0_1024⟩] concatenates_S1024x512_S1024x512_S1024x512_S1024x1536_d1) transposes_S1024x1536_S1536x1024_1_0) bitsLt_bf16_f32 := by
  refine (W5_of m ρ c main_v24 (by decide)).trans ((W4_of m ρ c main_v24 (by decide)).trans ?_)
  rw [← W2_args m ρ c main_arg6 (by decide)]
  dsimp only [W3, hostOps1]
  after_results_simp
  refine congrArg (truncf (F := Ideal) FTy.bf16 · bitsLt_bf16_f32) (congrArg (transpose S1536x1024 [1, 0] · transposes_S1024x1536_S1536x1024_1_0) (join3 ?_ ?_ ?_))
  · rfl
  · rfl
  · rfl

/-- The key gains, one per row, repeated for the eight heads. -/
theorem V5_v43 (c : Dev nD) : V5 m ρ c main_v43 = shapeCast S512x1 (shapeCast S512 (broadcastInDim S8x64 ![0, 1] bcast_S1x64_S8x64_0_1 (shapeCast S1x64 (shapeCast S64 (m ((c : Thread nD τ).loc main_arg8)) shapeCasts_S1x64_S64) shapeCasts_S64_S1x64)) shapeCasts_S8x64_S512) shapeCasts_S512_S512x1 := by
  rw [← W4_args m ρ c main_arg8 (by decide)]
  dsimp only [V5, W5, hostOps1_2]
  entry_read
  rfl

/-- The first result, from what the second call leaves. -/
theorem W7_v56 (c : Dev nD) : W7 m ρ c (Proc.devRef .tc main_v56) = broadcastInDim S1x2x8192x8x64 ![1, 2, 3, 4] bcast_S2x8192x8x64_S1x2x8192x8x64_1_2_3_4 (transpose S2x8192x8x64 [0, 3, 1, 2] (shapeCast S2x8x64x8192 ((dat1 (V5 m ρ) c).arrAt 11 cfg1.N) shapeCasts_S2x512x8192_S2x8x64x8192) transposes_S2x8x64x8192_S2x8192x8x64_0_3_1_2) := by
  rw [← W6_arr m ρ c 11]
  dsimp only [W7, hostOps2]
  entry_read
  rfl

/-- The second result, from what the second call leaves. -/
theorem W7_v59 (c : Dev nD) : W7 m ρ c (Proc.devRef .tc main_v59) = broadcastInDim S1x2x8192x8x64 ![1, 2, 3, 4] bcast_S2x8192x8x64_S1x2x8192x8x64_1_2_3_4 (transpose S2x8192x8x64 [0, 3, 1, 2] (shapeCast S2x8x64x8192 ((dat1 (V5 m ρ) c).arrAt 12 cfg1.N) shapeCasts_S2x512x8192_S2x8x64x8192) transposes_S2x8x64x8192_S2x8192x8x64_0_3_1_2) := by
  rw [← W6_arr m ρ c 12]
  dsimp only [W7, hostOps2]
  entry_read
  rfl

/-- The third result, from what the second call leaves. -/
theorem W7_v62 (c : Dev nD) : W7 m ρ c (Proc.devRef .tc main_v62) = broadcastInDim S1x2x15x512 ![1, 2, 3] bcast_S2x15x512_S1x2x15x512_1_2_3 (extractStridedSlice S2x15x512 ![0, 8177, 0] (shapeCast S2x8192x512 ((dat1 (V5 m ρ) c).arrAt 9 cfg1.N) shapeCasts_S16384x512_S2x8192x512) slices_S2x8192x512_S2x15x512_0_8177_0) := by
  rw [← W6_arr m ρ c 9]
  dsimp only [W7, hostOps2]
  entry_read
  rfl

end Cert.Kernel4Ideal.Math

end
-- ==== Proof.Join.Run.lean ====
module

public import proofs.«01_k».proof.Proof.Gen.Kernel4Ideal.Frame

@[expose] public section

set_option maxRecDepth 16384

noncomputable section

namespace Cert.Kernel4Ideal.Math

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The joined calls run to their end: each result array holds what the last host operations leave, and the arguments are as they were. -/
theorem run_results : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_v59) = W7 m ρ c (Proc.devRef .tc main_v59)
      ∧ r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c => ⟨h c _ (mem_uc main_v56 (by decide)), h c _ (mem_uc main_v59 (by decide)), h c _ (mem_uc main_v62 (by decide)), (h c _ (mem_uc main_arg0 (by decide))).trans (W7_main_arg0 m ρ c), (h c _ (mem_uc main_arg1 (by decide))).trans (W7_main_arg1 m ρ c), (h c _ (mem_uc main_arg2 (by decide))).trans (W7_main_arg2 m ρ c), (h c _ (mem_uc main_arg3 (by decide))).trans (W7_main_arg3 m ρ c), (h c _ (mem_uc main_arg4 (by decide))).trans (W7_main_arg4 m ρ c), (h c _ (mem_uc main_arg5 (by decide))).trans (W7_main_arg5 m ρ c), (h c _ (mem_uc main_arg6 (by decide))).trans (W7_main_arg6 m ρ c), (h c _ (mem_uc main_arg7 (by decide))).trans (W7_main_arg7 m ρ c), (h c _ (mem_uc main_arg8 (by decide))).trans (W7_main_arg8 m ρ c)⟩)

end Cert.Kernel4Ideal.Math

end
-- ==== Proof.Join.Value.lean ====
module

public import proofs.«01_k».proof.Proof.Join.Host
public import proofs.«01_k».proof.Proof.Join.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Math

open Cert.Kernel4Ideal Cert.Kernel4Ideal.Gen
open Cert.Reference2Ideal.Math (spread entry)
open Cert.Reference4Ideal.Math

variable (m : (ℓ : Loc nD τ sig) → Buf (Elt Ideal) ℓ) (ρ : Dev nD → PrngReg)

/-- Where each window's block lies at each step of the first call: the rows move with the step, the weights stay. -/
theorem places0 : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- Where each window's block lies at each step of the second call: the rows and the results move with the step. -/
theorem places1 : ∀ t : Fin cfg1.N, win1_0.index t = ![t.val, 0]
    ∧ win1_1.index t = ![0, 0]
    ∧ win1_2.index t = ![0, 0]
    ∧ win1_3.index t = ![0, 0]
    ∧ win1_7.index t = ![0, 0]
    ∧ win1_9.index t = ![t.val, 0]
    ∧ win1_11.index t = ![t.val / 16, 0, t.val % 16]
    ∧ win1_12.index t = ![t.val / 16, 0, t.val % 16] :=
  (by decide +kernel : ∀ t : Fin grid1.N, _)

/-- The block that a step of the first call stores, read at a row and a column, over any five blocks. -/
theorem stored0_apply (X : FVec Ideal S512x1024 .f32) (G : FVec Ideal S1x1024 .f32) (A B : FVec Ideal S1024x2816 .bf16)
    (D : FVec Ideal S2816x1024 .bf16) (y : S512x1024.Idx) :
    k0_pay1 (F := Ideal) X G A B D y = entry (fun k => X (ix2 (y 0) k)) (fun k => G (ix2 0 k))
      (fun k n => A (ix2 k n)) (fun k n => B (ix2 k n)) (fun n k => D (ix2 n k)) (y 1) := by
  idx_vars y
  pointwise [k0_pay1]
  rfl

/-- Equal parts give equal entries. -/
theorem entry_congr {x x' g g' : Fin 1024 → EReal} {wg wg' wu wu' : Fin 1024 → Fin 2816 → EReal} {wd wd' : Fin 2816 → Fin 1024 → EReal}
    {j : Fin 1024} (h0 : x = x') (h1 : g = g') (h2 : wg = wg') (h3 : wu = wu') (h4 : wd = wd') :
    entry x g wg wu wd j = entry x' g' wg' wu' wd' j := by
  subst h0 h1 h2 h3 h4; rfl

/-- The stacked rows at an index. -/
theorem stacked_apply (A : FVec Ideal S2x8192x1024 .f32) (i : S16384x1024.Idx) (b : Fin 2) (s : Fin 8192) (k : Fin 1024)
    (h : (i 0).val = b.val * 8192 + s.val) (hk : (i 1).val = k.val) :
    shapeCast S16384x1024 A shapeCasts_S2x8192x1024_S16384x1024 i = A (ix3 b s k) := by
  idx_vars i
  pointwise
  blk_ext

/-- A row of a step's block is the row of the input where it lies. -/
theorem row_eq (c : Dev nD) (t : Fin cfg0.N) (p : Fin 512) (k : Fin 1024) (b : Fin 2) (s : Fin 8192)
    (h : t.val * 512 + p.val = b.val * 8192 + s.val) :
    iblk0 (V1 m ρ) c 0 t (ix2 p k) = m ((c : Thread nD τ).loc main_arg0) (ix3 b s k) := by
  blk_simp [iblk0]
  rw [V1_v0]
  refine (stacked_apply _ _ b s k ?_ ?_).trans rfl
  · blk_simp [places0 t]; omega
  · blk_simp [places0 t]

/-- The rows after the feed-forward, stacked. -/
def mid (c : Dev nD) : FVec Ideal S16384x1024 .f32 :=
  shapeCast S16384x1024 (fed (m ((c : Thread nD τ).loc main_arg0)) (m ((c : Thread nD τ).loc main_arg1))
        (m ((c : Thread nD τ).loc main_arg3)) (m ((c : Thread nD τ).loc main_arg4))
        (m ((c : Thread nD τ).loc main_arg5))) shapeCasts_S2x8192x1024_S16384x1024

set_option maxHeartbeats 2000000 in
/-- Entry `y` of the block that a step of the first call stores is the fed row where that entry lies. -/
theorem entry0_eq (c : Dev nD) (t : Fin cfg0.N) (y) :
    k0_pay1 (iblk0 (V1 m ρ) c 0 t) (iblk0 (V1 m ρ) c 1 t) (iblk0 (V1 m ρ) c 2 t) (iblk0 (V1 m ρ) c 3 t) (iblk0 (V1 m ρ) c 4 t) y
      = mid m c (((cfg0.win 5).blk t).view.emb y) := by
  have ht : t.val < 32 := t.isLt
  have hy : (y 0).val < 512 := (y 0).isLt
  unfold mid
  refine (stored0_apply _ _ _ _ _ y).trans (Eq.trans ?_ (stacked_apply _ _
    ⟨(t.val * 512 + (y 0).val) / 8192, by omega⟩ ⟨(t.val * 512 + (y 0).val) % 8192, by omega⟩ (y 1) ?_ ?_).symm)
  · refine Eq.trans ?_ (fed_apply _ _ _ _ _ _ _ _).symm
    refine entry_congr ?_ ?_ ?_ ?_ ?_
    · funext k; exact row_eq m ρ c t _ k _ _ (by dsimp only; omega)
    · funext k; blk_simp [iblk0]; rw [V1_v3]; pointwise; blk_ext [places0 t]
    · funext k n; blk_simp [iblk0]; rw [V1_v6]; pointwise; blk_ext [places0 t]
    · funext k n; blk_simp [iblk0]; rw [V1_v9]; pointwise; blk_ext [places0 t]
    · funext k n; blk_simp [iblk0]; rw [V1_v12]; pointwise; blk_ext [places0 t]
  · blk_simp [places0 t]; dsimp only; omega
  · blk_simp [places0 t]

/-- What the first call leaves are the fed rows. -/
theorem mid_eq (c : Dev nD) : (dat0 (V1 m ρ) c).arrAt 5 cfg0.N = mid m c := by
  refine (dat0 (V1 m ρ) c).arrAt_eq_of_covers 5 _ (by decide +kernel) fun t hf y => ?_
  blk_simp; rw [after0_5]; frame_out
  exact entry0_eq m ρ c t y

/-- A row of a step's block against a row of the transposed weights. -/
theorem across_apply (X : FVec Ideal S512x1024 .f32) (G : FVec Ideal S1x1024 .f32) (W : FVec Ideal S1536x1024 .bf16)
    (n : Fin 1536) (p : Fin 512) : k1_pay6 (F := Ideal) (k1_pay1 X G) W (ix2 n p)
      = ∑ k, X (ix2 p k) * spread (fun k => X (ix2 p k)) * G (ix2 0 k) * W (ix2 n k) := by
  pointwise [k1_pay6, k1_pay1]
  refine Finset.sum_congr rfl fun k _ => ?_
  rw [mul_comm]
  rfl

/-- A row of a step's block against a pool column of the weights. -/
theorem along_apply (X : FVec Ideal S512x1024 .f32) (G : FVec Ideal S1x1024 .f32) (W : FVec Ideal S1024x1024 .bf16)
    (p n : Fin 512) : k1_pay5 (F := Ideal) (k1_pay2 X G W) (ix2 p n)
      = ∑ k, X (ix2 p k) * spread (fun k => X (ix2 p k)) * G (ix2 0 k) * W (ix2 k ⟨512 + n.val, by omega⟩) := by
  pointwise [k1_pay5, k1_pay2, k1_pay1]
  rfl

/-- The key of a head, from the transposed product of a step and the gains. -/
def key (T : FVec Ideal S1536x512 .f32) (g : FVec Ideal S512x1 .f32) (h : Fin 8) (d : Fin 64) (p : Fin 512) : EReal :=
  head (fun e => T (ix2 ⟨512 + (h.val * 64 + e.val), by omega⟩ p)) (fun e => g (ix2 ⟨h.val * 64 + e.val, by omega⟩ 0)) d

/-- Equal rows read equal entries. -/
theorem at_eq {n k : ℕ} (T : FVec Ideal ⟨2, ![n, k]⟩ .f32) (i j : Fin n) (p : Fin k) (h : i.val = j.val) : T (ix2 i p) = T (ix2 j p) := by
  rw [Fin.ext h]

/-- A head's normalised number is its key, when the numbers are those of the head. -/
theorem key_of (T : FVec Ideal S1536x512 .f32) (g : FVec Ideal S512x1 .f32) (h : Fin 8) (d : Fin 64) (p : Fin 512)
    (t : Fin 64 → EReal) (u : EReal) (ht : ∀ e, t e = T (ix2 ⟨512 + (h.val * 64 + e.val), by omega⟩ p))
    (hu : u = g (ix2 ⟨h.val * 64 + d.val, by omega⟩ 0)) :
    t d * Ideal.rsqrt (Ideal.div (∑ e, t e * t e) (Ideal.ofBits FTy.f32 1115684864#32) + Ideal.ofBits FTy.f32 897988541#32) * u
      = key T g h d p := by
  obtain rfl : t = _ := funext ht
  subst hu
  rfl

/-- The stored keys of head 0. -/
theorem key0_apply (N : FVec Ideal S512x1024 .bf16) (W : FVec Ideal S1536x1024 .bf16) (g : FVec Ideal S512x1 .f32) (d : Fin 64) (p : Fin 512) :
    k1_pay13 g (k1_pay10 N W) (k1_pay11 N W) (k1_pay12 (F := Ideal)) (ix3 0 d p) = key (k1_pay6 N W) g 0 d p := by
  unfold k1_pay10 k1_pay11 k1_pay10
  generalize k1_pay6 N W = T
  pointwise [k1_pay13, k1_pay12]
  exact key_of T g 0 d p (fun e => T (ix2 ⟨512 + e.val, by omega⟩ p)) _ (fun e => at_eq T _ _ p (by show 512 + e.val = 512 + (0 * 64 + e.val); omega))
    (at_eq g ⟨d.val, by omega⟩ _ 0 (by show d.val = 0 * 64 + d.val; omega))

/-- The stored keys of head 1. -/
theorem key1_apply (T : FVec Ideal S1536x512 .f32) (g : FVec Ideal S512x1 .f32) (d : Fin 64) (p : Fin 512) :
    k1_pay15 T g (ix3 0 d p) = key T g 1 d p := by
  pointwise [k1_pay15]
  exact key_of T g 1 d p (fun e => T (ix2 ⟨576 + e.val, by omega⟩ p)) _ (fun e => at_eq T _ _ p (by show 576 + e.val = 512 + (1 * 64 + e.val); omega))
    (at_eq g ⟨64 + d.val, by omega⟩ _ 0 (by show 64 + d.val = 1 * 64 + d.val; omega))

/-- The stored keys of head 2. -/
theorem key2_apply (T : FVec Ideal S1536x512 .f32) (g : FVec Ideal S512x1 .f32) (d : Fin 64) (p : Fin 512) :
    k1_pay17 T g (ix3 0 d p) = key T g 2 d p := by
  pointwise [k1_pay17]
  exact key_of T g 2 d p (fun e => T (ix2 ⟨640 + e.val, by omega⟩ p)) _ (fun e => at_eq T _ _ p (by show 640 + e.val = 512 + (2 * 64 + e.val); omega))
    (at_eq g ⟨128 + d.val, by omega⟩ _ 0 (by show 128 + d.val = 2 * 64 + d.val; omega))

/-- The stored keys of head 3. -/
theorem key3_apply (T : FVec Ideal S1536x512 .f32) (g : FVec Ideal S512x1 .f32) (d : Fin 64) (p : Fin 512) :
    k1_pay20 T g (ix3 0 d p) = key T g 3 d p := by
  pointwise [k1_pay20]
  exact key_of T g 3 d p (fun e => T (ix2 ⟨704 + e.val, by omega⟩ p)) _ (fun e => at_eq T _ _ p (by show 704 + e.val = 512 + (3 * 64 + e.val); omega))
    (at_eq g ⟨192 + d.val, by omega⟩ _ 0 (by show 192 + d.val = 3 * 64 + d.val; omega))

/-- The stored keys of head 4. -/
theorem key4_apply (T : FVec Ideal S1536x512 .f32) (g : FVec Ideal S512x1 .f32) (d : Fin 64) (p : Fin 512) :
    k1_pay24 g (k1_pay22 T) (k1_pay23 T) (Scalar.ofBits .f32 0x42800000#32) (ix3 0 d p) = key T g 4 d p := by
  pointwise [k1_pay24, k1_pay22, k1_pay23]
  exact key_of T g 4 d p (fun e => T (ix2 ⟨768 + e.val, by omega⟩ p)) _ (fun e => at_eq T _ _ p (by show 768 + e.val = 512 + (4 * 64 + e.val); omega))
    (at_eq g ⟨256 + d.val, by omega⟩ _ 0 (by show 256 + d.val = 4 * 64 + d.val; omega))

/-- The stored keys of head 5. -/
theorem key5_apply (T : FVec Ideal S1536x512 .f32) (g : FVec Ideal S512x1 .f32) (d : Fin 64) (p : Fin 512) :
    k1_pay27 (k1_pay26 T g) (ix3 0 d p) = key T g 5 d p := by
  pointwise [k1_pay27, k1_pay26]
  exact key_of T g 5 d p (fun e => T (ix2 ⟨832 + e.val, by omega⟩ p)) _ (fun e => at_eq T _ _ p (by show 832 + e.val = 512 + (5 * 64 + e.val); omega))
    (at_eq g ⟨320 + d.val, by omega⟩ _ 0 (by show 320 + d.val = 5 * 64 + d.val; omega))

/-- The stored keys of head 6. -/
theorem key6_apply (T : FVec Ideal S1536x512 .f32) (g : FVec Ideal S512x1 .f32) (d : Fin 64) (p : Fin 512) :
    k1_pay29 T g (ix3 0 d p) = key T g 6 d p := by
  pointwise [k1_pay29]
  exact key_of T g 6 d p (fun e => T (ix2 ⟨896 + e.val, by omega⟩ p)) _ (fun e => at_eq T _ _ p (by show 896 + e.val = 512 + (6 * 64 + e.val); omega))
    (at_eq g ⟨384 + d.val, by omega⟩ _ 0 (by show 384 + d.val = 6 * 64 + d.val; omega))

/-- The stored keys of head 7. -/
theorem key7_apply (T : FVec Ideal S1536x512 .f32) (g : FVec Ideal S512x1 .f32) (d : Fin 64) (p : Fin 512) :
    k1_pay34 T g (ix3 0 d p) = key T g 7 d p := by
  pointwise [k1_pay34]
  exact key_of T g 7 d p (fun e => T (ix2 ⟨960 + e.val, by omega⟩ p)) _ (fun e => at_eq T _ _ p (by show 960 + e.val = 512 + (7 * 64 + e.val); omega))
    (at_eq g ⟨448 + d.val, by omega⟩ _ 0 (by show 448 + d.val = 7 * 64 + d.val; omega))

/-- A row off the slab's rows keeps what it held. -/
theorem slab_off {o : ℕ} (L : List (View.Piece (Elt Ideal) S1x512x512 .f32)) (inb)
    (w : (Rect.unit (s := S1x512x512) ![0, o, 0] S1x64x512.size inb).shape.Idx → Elt Ideal .f32)
    (y : S1x512x512.Idx) (h : (y 1).val < o ∨ o + 64 ≤ (y 1).val) :
    View.canon (⟨Rect.unit (s := S1x512x512) ![0, o, 0] S1x64x512.size inb, w⟩ :: L) y = View.canon L y := by
  apply View.canon_cons_of_not_mem
  rw [Rect.mem_set_unit]
  intro hm
  have h1 : o ≤ (y 1).val ∧ (y 1).val < o + 64 := hm 1
  omega

/-- A row of the slab reads what was stored there. -/
theorem slab_on {o : ℕ} (L : List (View.Piece (Elt Ideal) S1x512x512 .f32)) (inb)
    (w : (Rect.unit (s := S1x512x512) ![0, o, 0] S1x64x512.size inb).shape.Idx → Elt Ideal .f32)
    (y : S1x512x512.Idx) (h0 : o ≤ (y 1).val) (h1 : (y 1).val < o + 64) :
    View.canon (⟨Rect.unit (s := S1x512x512) ![0, o, 0] S1x64x512.size inb, w⟩ :: L) y
      = w (ix3 0 ⟨(y 1).val - o, by omega⟩ (y 2)) := by
  refine Eq.trans (congrArg _ ?_) (View.canon_cons_emb (Rect.unit (s := S1x512x512) ![0, o, 0] S1x64x512.size inb) w L _)
  funext a
  refine Fin.ext ?_
  have hy : (y 0).val < 1 := (y 0).isLt
  fin_cases a
  · show (y 0).val = 0 + 1 * 0; omega
  · show (y 1).val = o + 1 * ((y 1).val - o); omega
  · show (y 2).val = 0 + 1 * (y 2).val; omega

/-- Equal places give equal keys. -/
theorem key_congr {T : FVec Ideal S1536x512 .f32} {g : FVec Ideal S512x1 .f32} {h h' : Fin 8} {d d' : Fin 64} {p : Fin 512}
    (hh : h = h') (hd : d = d') : key T g h d p = key T g h' d' p := by
  subst hh hd; rfl

/-- The keys a step leaves, at an index. -/
theorem out11_apply (x0 : FVec Ideal S512x1024 .f32) (x1 : FVec Ideal S1x1024 .f32) (x2) (x3 : FVec Ideal S1536x1024 .bf16) (x4 x5 x6)
    (x7 : FVec Ideal S512x1 .f32) (y : S1x512x512.Idx) :
    out1_11 (F := Ideal) x0 x1 x2 x3 x4 x5 x6 x7 y = key (k1_pay6 (k1_pay1 x0 x1) x3) x7
      ⟨(y 1).val / 64, by have : (y 1).val < 512 := (y 1).isLt; omega⟩ ⟨(y 1).val % 64, by omega⟩ (y 2) := by
  have e8 : k1_pay8 (F := Ideal) (View.ld x7 r1_6) = x7 := by
    frame_out
    funext i
    idx_vars i
    pointwise [k1_pay8]
  unfold_out out1_11
  rw [e8]
  frame_out
  have hk : (y 1).val / 64 = 0 ∨ (y 1).val / 64 = 1 ∨ (y 1).val / 64 = 2 ∨ (y 1).val / 64 = 3
    ∨ (y 1).val / 64 = 4 ∨ (y 1).val / 64 = 5 ∨ (y 1).val / 64 = 6 ∨ (y 1).val / 64 = 7 := by
    have : (y 1).val < 512 := (y 1).isLt
    omega
  rcases hk with hk | hk | hk | hk | hk | hk | hk | hk
  · rw [slab_off _ _ _ y (by omega), slab_off _ _ _ y (by omega), slab_off _ _ _ y (by omega), slab_off _ _ _ y (by omega), slab_off _ _ _ y (by omega), slab_off _ _ _ y (by omega), slab_off _ _ _ y (by omega), slab_on _ _ _ y (by omega) (by omega)]
    exact (key0_apply _ _ _ _ _).trans <| key_congr (Fin.ext hk.symm) (Fin.ext (by show (y 1).val - 0 = (y 1).val % 64; omega))
  · rw [slab_off _ _ _ y (by omega), slab_off _ _ _ y (by omega), slab_off _ _ _ y (by omega), slab_off _ _ _ y (by omega), slab_off _ _ _ y (by omega), slab_off _ _ _ y (by omega), slab_on _ _ _ y (by omega) (by omega)]
    exact (key1_apply _ _ _ _).trans <| key_congr (Fin.ext hk.symm) (Fin.ext (by show (y 1).val - 64 = (y 1).val % 64; omega))
  · rw [slab_off _ _ _ y (by omega), slab_off _ _ _ y (by omega), slab_off _ _ _ y (by omega), slab_off _ _ _ y (by omega), slab_off _ _ _ y (by omega), slab_on _ _ _ y (by omega) (by omega)]
    exact (key2_apply _ _ _ _).trans <| key_congr (Fin.ext hk.symm) (Fin.ext (by show (y 1).val - 128 = (y 1).val % 64; omega))
  · rw [slab_off _ _ _ y (by omega), slab_off _ _ _ y (by omega), slab_off _ _ _ y (by omega), slab_off _ _ _ y (by omega), slab_on _ _ _ y (by omega) (by omega)]
    exact (key3_apply _ _ _ _).trans <| key_congr (Fin.ext hk.symm) (Fin.ext (by show (y 1).val - 192 = (y 1).val % 64; omega))
  · rw [slab_off _ _ _ y (by omega), slab_off _ _ _ y (by omega), slab_off _ _ _ y (by omega), slab_on _ _ _ y (by omega) (by omega)]
    exact (key4_apply _ _ _ _).trans <| key_congr (Fin.ext hk.symm) (Fin.ext (by show (y 1).val - 256 = (y 1).val % 64; omega))
  · rw [slab_off _ _ _ y (by omega), slab_off _ _ _ y (by omega), slab_on _ _ _ y (by omega) (by omega)]
    exact (key5_apply _ _ _ _).trans <| key_congr (Fin.ext hk.symm) (Fin.ext (by show (y 1).val - 320 = (y 1).val % 64; omega))
  · rw [slab_off _ _ _ y (by omega), slab_on _ _ _ y (by omega) (by omega)]
    exact (key6_apply _ _ _ _).trans <| key_congr (Fin.ext hk.symm) (Fin.ext (by show (y 1).val - 384 = (y 1).val % 64; omega))
  · rw [slab_on _ _ _ y (by omega) (by omega)]
    exact (key7_apply _ _ _ _).trans <| key_congr (Fin.ext hk.symm) (Fin.ext (by show (y 1).val - 448 = (y 1).val % 64; omega))

/-- The values a step leaves, at an index. -/
theorem out12_apply (x0 : FVec Ideal S512x1024 .f32) (x1 : FVec Ideal S1x1024 .f32) (x2) (x3 : FVec Ideal S1536x1024 .bf16) (x4 x5 x6 x7)
    (y : S1x512x512.Idx) :
    out1_12 (F := Ideal) x0 x1 x2 x3 x4 x5 x6 x7 y = k1_pay6 (F := Ideal) (k1_pay1 x0 x1) x3
      (ix2 ⟨1024 + (y 1).val, by have : (y 1).val < 512 := (y 1).isLt; omega⟩ (y 2)) := by
  unfold_out out1_12
  frame_out
  generalize k1_pay6 (F := Ideal) (k1_pay1 (F := Ideal) x0 x1) x3 = T
  idx_vars y
  pointwise [k1_pay36, k1_pay35]

/-- Equal places give equal indices. -/
theorem ix3_congr {n k l : ℕ} {a a' : Fin n} {b b' : Fin k} {c c' : Fin l} (h0 : a = a') (h1 : b = b') (h2 : c = c') :
    ix3 a b c = ix3 a' b' c' := by
  subst h0 h1 h2; rfl

/-- Equal parts give equal heads. -/
theorem head_congr {z z' g g' : Fin 64 → EReal} {d d' : Fin 64} (h0 : z = z') (h1 : g = g') (h2 : d = d') : head z g d = head z' g' d' := by
  subst h0 h1 h2; rfl

/-- The whole projection, from the arguments. -/
def proj (c : Dev nD) : FVec Ideal Cert.Reference4Ideal.S2x8192x2048 .f32 :=
  table (fed (m ((c : Thread nD τ).loc main_arg0)) (m ((c : Thread nD τ).loc main_arg1))
        (m ((c : Thread nD τ).loc main_arg3)) (m ((c : Thread nD τ).loc main_arg4))
        (m ((c : Thread nD τ).loc main_arg5))) (m ((c : Thread nD τ).loc main_arg2)) (m ((c : Thread nD τ).loc main_arg6))

/-- The transposed query, key and value columns at an index. -/
theorem rows_apply (A : FVec Ideal S1x1024x2048 .f32) (n : Fin 1536) (k : Fin 1024) :
    truncf (F := Ideal) FTy.bf16 (transpose S1536x1024 [1, 0] (concatenate S1024x1536 1 [⟨S1024x512, extractStridedSlice S1024x512 ![0, 0] (shapeCast S1024x2048 A shapeCasts_S1x1024x2048_S1024x2048) slices_S1024x2048_S1024x512_0_0⟩, ⟨S1024x512, extractStridedSlice S1024x512 ![0, 512] (shapeCast S1024x2048 A shapeCasts_S1x1024x2048_S1024x2048) slices_S1024x2048_S1024x512_0_512⟩, ⟨S1024x512, extractStridedSlice S1024x512 ![0, 1024] (shapeCast S1024x2048 A shapeCasts_S1x1024x2048_S1024x2048) slices_S1024x2048_S1024x512_0_1024⟩] concatenates_S1024x512_S1024x512_S1024x512_S1024x1536_d1) transposes_S1024x1536_S1536x1024_1_0) bitsLt_bf16_f32 (ix2 n k)
      = A (ix3 0 k ⟨n.val, by omega⟩) := by
  pointwise
  by_cases h1 : n.val < 512
  · rw [dif_pos h1]
  · rw [dif_neg h1]
    by_cases h2 : n.val - 512 < 512
    · rw [dif_pos h2]
      congr 2
      refine Fin.ext ?_
      show 512 + (n.val - 512) = n.val
      omega
    · rw [dif_neg h2]
      congr 2
      refine Fin.ext ?_
      show 1024 + (n.val - 512 - 512) = n.val
      omega

/-- The pool columns, set beside the key columns, at an index. -/
theorem pools_apply (A : FVec Ideal S1x1024x2048 .f32) (k : Fin 1024) (n : Fin 512) :
    truncf (F := Ideal) FTy.bf16 (concatenate S1024x1024 1 [⟨S1024x512, extractStridedSlice S1024x512 ![0, 512] (shapeCast S1024x2048 A shapeCasts_S1x1024x2048_S1024x2048) slices_S1024x2048_S1024x512_0_512⟩, ⟨S1024x512, extractStridedSlice S1024x512 ![0, 1536] (shapeCast S1024x2048 A shapeCasts_S1x1024x2048_S1024x2048) slices_S1024x2048_S1024x512_0_1536⟩] concatenates_S1024x512_S1024x512_S1024x1024_d1) bitsLt_bf16_f32 (ix2 k ⟨512 + n.val, by omega⟩)
      = A (ix3 0 k ⟨1536 + n.val, by omega⟩) := by
  pointwise

/-- The repeated key gains at an index. -/
theorem gains_apply (A : FVec Ideal S1x64 .f32) (h : Fin 8) (d : Fin 64) :
    shapeCast S512x1 (shapeCast S512 (broadcastInDim S8x64 ![0, 1] bcast_S1x64_S8x64_0_1 (shapeCast S1x64 (shapeCast S64 A shapeCasts_S1x64_S64) shapeCasts_S64_S1x64)) shapeCasts_S8x64_S512) shapeCasts_S512_S512x1 (ix2 ⟨h.val * 64 + d.val, by omega⟩ 0)
      = A (ix2 0 d) := by
  pointwise

/-- Equal parts give equal sums of a normalised row against a column. -/
theorem sum_congr3 {x x' g g' w w' : Fin 1024 → EReal} (h0 : x = x') (h1 : g = g') (h2 : w = w') :
    ∑ k, x k * spread x * g k * w k = ∑ k, x' k * spread x' * g' k * w' k := by
  subst h0 h1 h2; rfl

/-- A row of a step's block of the second call is a fed row. -/
theorem midrow_eq (c : Dev nD) (t : Fin cfg1.N) (p : Fin 512) (k : Fin 1024) (b : Fin 2) (s : Fin 8192)
    (h : t.val * 512 + p.val = b.val * 8192 + s.val) :
    iblk1 (V5 m ρ) c 0 t (ix2 p k) = fed (m ((c : Thread nD τ).loc main_arg0)) (m ((c : Thread nD τ).loc main_arg1))
        (m ((c : Thread nD τ).loc main_arg3)) (m ((c : Thread nD τ).loc main_arg4))
        (m ((c : Thread nD τ).loc main_arg5)) (ix3 b s k) := by
  blk_simp [iblk1]
  rw [V5_v13, mid_eq]
  refine (stacked_apply _ _ b s k ?_ ?_).trans rfl
  · blk_simp [places1 t]; omega
  · blk_simp [places1 t]

/-- A step's transposed product at an index is the projection there. -/
theorem across_eq (c : Dev nD) (t : Fin cfg1.N) (n : Fin 1536) (p : Fin 512) (b : Fin 2) (s : Fin 8192)
    (h : t.val * 512 + p.val = b.val * 8192 + s.val) :
    k1_pay6 (k1_pay1 (iblk1 (V5 m ρ) c 0 t) (iblk1 (V5 m ρ) c 1 t)) (iblk1 (V5 m ρ) c 3 t) (ix2 n p) = proj m c (ix3 b s ⟨n.val, by omega⟩) := by
  unfold proj
  refine (across_apply _ _ _ n p).trans (Eq.trans ?_ (table_apply _ _ _ _ _ _).symm)
  refine sum_congr3 ?_ ?_ ?_
  · funext k; exact midrow_eq m ρ c t p k b s h
  · funext k; blk_simp [iblk1]; rw [V5_v16]; pointwise; blk_ext [places1 t]
  · funext k
    blk_simp [iblk1]
    rw [V5_v24]
    refine Eq.trans (congrArg _ ?_) (rows_apply _ n k)
    blk_ext [places1 t]

/-- A step's product at an index is the projection there. -/
theorem along_eq (c : Dev nD) (t : Fin cfg1.N) (n p : Fin 512) (b : Fin 2) (s : Fin 8192)
    (h : t.val * 512 + p.val = b.val * 8192 + s.val) :
    k1_pay5 (k1_pay2 (iblk1 (V5 m ρ) c 0 t) (iblk1 (V5 m ρ) c 1 t) (iblk1 (V5 m ρ) c 2 t)) (ix2 p n) = proj m c (ix3 b s ⟨1536 + n.val, by omega⟩) := by
  unfold proj
  refine (along_apply _ _ _ p n).trans (Eq.trans ?_ (table_apply _ _ _ _ _ _).symm)
  refine sum_congr3 ?_ ?_ ?_
  · funext k; exact midrow_eq m ρ c t p k b s h
  · funext k; blk_simp [iblk1]; rw [V5_v16]; pointwise; blk_ext [places1 t]
  · funext k
    blk_simp [iblk1]
    rw [V5_v52]
    refine Eq.trans (congrArg _ ?_) (pools_apply _ k n)
    blk_ext [places1 t]

/-- The gains a step reads. -/
theorem gain_eq (c : Dev nD) (t : Fin cfg1.N) (h : Fin 8) (d : Fin 64) :
    iblk1 (V5 m ρ) c 7 t (ix2 ⟨h.val * 64 + d.val, by omega⟩ 0) = m ((c : Thread nD τ).loc main_arg8) (ix2 0 d) := by
  blk_simp [iblk1]
  rw [V5_v43]
  refine Eq.trans (congrArg _ ?_) (gains_apply _ h d)
  blk_ext [places1 t]

/-- The pool rows, stacked. -/
def poolRows (c : Dev nD) : FVec Ideal S16384x512 .f32 := fun i =>
  proj m c (ix3 ⟨(i 0).val / 8192, by have : (i 0).val < 16384 := (i 0).isLt; omega⟩ ⟨(i 0).val % 8192, by omega⟩
    ⟨1536 + (i 1).val, by have : (i 1).val < 512 := (i 1).isLt; omega⟩)

/-- The values, one column per row of the input. -/
def valueCols (c : Dev nD) : FVec Ideal S2x512x8192 .f32 := fun i =>
  proj m c (ix3 (i 0) (i 2) ⟨1024 + (i 1).val, by have : (i 1).val < 512 := (i 1).isLt; omega⟩)

/-- The keys, one column per row of the input. -/
def keyCols (c : Dev nD) : FVec Ideal S2x512x8192 .f32 := fun i =>
  head (fun e => proj m c (ix3 (i 0) (i 2) ⟨512 + ((i 1).val / 64 * 64 + e.val), by have : (i 1).val < 512 := (i 1).isLt; omega⟩))
    (fun e => m ((c : Thread nD τ).loc main_arg8) (ix2 0 e)) ⟨(i 1).val % 64, by omega⟩

/-- What the second call leaves in its pool array. -/
theorem pool_eq (c : Dev nD) : (dat1 (V5 m ρ) c).arrAt 9 cfg1.N = poolRows m c := by
  refine (dat1 (V5 m ρ) c).arrAt_eq_of_covers 9 _ (by decide +kernel) fun t hf y => ?_
  have ht : t.val < 32 := t.isLt
  have hy : (y 0).val < 512 := (y 0).isLt
  have hy1 : (y 1).val < 512 := (y 1).isLt
  blk_simp; rw [after1_9]; frame_out
  refine Eq.trans ?_ ((along_eq m ρ c t (y 1) (y 0) ⟨(t.val * 512 + (y 0).val) / 8192, by omega⟩ ⟨(t.val * 512 + (y 0).val) % 8192, by omega⟩
    (by dsimp only; omega)).trans ?_)
  · refine congrArg _ ?_; funext a; fin_cases a <;> rfl
  · unfold poolRows; blk_ext [places1 t]

/-- What the second call leaves in its value array. -/
theorem value_eq (c : Dev nD) : (dat1 (V5 m ρ) c).arrAt 12 cfg1.N = valueCols m c := by
  refine (dat1 (V5 m ρ) c).arrAt_eq_of_covers 12 _ (by decide +kernel) fun t hf y => ?_
  have ht : t.val < 32 := t.isLt
  have hy1 : (y 1).val < 512 := (y 1).isLt
  have hy2 : (y 2).val < 512 := (y 2).isLt
  blk_simp; rw [after1_12]
  refine (out12_apply _ _ _ _ _ _ _ _ y).trans ((across_eq m ρ c t ⟨1024 + (y 1).val, by omega⟩ (y 2) ⟨t.val / 16, by omega⟩ ⟨t.val % 16 * 512 + (y 2).val, by omega⟩
    (by dsimp only; omega)).trans ?_)
  unfold valueCols; blk_ext [places1 t]

/-- What the second call leaves in its key array. -/
theorem key_eq (c : Dev nD) : (dat1 (V5 m ρ) c).arrAt 11 cfg1.N = keyCols m c := by
  refine (dat1 (V5 m ρ) c).arrAt_eq_of_covers 11 _ (by decide +kernel) fun t hf y => ?_
  have ht : t.val < 32 := t.isLt
  have hy1 : (y 1).val < 512 := (y 1).isLt
  have hy2 : (y 2).val < 512 := (y 2).isLt
  blk_simp; rw [after1_11]
  refine (out11_apply _ _ _ _ _ _ _ _ y).trans ?_
  unfold key keyCols
  refine head_congr ?_ ?_ ?_
  · funext e
    refine (across_eq m ρ c t _ (y 2) ⟨t.val / 16, by omega⟩ ⟨t.val % 16 * 512 + (y 2).val, by omega⟩ (by dsimp only; omega)).trans ?_
    blk_ext [places1 t]
  · funext e
    exact gain_eq m ρ c t _ e
  · refine Fin.ext ?_; blk_simp [places1 t]

/-- An array of columns laid out in heads, at an index. -/
theorem cols_apply (A : FVec Ideal S2x512x8192 .f32) (b : Fin 2) (s : Fin 8192) (h : Fin 8) (d : Fin 64) :
    broadcastInDim S1x2x8192x8x64 ![1, 2, 3, 4] bcast_S2x8192x8x64_S1x2x8192x8x64_1_2_3_4 (transpose S2x8192x8x64 [0, 3, 1, 2] (shapeCast S2x8x64x8192 A shapeCasts_S2x512x8192_S2x8x64x8192) transposes_S2x8x64x8192_S2x8192x8x64_0_3_1_2) (ix5 0 b s h d)
      = A (ix3 b ⟨h.val * 64 + d.val, by omega⟩ s) := by
  pointwise

/-- The last fifteen rows of each sequence, at an index. -/
theorem last_apply (A : FVec Ideal S16384x512 .f32) (b : Fin 2) (r : Fin 15) (n : Fin 512) :
    broadcastInDim S1x2x15x512 ![1, 2, 3] bcast_S2x15x512_S1x2x15x512_1_2_3 (extractStridedSlice S2x15x512 ![0, 8177, 0] (shapeCast S2x8192x512 A shapeCasts_S16384x512_S2x8192x512) slices_S2x8192x512_S2x15x512_0_8177_0) (ix4 0 b r n)
      = A (ix2 ⟨b.val * 8192 + (8177 + r.val), by omega⟩ n) := by
  pointwise

/-- The keys that the joined calls hand back, from the arguments. -/
def keysOut (c : Dev nD) : FVec Ideal S1x2x8192x8x64 .f32 := outK (proj m c) (m ((c : Thread nD τ).loc main_arg8))

/-- The values that the joined calls hand back, from the arguments. -/
def valuesOut (c : Dev nD) : FVec Ideal S1x2x8192x8x64 .f32 := outV (proj m c)

/-- The pool rows that the joined calls hand back, from the arguments. -/
def poolOut (c : Dev nD) : FVec Ideal S1x2x15x512 .f32 := outU (proj m c)

/-- The first result of the kernel is the first result of the reference. -/
theorem result0_eq (c : Dev nD) : W7 m ρ c (Proc.devRef .tc main_v56) = keysOut m c := by
  unfold keysOut
  rw [W7_v56, key_eq]
  funext i
  idx_vars i
  obtain rfl : i0 = 0 := Subsingleton.elim _ _
  refine (cols_apply _ i1 i2 i3 i4).trans (Eq.trans ?_ (outK_apply _ _ i1 i2 i3 i4).symm)
  unfold keyCols
  refine head_congr ?_ rfl ?_
  · funext e
    refine congrArg (proj m c) (ix3_congr rfl rfl (Fin.ext ?_))
    show 512 + ((i3.val * 64 + i4.val) / 64 * 64 + e.val) = 512 + (i3.val * 64 + e.val)
    omega
  · refine Fin.ext ?_; show (i3.val * 64 + i4.val) % 64 = i4.val; omega

/-- The second result of the kernel is the second result of the reference. -/
theorem result1_eq (c : Dev nD) : W7 m ρ c (Proc.devRef .tc main_v59) = valuesOut m c := by
  unfold valuesOut
  rw [W7_v59, value_eq]
  funext i
  idx_vars i
  obtain rfl : i0 = 0 := Subsingleton.elim _ _
  exact (cols_apply _ i1 i2 i3 i4).trans (outV_apply _ i1 i2 i3 i4).symm

/-- The third result of the kernel is the third result of the reference. -/
theorem result2_eq (c : Dev nD) : W7 m ρ c (Proc.devRef .tc main_v62) = poolOut m c := by
  unfold poolOut
  rw [W7_v62, pool_eq]
  funext i
  idx_vars i
  obtain rfl : i0 = 0 := Subsingleton.elim _ _
  refine (last_apply _ i1 i2 i3).trans (Eq.trans ?_ (outU_apply _ i1 i2 i3).symm)
  unfold poolRows
  refine congrArg (proj m c) (ix3_congr (Fin.ext ?_) (Fin.ext ?_) rfl)
  · show (i1.val * 8192 + (8177 + i2.val)) / 8192 = i1.val; omega
  · show (i1.val * 8192 + (8177 + i2.val)) % 8192 = 8177 + i2.val; omega

/-- The joined calls run to their end, hand back the three results and leave their arguments as they were. -/
theorem run_values : θ_run (defs (F := Ideal)) (onTc (τ := τ) (main (F := Ideal))) ⟨m, fun _ => 0, ρ⟩ (fun r => ∀ c : Dev nD,
      r.2.mem ((c : Thread nD τ).loc main_v56) = keysOut m c
        ∧ r.2.mem ((c : Thread nD τ).loc main_v59) = valuesOut m c
        ∧ r.2.mem ((c : Thread nD τ).loc main_v62) = poolOut m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)) :=
  (θ_run (defs (F := Ideal)) _ _).mono
    (fun r h c => ⟨(h c).1.trans (result0_eq m ρ c), (h c).2.1.trans (result1_eq m ρ c), (h c).2.2.1.trans (result2_eq m ρ c), (h c).2.2.2⟩)
    (run_results m ρ)

end Cert.Kernel4Ideal.Math

end
-- ==== Proof.Join.Claim.lean ====
module

public import proofs.«01_k».proof.Defs
public import proofs.«01_k».proof.Proof.Gen.Reference4Ideal.Run
public import proofs.«01_k».proof.Proof.Join.Value

@[expose] public section

set_option maxRecDepth 16384

noncomputable section

namespace Cert.Proof

open Idealize.ShloMosaic Idealize.SL.Sem

/-- The reference of the joined calls runs to its end, leaves its arguments as they were and every counter at zero. -/
theorem join_reference_frame : Cert.quiescent_Reference4Ideal := by
  intro m g _
  exact (θ_run Cert.Reference4Ideal.defs _ _).mono
    (fun r h => ⟨fun c => (h.1 c).2.2.2, h.2⟩)
    (show θ_run _ _ _ (fun r => (∀ c, _ ∧ _ ∧ _ ∧ _) ∧ r.2.sem = fun _ => 0) from
      (θ_run Cert.Reference4Ideal.defs _ _).mono
        (fun r h => ⟨h, Idealize.ShloMosaic.sem_eq_zero_of_no_sems (by decide) r.2⟩)
        (Cert.Reference4Ideal.Value.run (F := Ideal) m g))

/-- The reference's keys, as its stages one after the other. -/
theorem join_keys (m : (ℓ : Loc Cert.Reference4Ideal.nD Cert.Reference4Ideal.τ Cert.Reference4Ideal.sig) → Buf (Elt Ideal) ℓ)
    (c : Dev Cert.Reference4Ideal.nD) : Cert.Reference4Ideal.Value.res_main_v83 m c = Cert.Reference4Ideal.Math.outK (Cert.Reference4Ideal.Math.table (Cert.Reference4Ideal.Math.fed (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))
        (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))
        (m ((c.tc : Thread Cert.Reference4Ideal.nD Cert.Reference4Ideal.τ).loc Cert.Reference4Ideal.main_arg5)))
        (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg6))) (m ((c.tc : Thread Cert.Reference4Ideal.nD Cert.Reference4Ideal.τ).loc Cert.Reference4Ideal.main_arg8)) := by
  unfold Cert.Reference4Ideal.Value.res_main_v83
  rfl

/-- The reference's values, as its stages one after the other. -/
theorem join_values (m : (ℓ : Loc Cert.Reference4Ideal.nD Cert.Reference4Ideal.τ Cert.Reference4Ideal.sig) → Buf (Elt Ideal) ℓ)
    (c : Dev Cert.Reference4Ideal.nD) : Cert.Reference4Ideal.Value.res_main_v84 m c = Cert.Reference4Ideal.Math.outV (Cert.Reference4Ideal.Math.table (Cert.Reference4Ideal.Math.fed (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))
        (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))
        (m ((c.tc : Thread Cert.Reference4Ideal.nD Cert.Reference4Ideal.τ).loc Cert.Reference4Ideal.main_arg5)))
        (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg6))) := by
  unfold Cert.Reference4Ideal.Value.res_main_v84
  rfl

/-- The reference's pool, as its stages one after the other. -/
theorem join_pool (m : (ℓ : Loc Cert.Reference4Ideal.nD Cert.Reference4Ideal.τ Cert.Reference4Ideal.sig) → Buf (Elt Ideal) ℓ)
    (c : Dev Cert.Reference4Ideal.nD) : Cert.Reference4Ideal.Value.res_main_v86 m c = Cert.Reference4Ideal.Math.outU (Cert.Reference4Ideal.Math.table (Cert.Reference4Ideal.Math.fed (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))
        (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))
        (m ((c.tc : Thread Cert.Reference4Ideal.nD Cert.Reference4Ideal.τ).loc Cert.Reference4Ideal.main_arg5)))
        (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg6))) := by
  unfold Cert.Reference4Ideal.Value.res_main_v86
  rfl

set_option maxHeartbeats 2000000 in
/-- The joined calls and their reference end with equal keys, values and pool rows over the reals. -/
theorem join_algebraic : Cert.algebraic_Kernel4Ideal_Reference4Ideal := by
  pair_intro
  · run_from Cert.Kernel4Ideal.Math.run_values m g
  · run_from Cert.Reference4Ideal.Value.run m' g'
    all_goals obtain ⟨a0, a1, a2, a3, a4, a5, a6, a7, a8⟩ := hagree c
    · refine (join_keys m' c).trans ?_
      unfold Cert.Kernel4Ideal.Math.keysOut Cert.Kernel4Ideal.Math.proj
      rw [a0, a1, a2, a3, a4, a5, a6, a8]
    · refine (join_values m' c).trans ?_
      unfold Cert.Kernel4Ideal.Math.valuesOut Cert.Kernel4Ideal.Math.proj
      rw [a0, a1, a2, a3, a4, a5, a6]
    · refine (join_pool m' c).trans ?_
      unfold Cert.Kernel4Ideal.Math.poolOut Cert.Kernel4Ideal.Math.proj
      rw [a0, a1, a2, a3, a4, a5, a6]

end Cert.Proof

end
-- ==== Proof.Sample.Ref.lean ====
module

public import proofs.«01_k».proof.Proof.Gen.Reference5Ideal
public import proofs.«01_k».proof.Proof.Join.Ref
public import Idealize.ShloMosaic.Lib.Pointwise

@[expose] public section

set_option maxRecDepth 16384

noncomputable section

open Idealize.ShloMosaic Idealize.ShloMosaic.TcCoe Idealize.SL.Sem

namespace Cert.Reference5Ideal.Math

open Cert.Reference5Ideal Cert.Reference5Ideal.Gen
open Cert.Reference2Ideal.Math (spread entry)
open Cert.Reference4Ideal.Math (line)

/-- The sample rows after the feed-forward. -/
def fed (a0 : FVec Ideal S32x8x1024 .f32) (a2 : FVec Ideal S2x1024 .f32) (a4 a5 : FVec Ideal S2x1024x2816 .f32)
    (a6 : FVec Ideal S2x2816x1024 .f32) : FVec Ideal S32x8x1024 .f32 :=
  addf a0 (mulf (broadcastInDim S32x8x1024 ![] bcast_S_S32x8x1024 (constant S_ .f32 0x3F000000#32)) (Host.dotGeneral dot_S32x8x2816_S2816x1024_S32x8x1024_2_0_01_1_n_n none (mulf (mulf (Host.dotGeneral dot_S32x8x1024_S1024x2816_S32x8x2816_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a2 slices_S2x1024_S1x1024_0_0) shapeCasts_S1x1024_S1024)))) (shapeCast _ (extractStridedSlice S1x1024x2816 ![0, 0, 0] a4 slices_S2x1024x2816_S1x1024x2816_0_0_0) shapeCasts_S1x1024x2816_S1024x2816)) (Host.divf (broadcastInDim S32x8x2816 ![] bcast_S_S32x8x2816 (constant S_ .f32 0x3F800000#32)) (addf (broadcastInDim S32x8x2816 ![] bcast_S_S32x8x2816 (constant S_ .f32 0x3F800000#32)) (Host.exp (Host.negf (Host.dotGeneral dot_S32x8x1024_S1024x2816_S32x8x2816_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a2 slices_S2x1024_S1x1024_0_0) shapeCasts_S1x1024_S1024)))) (shapeCast _ (extractStridedSlice S1x1024x2816 ![0, 0, 0] a4 slices_S2x1024x2816_S1x1024x2816_0_0_0) shapeCasts_S1x1024x2816_S1024x2816))))))) (Host.dotGeneral dot_S32x8x1024_S1024x2816_S32x8x2816_2_0_01_1_n_n none (mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] a2 slices_S2x1024_S1x1024_0_0) shapeCasts_S1x1024_S1024)))) (shapeCast _ (extractStridedSlice S1x1024x2816 ![0, 0, 0] a5 slices_S2x1024x2816_S1x1024x2816_0_0_0) shapeCasts_S1x1024x2816_S1024x2816))) (shapeCast _ (extractStridedSlice S1x2816x1024 ![0, 0, 0] a6 slices_S2x2816x1024_S1x2816x1024_0_0_0) shapeCasts_S1x2816x1024_S2816x1024)))

/-- The sample rows after the feed-forward, at an index. -/
theorem fed_apply (a0 : FVec Ideal S32x8x1024 .f32) (a2 : FVec Ideal S2x1024 .f32) (a4 a5 : FVec Ideal S2x1024x2816 .f32)
    (a6 : FVec Ideal S2x2816x1024 .f32) (b : Fin 32) (s : Fin 8) (j : Fin 1024) :
    fed a0 a2 a4 a5 a6 (ix3 b s j) = entry (fun k => a0 (ix3 b s k)) (fun k => a2 (ix2 0 k)) (fun k n => a4 (ix3 0 k n))
      (fun k n => a5 (ix3 0 k n)) (fun n k => a6 (ix3 0 n k)) j := by
  pointwise [fed]
  rfl

/-- Sample rows normalised by their mean square and scaled by the first row of gains. -/
def normed (X : FVec Ideal S32x8x1024 .f32) (g : FVec Ideal S2x1024 .f32) : FVec Ideal S32x8x1024 .f32 :=
  mulf (mulf X (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf X X) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] g slices_S2x1024_S1x1024_0_0) shapeCasts_S1x1024_S1024)))

/-- The normalised sample rows at an index. -/
theorem normed_apply (X : FVec Ideal S32x8x1024 .f32) (g : FVec Ideal S2x1024 .f32) (b : Fin 32) (s : Fin 8) (k : Fin 1024) :
    normed X g (ix3 b s k) = X (ix3 b s k) * spread (fun k => X (ix3 b s k)) * g (ix2 0 k) := by
  pointwise [normed]
  rfl

/-- The whole projection of the sample rows: queries, keys, values and pool rows side by side. -/
def table (X : FVec Ideal S32x8x1024 .f32) (g : FVec Ideal S2x1024 .f32) (a7 : FVec Ideal S1x1024x2048 .f32) :
    FVec Ideal S32x8x2048 .f32 :=
  Host.dotGeneral dot_S32x8x1024_S1024x2048_S32x8x2048_2_0_01_1_n_n none (normed X g) (shapeCast _ a7 shapeCasts_S1x1024x2048_S1024x2048)

/-- The projection at an index. -/
theorem table_apply (X : FVec Ideal S32x8x1024 .f32) (g : FVec Ideal S2x1024 .f32) (a7 : FVec Ideal S1x1024x2048 .f32)
    (b : Fin 32) (s : Fin 8) (n : Fin 2048) :
    table X g a7 (ix3 b s n) = line (fun k => X (ix3 b s k)) (fun k => g (ix2 0 k)) (fun k n => a7 (ix3 0 k n)) n := by
  pointwise [table]
  simp only [normed_apply]
  rfl

/-- The first result: the values of every sample row. -/
abbrev outV (T : FVec Ideal S32x8x2048 .f32) : FVec Ideal S1x32x8x8x64 .f32 :=
  broadcastInDim S1x32x8x8x64 ![1, 2, 3, 4] bcast_S32x8x8x64_S1x32x8x8x64_1_2_3_4 (shapeCast _ (extractStridedSlice S32x8x512 ![0, 0, 1024] T slices_S32x8x2048_S32x8x512_0_0_1024) shapeCasts_S32x8x512_S32x8x8x64)

/-- The second result: the last fifteen pool rows of each sequence, old rows first. -/
abbrev outU (P : FVec Ideal S1x32x15x512 .f32) (T : FVec Ideal S32x8x2048 .f32) : FVec Ideal S1x32x15x512 .f32 :=
  broadcastInDim S1x32x15x512 ![1, 2, 3] bcast_S32x15x512_S1x32x15x512_1_2_3 (extractStridedSlice S32x15x512 ![0, 8, 0] (concatenate S32x23x512 1 [⟨S32x15x512, (shapeCast _ P shapeCasts_S1x32x15x512_S32x15x512)⟩, ⟨S32x8x512, (extractStridedSlice S32x8x512 ![0, 0, 1536] T slices_S32x8x2048_S32x8x512_0_0_1536)⟩] concatenates_S32x15x512_S32x8x512_S32x23x512_d1) slices_S32x23x512_S32x15x512_0_8_0)

/-- The first result at an index. -/
theorem outV_apply (T : FVec Ideal S32x8x2048 .f32) (b : Fin 32) (s : Fin 8) (h : Fin 8) (d : Fin 64) :
    outV T (ix5 0 b s h d) = T (ix3 b s ⟨1024 + (h.val * 64 + d.val), by omega⟩) := by
  pointwise [outV]

/-- The pool columns of the projection of the sample rows. -/
def pools (T : FVec Ideal S32x8x2048 .f32) : FVec Ideal S32x8x512 .f32 :=
  extractStridedSlice S32x8x512 ![0, 0, 1536] T slices_S32x8x2048_S32x8x512_0_0_1536

/-- The pool columns at an index. -/
theorem pools_apply (T : FVec Ideal S32x8x2048 .f32) (b : Fin 32) (s : Fin 8) (n : Fin 512) :
    pools T (ix3 b s n) = T (ix3 b s ⟨1536 + n.val, by omega⟩) := by
  pointwise [pools]

end Cert.Reference5Ideal.Math

end
-- ==== Proof.Sample.Host.lean ====
module

public import proofs.«01_k».proof.Proof.Gen.Kernel5Ideal.Frame
public import proofs.«01_k».proof.Proof.Sample.Ref
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Math

open Cert.Kernel5Ideal Cert.Kernel5Ideal.Gen

variable (m : (ℓ : Loc nD τ sig) → Buf (Elt Ideal) ℓ) (ρ : Dev nD → PrngReg)

/-- The rows that enter the first call. -/
theorem V1_v0 (c : Dev nD) : V1 m ρ c main_v0 = shapeCast S256x1024 (m ((c : Thread nD τ).loc main_arg0)) shapeCasts_S32x8x1024_S256x1024 := by
  dsimp only [V1, W1, hostOps0]
  entry_read
  rfl

/-- The gains of the first call. -/
theorem V1_v3 (c : Dev nD) : V1 m ρ c main_v3 = shapeCast S1x1024 (shapeCast S1024 (extractStridedSlice S1x1024 ![0, 0] (m ((c : Thread nD τ).loc main_arg2)) slices_S2x1024_S1x1024_0_0) shapeCasts_S1x1024_S1024) shapeCasts_S1024_S1x1024 := by
  dsimp only [V1, W1, hostOps0]
  entry_read
  rfl

/-- The gating weights of the first call. -/
theorem V1_v6 (c : Dev nD) : V1 m ρ c main_v6 = truncf (F := Ideal) FTy.bf16 (shapeCast S1024x2816 (extractStridedSlice S1x1024x2816 ![0, 0, 0] (m ((c : Thread nD τ).loc main_arg4)) slices_S2x1024x2816_S1x1024x2816_0_0_0) shapeCasts_S1x1024x2816_S1024x2816) bitsLt_bf16_f32 := by
  dsimp only [V1, W1, hostOps0]
  entry_read
  rfl

/-- The other weights of the first call. -/
theorem V1_v9 (c : Dev nD) : V1 m ρ c main_v9 = truncf (F := Ideal) FTy.bf16 (shapeCast S1024x2816 (extractStridedSlice S1x1024x2816 ![0, 0, 0] (m ((c : Thread nD τ).loc main_arg5)) slices_S2x1024x2816_S1x1024x2816_0_0_0) shapeCasts_S1x1024x2816_S1024x2816) bitsLt_bf16_f32 := by
  dsimp only [V1, W1, hostOps0]
  entry_read
  rfl

/-- The carrying weights of the first call. -/
theorem V1_v12 (c : Dev nD) : V1 m ρ c main_v12 = truncf (F := Ideal) FTy.bf16 (shapeCast S2816x1024 (extractStridedSlice S1x2816x1024 ![0, 0, 0] (m ((c : Thread nD τ).loc main_arg6)) slices_S2x2816x1024_S1x2816x1024_0_0_0) shapeCasts_S1x2816x1024_S2816x1024) bitsLt_bf16_f32 := by
  dsimp only [V1, W1, hostOps0]
  entry_read
  rfl

/-- The rows that enter the second call are what the first call leaves. -/
theorem V5_v13 (c : Dev nD) : V5 m ρ c main_v13 = (dat0 (V1 m ρ) c).arrAt 5 cfg0.N :=
  (W5_of m ρ c main_v13 (by decide)).trans ((W4_of m ρ c main_v13 (by decide)).trans ((W3_of m ρ c main_v13 (by decide)).trans (W2_arr m ρ c 5)))

/-- The gains of the second call. -/
theorem V5_v16 (c : Dev nD) : V5 m ρ c main_v16 = shapeCast S1x1024 (shapeCast S1024 (extractStridedSlice S1x1024 ![0, 0] (m ((c : Thread nD τ).loc main_arg3)) slices_S2x1024_S1x1024_0_0) shapeCasts_S1x1024_S1024) shapeCasts_S1024_S1x1024 := by
  refine (W5_of m ρ c main_v16 (by decide)).trans ((W4_of m ρ c main_v16 (by decide)).trans ?_)
  rw [← W2_args m ρ c main_arg3 (by decide)]
  dsimp only [W3, hostOps1]
  entry_read
  rfl

/-- The key columns of the projecting weights. -/
theorem W4_v19 (c : Dev nD) : W4 m ρ c (Proc.devRef .tc main_v19) = extractStridedSlice S1024x512 ![0, 512] (shapeCast S1024x2048 (m ((c : Thread nD τ).loc main_arg7)) shapeCasts_S1x1024x2048_S1024x2048) slices_S1024x2048_S1024x512_0_512 := by
  refine (W4_of m ρ c main_v19 (by decide)).trans ?_
  rw [← W2_args m ρ c main_arg7 (by decide)]
  dsimp only [W3, hostOps1]
  entry_read
  rfl

/-- The value columns of the projecting weights. -/
theorem W4_v20 (c : Dev nD) : W4 m ρ c (Proc.devRef .tc main_v20) = extractStridedSlice S1024x512 ![0, 1024] (shapeCast S1024x2048 (m ((c : Thread nD τ).loc main_arg7)) shapeCasts_S1x1024x2048_S1024x2048) slices_S1024x2048_S1024x512_0_1024 := by
  refine (W4_of m ρ c main_v20 (by decide)).trans ?_
  rw [← W2_args m ρ c main_arg7 (by decide)]
  dsimp only [W3, hostOps1]
  entry_read
  rfl

/-- The pool columns of the projecting weights. -/
theorem W4_v21 (c : Dev nD) : W4 m ρ c (Proc.devRef .tc main_v21) = extractStridedSlice S1024x512 ![0, 1536] (shapeCast S1024x2048 (m ((c : Thread nD τ).loc main_arg7)) shapeCasts_S1x1024x2048_S1024x2048) slices_S1024x2048_S1024x512_0_1536 := by
  refine (W4_of m ρ c main_v21 (by decide)).trans ?_
  rw [← W2_args m ρ c main_arg7 (by decide)]
  dsimp only [W3, hostOps1]
  entry_read
  rfl

/-- Equal parts make equal rows of three parts. -/
theorem join3 {a b c a' b' c' : FVec Ideal S1024x512 .f32} (ha : a = a') (hb : b = b') (hc : c = c') :
    concatenate S1024x1536 1 [⟨S1024x512, a⟩, ⟨S1024x512, b⟩, ⟨S1024x512, c⟩] concatenates_S1024x512_S1024x512_S1024x512_S1024x1536_d1
      = concatenate S1024x1536 1 [⟨S1024x512, a'⟩, ⟨S1024x512, b'⟩, ⟨S1024x512, c'⟩] concatenates_S1024x512_S1024x512_S1024x512_S1024x1536_d1 := by
  subst ha hb hc; rfl

/-- The key, value and pool columns side by side. -/
theorem V5_v52 (c : Dev nD) : V5 m ρ c main_v52 = truncf (F := Ideal) FTy.bf16 (concatenate S1024x1536 1 [⟨S1024x512, extractStridedSlice S1024x512 ![0, 512] (shapeCast S1024x2048 (m ((c : Thread nD τ).loc main_arg7)) shapeCasts_S1x1024x2048_S1024x2048) slices_S1024x2048_S1024x512_0_512⟩, ⟨S1024x512, extractStridedSlice S1024x512 ![0, 1024] (shapeCast S1024x2048 (m ((c : Thread nD τ).loc main_arg7)) shapeCasts_S1x1024x2048_S1024x2048) slices_S1024x2048_S1024x512_0_1024⟩, ⟨S1024x512, extractStridedSlice S1024x512 ![0, 1536] (shapeCast S1024x2048 (m ((c : Thread nD τ).loc main_arg7)) shapeCasts_S1x1024x2048_S1024x2048) slices_S1024x2048_S1024x512_0_1536⟩] concatenates_S1024x512_S1024x512_S1024x512_S1024x1536_d1) bitsLt_bf16_f32 := by
  rw [← W4_v19 m ρ c, ← W4_v20 m ρ c, ← W4_v21 m ρ c]
  dsimp only [V5, W5, hostOps1_2]
  after_results_simp
  refine congrArg (truncf (F := Ideal) FTy.bf16 · bitsLt_bf16_f32) (join3 ?_ ?_ ?_)
  · rfl
  · rfl
  · rfl

/-- The first result, from what the second call leaves. -/
theorem W7_v56 (c : Dev nD) : W7 m ρ c (Proc.devRef .tc main_v56) = broadcastInDim S1x32x8x8x64 ![1, 2, 3, 4] bcast_S32x8x8x64_S1x32x8x8x64_1_2_3_4 (shapeCast S32x8x8x64 ((dat1 (V5 m ρ) c).arrAt 15 cfg1.N) shapeCasts_S256x512_S32x8x8x64) := by
  rw [← W6_arr m ρ c 15]
  dsimp only [W7, hostOps2]
  entry_read
  rfl

/-- The second result, from what the second call leaves and the old pool rows. -/
theorem W7_v60 (c : Dev nD) : W7 m ρ c (Proc.devRef .tc main_v60) = broadcastInDim S1x32x15x512 ![1, 2, 3] bcast_S32x15x512_S1x32x15x512_1_2_3 (extractStridedSlice S32x15x512 ![0, 8, 0] (concatenate S32x23x512 1 [⟨S32x15x512, shapeCast S32x15x512 (m ((c : Thread nD τ).loc main_arg1)) shapeCasts_S1x32x15x512_S32x15x512⟩, ⟨S32x8x512, shapeCast S32x8x512 ((dat1 (V5 m ρ) c).arrAt 9 cfg1.N) shapeCasts_S256x512_S32x8x512⟩] concatenates_S32x15x512_S32x8x512_S32x23x512_d1) slices_S32x23x512_S32x15x512_0_8_0) := by
  rw [← W6_arr m ρ c 9, ← W6_args m ρ c main_arg1 (by decide)]
  dsimp only [W7, hostOps2]
  entry_read
  rfl

end Cert.Kernel5Ideal.Math

end
-- ==== Proof.Sample.Run.lean ====
module

public import proofs.«01_k».proof.Proof.Gen.Kernel5Ideal.Frame

@[expose] public section

set_option maxRecDepth 16384

noncomputable section

namespace Cert.Kernel5Ideal.Math

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The sample calls run to their end: each result array holds what the last host operations leave, and the arguments are as they were. -/
theorem run_results : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c => ⟨h c _ (mem_uc main_v56 (by decide)), h c _ (mem_uc main_v60 (by decide)), (h c _ (mem_uc main_arg0 (by decide))).trans (W7_main_arg0 m ρ c), (h c _ (mem_uc main_arg1 (by decide))).trans (W7_main_arg1 m ρ c), (h c _ (mem_uc main_arg2 (by decide))).trans (W7_main_arg2 m ρ c), (h c _ (mem_uc main_arg3 (by decide))).trans (W7_main_arg3 m ρ c), (h c _ (mem_uc main_arg4 (by decide))).trans (W7_main_arg4 m ρ c), (h c _ (mem_uc main_arg5 (by decide))).trans (W7_main_arg5 m ρ c), (h c _ (mem_uc main_arg6 (by decide))).trans (W7_main_arg6 m ρ c), (h c _ (mem_uc main_arg7 (by decide))).trans (W7_main_arg7 m ρ c), (h c _ (mem_uc main_arg8 (by decide))).trans (W7_main_arg8 m ρ c), (h c _ (mem_uc main_arg9 (by decide))).trans (W7_main_arg9 m ρ c)⟩)

end Cert.Kernel5Ideal.Math

end
-- ==== Proof.Sample.Value.lean ====
module

public import proofs.«01_k».proof.Proof.Sample.Host
public import proofs.«01_k».proof.Proof.Sample.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Math

open Cert.Kernel5Ideal Cert.Kernel5Ideal.Gen
open Cert.Reference2Ideal.Math (spread entry)
open Cert.Reference5Ideal.Math (fed fed_apply table table_apply outV outV_apply outU pools pools_apply)

variable (m : (ℓ : Loc nD τ sig) → Buf (Elt Ideal) ℓ) (ρ : Dev nD → PrngReg)

/-- Where each window's block lies at each step of the first call: the rows move with the step, the weights stay. -/
theorem places0 : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- Where each window's block lies at each step of the second call: the rows and the results move with the step. -/
theorem places1 : ∀ t : Fin cfg1.N, win1_0.index t = ![t.val, 0]
    ∧ win1_1.index t = ![0, 0]
    ∧ win1_2.index t = ![0, 0]
    ∧ win1_9.index t = ![t.val, 0]
    ∧ win1_15.index t = ![t.val, 0] :=
  (by decide +kernel : ∀ t : Fin grid1.N, _)

/-- The block that a step of the first call stores, read at a row and a column, over any five blocks. -/
theorem stored0_apply (X : FVec Ideal S256x1024 .f32) (G : FVec Ideal S1x1024 .f32) (A B : FVec Ideal S1024x2816 .bf16)
    (D : FVec Ideal S2816x1024 .bf16) (y : S256x1024.Idx) :
    k0_pay1 (F := Ideal) X G A B D y = entry (fun k => X (ix2 (y 0) k)) (fun k => G (ix2 0 k))
      (fun k n => A (ix2 k n)) (fun k n => B (ix2 k n)) (fun n k => D (ix2 n k)) (y 1) := by
  idx_vars y
  pointwise [k0_pay1]
  rfl

/-- Equal parts give equal entries. -/
theorem entry_congr {x x' g g' : Fin 1024 → EReal} {wg wg' wu wu' : Fin 1024 → Fin 2816 → EReal} {wd wd' : Fin 2816 → Fin 1024 → EReal}
    {j : Fin 1024} (h0 : x = x') (h1 : g = g') (h2 : wg = wg') (h3 : wu = wu') (h4 : wd = wd') :
    entry x g wg wu wd j = entry x' g' wg' wu' wd' j := by
  subst h0 h1 h2 h3 h4; rfl

/-- The stacked rows at an index. -/
theorem stacked_apply (A : FVec Ideal S32x8x1024 .f32) (i : S256x1024.Idx) (b : Fin 32) (s : Fin 8) (k : Fin 1024)
    (h : (i 0).val = b.val * 8 + s.val) (hk : (i 1).val = k.val) :
    shapeCast S256x1024 A shapeCasts_S32x8x1024_S256x1024 i = A (ix3 b s k) := by
  idx_vars i
  pointwise
  blk_ext

/-- A row of a step's block is the row of the input where it lies. -/
theorem row_eq (c : Dev nD) (t : Fin cfg0.N) (p : Fin 256) (k : Fin 1024) (b : Fin 32) (s : Fin 8)
    (h : t.val * 256 + p.val = b.val * 8 + s.val) :
    iblk0 (V1 m ρ) c 0 t (ix2 p k) = m ((c : Thread nD τ).loc main_arg0) (ix3 b s k) := by
  blk_simp [iblk0]
  rw [V1_v0]
  refine (stacked_apply _ _ b s k ?_ ?_).trans rfl
  · blk_simp [places0 t]; omega
  · blk_simp [places0 t]

/-- The rows after the feed-forward, stacked. -/
def mid (c : Dev nD) : FVec Ideal S256x1024 .f32 :=
  shapeCast S256x1024 (fed (m ((c : Thread nD τ).loc main_arg0)) (m ((c : Thread nD τ).loc main_arg2))
        (m ((c : Thread nD τ).loc main_arg4)) (m ((c : Thread nD τ).loc main_arg5))
        (m ((c : Thread nD τ).loc main_arg6))) shapeCasts_S32x8x1024_S256x1024

set_option maxHeartbeats 2000000 in
/-- Entry `y` of the block that a step of the first call stores is the fed row where that entry lies. -/
theorem entry0_eq (c : Dev nD) (t : Fin cfg0.N) (y) :
    k0_pay1 (iblk0 (V1 m ρ) c 0 t) (iblk0 (V1 m ρ) c 1 t) (iblk0 (V1 m ρ) c 2 t) (iblk0 (V1 m ρ) c 3 t) (iblk0 (V1 m ρ) c 4 t) y
      = mid m c (((cfg0.win 5).blk t).view.emb y) := by
  have ht : t.val < 1 := t.isLt
  have hy : (y 0).val < 256 := (y 0).isLt
  unfold mid
  refine (stored0_apply _ _ _ _ _ y).trans (Eq.trans ?_ (stacked_apply _ _
    ⟨(t.val * 256 + (y 0).val) / 8, by omega⟩ ⟨(t.val * 256 + (y 0).val) % 8, by omega⟩ (y 1) ?_ ?_).symm)
  · refine Eq.trans ?_ (fed_apply _ _ _ _ _ _ _ _).symm
    refine entry_congr ?_ ?_ ?_ ?_ ?_
    · funext k; exact row_eq m ρ c t _ k _ _ (by dsimp only; omega)
    · funext k; blk_simp [iblk0]; rw [V1_v3]; pointwise; blk_ext [places0 t]
    · funext k n; blk_simp [iblk0]; rw [V1_v6]; pointwise; blk_ext [places0 t]
    · funext k n; blk_simp [iblk0]; rw [V1_v9]; pointwise; blk_ext [places0 t]
    · funext k n; blk_simp [iblk0]; rw [V1_v12]; pointwise; blk_ext [places0 t]
  · blk_simp [places0 t]; dsimp only; omega
  · blk_simp [places0 t]

/-- What the first call leaves are the fed rows. -/
theorem mid_eq (c : Dev nD) : (dat0 (V1 m ρ) c).arrAt 5 cfg0.N = mid m c := by
  refine (dat0 (V1 m ρ) c).arrAt_eq_of_covers 5 _ (by decide +kernel) fun t hf y => ?_
  blk_simp; rw [after0_5]; frame_out
  exact entry0_eq m ρ c t y

/-- A row of a step's block against a column of the weights. -/
theorem along_apply (X : FVec Ideal S256x1024 .f32) (G : FVec Ideal S1x1024 .f32) (W : FVec Ideal S1024x1536 .bf16)
    (p : Fin 256) (n : Fin 1536) : k1_pay2 (F := Ideal) X G W (ix2 p n)
      = ∑ k, X (ix2 p k) * spread (fun k => X (ix2 p k)) * G (ix2 0 k) * W (ix2 k n) := by
  pointwise [k1_pay2, k1_pay1]
  rfl

/-- Equal places give equal indices. -/
theorem ix3_congr {n k l : ℕ} {a a' : Fin n} {b b' : Fin k} {c c' : Fin l} (h0 : a = a') (h1 : b = b') (h2 : c = c') :
    ix3 a b c = ix3 a' b' c' := by
  subst h0 h1 h2; rfl

/-- The whole projection of the sample rows, from the arguments. -/
def proj (c : Dev nD) : FVec Ideal Cert.Reference5Ideal.S32x8x2048 .f32 :=
  table (fed (m ((c : Thread nD τ).loc main_arg0)) (m ((c : Thread nD τ).loc main_arg2))
        (m ((c : Thread nD τ).loc main_arg4)) (m ((c : Thread nD τ).loc main_arg5))
        (m ((c : Thread nD τ).loc main_arg6))) (m ((c : Thread nD τ).loc main_arg3)) (m ((c : Thread nD τ).loc main_arg7))

/-- The key, value and pool columns at an index. -/
theorem cols_apply (A : FVec Ideal S1x1024x2048 .f32) (k : Fin 1024) (n : Fin 1536) :
    truncf (F := Ideal) FTy.bf16 (concatenate S1024x1536 1 [⟨S1024x512, extractStridedSlice S1024x512 ![0, 512] (shapeCast S1024x2048 A shapeCasts_S1x1024x2048_S1024x2048) slices_S1024x2048_S1024x512_0_512⟩, ⟨S1024x512, extractStridedSlice S1024x512 ![0, 1024] (shapeCast S1024x2048 A shapeCasts_S1x1024x2048_S1024x2048) slices_S1024x2048_S1024x512_0_1024⟩, ⟨S1024x512, extractStridedSlice S1024x512 ![0, 1536] (shapeCast S1024x2048 A shapeCasts_S1x1024x2048_S1024x2048) slices_S1024x2048_S1024x512_0_1536⟩] concatenates_S1024x512_S1024x512_S1024x512_S1024x1536_d1) bitsLt_bf16_f32 (ix2 k n)
      = A (ix3 0 k ⟨512 + n.val, by omega⟩) := by
  pointwise
  by_cases h1 : n.val < 512
  · rw [dif_pos h1]
  · rw [dif_neg h1]
    by_cases h2 : n.val - 512 < 512
    · rw [dif_pos h2]
      congr 2
      refine Fin.ext ?_
      show 1024 + (n.val - 512) = 512 + n.val
      omega
    · rw [dif_neg h2]
      congr 2
      refine Fin.ext ?_
      show 1536 + (n.val - 512 - 512) = 512 + n.val
      omega

/-- Equal parts give equal sums of a normalised row against a column. -/
theorem sum_congr3 {x x' g g' w w' : Fin 1024 → EReal} (h0 : x = x') (h1 : g = g') (h2 : w = w') :
    ∑ k, x k * spread x * g k * w k = ∑ k, x' k * spread x' * g' k * w' k := by
  subst h0 h1 h2; rfl

/-- A row of a step's block of the second call is a fed row. -/
theorem midrow_eq (c : Dev nD) (t : Fin cfg1.N) (p : Fin 256) (k : Fin 1024) (b : Fin 32) (s : Fin 8)
    (h : t.val * 256 + p.val = b.val * 8 + s.val) :
    iblk1 (V5 m ρ) c 0 t (ix2 p k) = fed (m ((c : Thread nD τ).loc main_arg0)) (m ((c : Thread nD τ).loc main_arg2))
        (m ((c : Thread nD τ).loc main_arg4)) (m ((c : Thread nD τ).loc main_arg5))
        (m ((c : Thread nD τ).loc main_arg6)) (ix3 b s k) := by
  blk_simp [iblk1]
  rw [V5_v13, mid_eq]
  refine (stacked_apply _ _ b s k ?_ ?_).trans rfl
  · blk_simp [places1 t]; omega
  · blk_simp [places1 t]

/-- A step's product at an index is the projection there. -/
theorem along_eq (c : Dev nD) (t : Fin cfg1.N) (n : Fin 1536) (p : Fin 256) (b : Fin 32) (s : Fin 8)
    (h : t.val * 256 + p.val = b.val * 8 + s.val) :
    k1_pay2 (iblk1 (V5 m ρ) c 0 t) (iblk1 (V5 m ρ) c 1 t) (iblk1 (V5 m ρ) c 2 t) (ix2 p n) = proj m c (ix3 b s ⟨512 + n.val, by omega⟩) := by
  unfold proj
  refine (along_apply _ _ _ p n).trans (Eq.trans ?_ (table_apply _ _ _ _ _ _).symm)
  refine sum_congr3 ?_ ?_ ?_
  · funext k; exact midrow_eq m ρ c t p k b s h
  · funext k; blk_simp [iblk1]; rw [V5_v16]; pointwise; blk_ext [places1 t]
  · funext k
    blk_simp [iblk1]
    rw [V5_v52]
    refine Eq.trans (congrArg _ ?_) (cols_apply _ k n)
    blk_ext [places1 t]

/-- The 512 columns of the projection that begin at `o`, stacked. -/
def stackedCols (o : ℕ) (ho : o ≤ 1536) (c : Dev nD) : FVec Ideal S256x512 .f32 := fun i =>
  proj m c (ix3 ⟨(i 0).val / 8, by have : (i 0).val < 256 := (i 0).isLt; omega⟩ ⟨(i 0).val % 8, by omega⟩
    ⟨o + (i 1).val, by have : (i 1).val < 512 := (i 1).isLt; omega⟩)

/-- The pool part of a product at an index. -/
theorem poolPart_apply (T : FVec Ideal S256x1536 .f32) (y : S256x512.Idx) :
    k1_pay7 T y = T (ix2 (y 0) ⟨1024 + (y 1).val, by have : (y 1).val < 512 := (y 1).isLt; omega⟩) := by
  idx_vars y
  pointwise [k1_pay7]

/-- The value part of a product at an index. -/
theorem valuePart_apply (T : FVec Ideal S256x1536 .f32) (y : S256x512.Idx) :
    k1_pay6 T y = T (ix2 (y 0) ⟨512 + (y 1).val, by have : (y 1).val < 512 := (y 1).isLt; omega⟩) := by
  idx_vars y
  pointwise [k1_pay6]

/-- The pool rows a step leaves, at an index. -/
theorem out9_apply (x0 : FVec Ideal S256x1024 .f32) (x1 : FVec Ideal S1x1024 .f32) (x2 : FVec Ideal S1024x1536 .bf16) (x3 x4 x5 x6 x7)
    (y : S256x512.Idx) :
    out1_9 (F := Ideal) x0 x1 x2 x3 x4 x5 x6 x7 y = k1_pay2 (F := Ideal) x0 x1 x2
      (ix2 (y 0) ⟨1024 + (y 1).val, by have : (y 1).val < 512 := (y 1).isLt; omega⟩) := by
  unfold_out out1_9
  frame_out
  exact poolPart_apply _ y

/-- The value rows a step leaves, at an index. -/
theorem out15_apply (x0 : FVec Ideal S256x1024 .f32) (x1 : FVec Ideal S1x1024 .f32) (x2 : FVec Ideal S1024x1536 .bf16) (x3 x4 x5 x6 x7)
    (y : S256x512.Idx) :
    out1_15 (F := Ideal) x0 x1 x2 x3 x4 x5 x6 x7 y = k1_pay2 (F := Ideal) x0 x1 x2
      (ix2 (y 0) ⟨512 + (y 1).val, by have : (y 1).val < 512 := (y 1).isLt; omega⟩) := by
  unfold_out out1_15
  frame_out
  exact valuePart_apply _ y

/-- What the second call leaves in its pool array. -/
theorem pool_eq (c : Dev nD) : (dat1 (V5 m ρ) c).arrAt 9 cfg1.N = stackedCols m 1536 (by omega) c := by
  refine (dat1 (V5 m ρ) c).arrAt_eq_of_covers 9 _ (by decide +kernel) fun t hf y => ?_
  have ht : t.val < 1 := t.isLt
  have hy : (y 0).val < 256 := (y 0).isLt
  have hy1 : (y 1).val < 512 := (y 1).isLt
  blk_simp; rw [after1_9]
  refine (out9_apply _ _ _ _ _ _ _ _ y).trans ((along_eq m ρ c t ⟨1024 + (y 1).val, by omega⟩ (y 0) ⟨(t.val * 256 + (y 0).val) / 8, by omega⟩ ⟨(t.val * 256 + (y 0).val) % 8, by omega⟩
    (by dsimp only; omega)).trans ?_)
  unfold stackedCols
  refine congrArg (proj m c) (ix3_congr ?_ ?_ ?_)
  · refine Fin.ext ?_; blk_simp [places1 t]
  · refine Fin.ext ?_; blk_simp [places1 t]
  · refine Fin.ext ?_; blk_simp [places1 t]; dsimp only; omega

/-- What the second call leaves in its value array. -/
theorem value_eq (c : Dev nD) : (dat1 (V5 m ρ) c).arrAt 15 cfg1.N = stackedCols m 1024 (by omega) c := by
  refine (dat1 (V5 m ρ) c).arrAt_eq_of_covers 15 _ (by decide +kernel) fun t hf y => ?_
  have ht : t.val < 1 := t.isLt
  have hy : (y 0).val < 256 := (y 0).isLt
  have hy1 : (y 1).val < 512 := (y 1).isLt
  blk_simp; rw [after1_15]
  refine (out15_apply _ _ _ _ _ _ _ _ y).trans ((along_eq m ρ c t ⟨512 + (y 1).val, by omega⟩ (y 0) ⟨(t.val * 256 + (y 0).val) / 8, by omega⟩ ⟨(t.val * 256 + (y 0).val) % 8, by omega⟩
    (by dsimp only; omega)).trans ?_)
  unfold stackedCols
  refine congrArg (proj m c) (ix3_congr ?_ ?_ ?_)
  · refine Fin.ext ?_; blk_simp [places1 t]
  · refine Fin.ext ?_; blk_simp [places1 t]
  · refine Fin.ext ?_; blk_simp [places1 t]; dsimp only; omega

/-- Stacked rows laid out in heads, at an index. -/
theorem heads_apply (A : FVec Ideal S256x512 .f32) (b : Fin 32) (s : Fin 8) (h : Fin 8) (d : Fin 64) :
    broadcastInDim S1x32x8x8x64 ![1, 2, 3, 4] bcast_S32x8x8x64_S1x32x8x8x64_1_2_3_4 (shapeCast S32x8x8x64 A shapeCasts_S256x512_S32x8x8x64) (ix5 0 b s h d)
      = A (ix2 ⟨b.val * 8 + s.val, by omega⟩ ⟨h.val * 64 + d.val, by omega⟩) := by
  pointwise

/-- Stacked rows laid out by sequence, at an index. -/
theorem rows_apply (A : FVec Ideal S256x512 .f32) (b : Fin 32) (s : Fin 8) (n : Fin 512) :
    shapeCast S32x8x512 A shapeCasts_S256x512_S32x8x512 (ix3 b s n) = A (ix2 ⟨b.val * 8 + s.val, by omega⟩ n) := by
  pointwise

/-- The values that the sample calls hand back, from the arguments. -/
def valuesOut (c : Dev nD) : FVec Ideal S1x32x8x8x64 .f32 := outV (proj m c)

/-- The pool rows that the sample calls hand back, from the arguments. -/
def poolOut (c : Dev nD) : FVec Ideal S1x32x15x512 .f32 := outU (m ((c : Thread nD τ).loc main_arg1)) (proj m c)

/-- The first result of the kernel is the first result of the reference. -/
theorem result0_eq (c : Dev nD) : W7 m ρ c (Proc.devRef .tc main_v56) = valuesOut m c := by
  unfold valuesOut
  rw [W7_v56, value_eq]
  funext i
  idx_vars i
  obtain rfl : i0 = 0 := Subsingleton.elim _ _
  refine (heads_apply _ i1 i2 i3 i4).trans (Eq.trans ?_ (outV_apply _ i1 i2 i3 i4).symm)
  unfold stackedCols
  refine congrArg (proj m c) (ix3_congr (Fin.ext ?_) (Fin.ext ?_) rfl)
  · show (i1.val * 8 + i2.val) / 8 = i1.val; omega
  · show (i1.val * 8 + i2.val) % 8 = i2.val; omega

/-- The pool rows of the second call, by sequence, are the pool columns of the projection. -/
theorem poolRows_eq (c : Dev nD) : shapeCast S32x8x512 (stackedCols m 1536 (by omega) c) shapeCasts_S256x512_S32x8x512 = pools (proj m c) := by
  funext i
  idx_vars i
  refine (rows_apply _ i0 i1 i2).trans (Eq.trans ?_ (pools_apply _ i0 i1 i2).symm)
  unfold stackedCols
  refine congrArg (proj m c) (ix3_congr (Fin.ext ?_) (Fin.ext ?_) rfl)
  · show (i0.val * 8 + i1.val) / 8 = i0.val; omega
  · show (i0.val * 8 + i1.val) % 8 = i1.val; omega

/-- The second result of the kernel is the second result of the reference. -/
theorem result1_eq (c : Dev nD) : W7 m ρ c (Proc.devRef .tc main_v60) = poolOut m c := by
  unfold poolOut
  rw [W7_v60, pool_eq, poolRows_eq]
  rfl

/-- The sample calls run to their end, hand back the two results and leave their arguments as they were. -/
theorem run_values : θ_run (defs (F := Ideal)) (onTc (τ := τ) (main (F := Ideal))) ⟨m, fun _ => 0, ρ⟩ (fun r => ∀ c : Dev nD,
      r.2.mem ((c : Thread nD τ).loc main_v56) = valuesOut m c
        ∧ r.2.mem ((c : Thread nD τ).loc main_v60) = poolOut m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)) :=
  (θ_run (defs (F := Ideal)) _ _).mono
    (fun r h c => ⟨(h c).1.trans (result0_eq m ρ c), (h c).2.1.trans (result1_eq m ρ c), (h c).2.2⟩)
    (run_results m ρ)

end Cert.Kernel5Ideal.Math

end
-- ==== Proof.Sample.Claim.lean ====
module

public import proofs.«01_k».proof.Defs
public import proofs.«01_k».proof.Proof.Gen.Reference5Ideal.Run
public import proofs.«01_k».proof.Proof.Sample.Value

@[expose] public section

set_option maxRecDepth 16384

noncomputable section

namespace Cert.Proof

open Idealize.ShloMosaic Idealize.SL.Sem

/-- The reference of the sample calls runs to its end, leaves its arguments as they were and every counter at zero. -/
theorem sample_reference_frame : Cert.quiescent_Reference5Ideal := by
  intro m g _
  exact (θ_run Cert.Reference5Ideal.defs _ _).mono
    (fun r h => ⟨fun c => (h.1 c).2.2, h.2⟩)
    (show θ_run _ _ _ (fun r => (∀ c, _ ∧ _ ∧ _) ∧ r.2.sem = fun _ => 0) from
      (θ_run Cert.Reference5Ideal.defs _ _).mono
        (fun r h => ⟨h, Idealize.ShloMosaic.sem_eq_zero_of_no_sems (by decide) r.2⟩)
        (Cert.Reference5Ideal.Value.run (F := Ideal) m g))

/-- The reference's sample values, as its stages one after the other. -/
theorem sample_values (m : (ℓ : Loc Cert.Reference5Ideal.nD Cert.Reference5Ideal.τ Cert.Reference5Ideal.sig) → Buf (Elt Ideal) ℓ)
    (c : Dev Cert.Reference5Ideal.nD) : Cert.Reference5Ideal.Value.res_main_v83 m c = Cert.Reference5Ideal.Math.outV (Cert.Reference5Ideal.Math.table (Cert.Reference5Ideal.Math.fed (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)))
        (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg7))) := by
  unfold Cert.Reference5Ideal.Value.res_main_v83
  rfl

/-- The reference's sample pool, as its stages one after the other. -/
theorem sample_pool (m : (ℓ : Loc Cert.Reference5Ideal.nD Cert.Reference5Ideal.τ Cert.Reference5Ideal.sig) → Buf (Elt Ideal) ℓ)
    (c : Dev Cert.Reference5Ideal.nD) : Cert.Reference5Ideal.Value.res_main_v85 m c = Cert.Reference5Ideal.Math.outU (m ((c.tc : Thread Cert.Reference5Ideal.nD Cert.Reference5Ideal.τ).loc Cert.Reference5Ideal.main_arg1)) (Cert.Reference5Ideal.Math.table (Cert.Reference5Ideal.Math.fed (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)))
        (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg7))) := by
  unfold Cert.Reference5Ideal.Value.res_main_v85
  rfl

set_option maxHeartbeats 2000000 in
/-- The sample calls and their reference end with equal values and pool rows over the reals. -/
theorem sample_algebraic : Cert.algebraic_Kernel5Ideal_Reference5Ideal := by
  pair_intro
  · run_from Cert.Kernel5Ideal.Math.run_values m g
  · run_from Cert.Reference5Ideal.Value.run m' g'
    all_goals obtain ⟨a0, a1, a2, a3, a4, a5, a6, a7, a8, a9⟩ := hagree c
    · refine (sample_values m' c).trans ?_
      unfold Cert.Kernel5Ideal.Math.valuesOut Cert.Kernel5Ideal.Math.proj
      rw [a0, a2, a3, a4, a5, a6, a7]
    · refine (sample_pool m' c).trans ?_
      unfold Cert.Kernel5Ideal.Math.poolOut Cert.Kernel5Ideal.Math.proj
      rw [a0, a1, a2, a3, a4, a5, a6, a7]

end Cert.Proof

end
-- ==== Proof.Keys.Ref.lean ====
module

public import proofs.«01_k».proof.Proof.Gen.Reference6Ideal
public import proofs.«01_k».proof.Proof.Sample.Ref
public import Idealize.ShloMosaic.Lib.Pointwise

@[expose] public section

set_option maxRecDepth 16384

noncomputable section

open Idealize.ShloMosaic Idealize.ShloMosaic.TcCoe Idealize.SL.Sem

namespace Cert.Reference6Ideal.Math

open Cert.Reference6Ideal Cert.Reference6Ideal.Gen
open Cert.Reference4Ideal.Math (head)

/-- The key columns of the projection of the sample rows, in eight heads of 64. -/
def heads (T : FVec Ideal S32x8x2048 .f32) : FVec Ideal S32x8x8x64 .f32 :=
  shapeCast _ (extractStridedSlice S32x8x512 ![0, 0, 512] T slices_S32x8x2048_S32x8x512_0_0_512) shapeCasts_S32x8x512_S32x8x8x64

/-- A head's column of the projection. -/
theorem heads_apply (T : FVec Ideal S32x8x2048 .f32) (b : Fin 32) (s : Fin 8) (h : Fin 8) (d : Fin 64) :
    heads T (ix4 b s h d) = T (ix3 b s ⟨512 + (h.val * 64 + d.val), by omega⟩) := by
  pointwise [heads]

/-- The sample keys, normalised head by head and scaled. -/
def keys (T : FVec Ideal S32x8x2048 .f32) (g : FVec Ideal S1x64 .f32) : FVec Ideal S32x8x8x64 .f32 :=
  mulf (mulf (heads T) (broadcastInDim S32x8x8x64 ![0, 1, 2, 3] bcast_S32x8x8x1_S32x8x8x64_0_1_2_3 (Host.rsqrt (addf (Host.divf (broadcastInDim S32x8x8x1 ![0, 1, 2] bcast_S32x8x8_S32x8x8x1_0_1_2 (Host.reduceAdd (mulf (heads T) (heads T)) (constant S_ .f32 0x00000000#32) reducesTo_S32x8x8x64_S32x8x8_d3 h_S_)) (broadcastInDim S32x8x8x1 ![] bcast_S_S32x8x8x1 (constant S_ .f32 0x42800000#32))) (broadcastInDim S32x8x8x1 ![] bcast_S_S32x8x8x1 (constant S_ .f32 0x358637BD#32)))))) (broadcastInDim S32x8x8x64 ![0, 1, 2, 3] bcast_S1x1x1x64_S32x8x8x64_0_1_2_3 (broadcastInDim S1x1x1x64 ![3] bcast_S64_S1x1x1x64_3 (shapeCast _ g shapeCasts_S1x64_S64)))

/-- The sample keys at an index. -/
theorem keys_apply (T : FVec Ideal S32x8x2048 .f32) (g : FVec Ideal S1x64 .f32) (b : Fin 32) (s : Fin 8) (h : Fin 8) (d : Fin 64) :
    keys T g (ix4 b s h d) = head (fun d => T (ix3 b s ⟨512 + (h.val * 64 + d.val), by omega⟩)) (fun d => g (ix2 0 d)) d := by
  pointwise [keys]
  simp only [heads_apply]
  rfl

/-- The result: the keys of every sample row, as one function of the projection and the gains. -/
abbrev outK (T : FVec Ideal S32x8x2048 .f32) (g : FVec Ideal S1x64 .f32) : FVec Ideal S1x32x8x8x64 .f32 :=
  broadcastInDim S1x32x8x8x64 ![1, 2, 3, 4] bcast_S32x8x8x64_S1x32x8x8x64_1_2_3_4 (keys T g)

/-- The result at an index. -/
theorem outK_apply (T : FVec Ideal S32x8x2048 .f32) (g : FVec Ideal S1x64 .f32) (b : Fin 32) (s : Fin 8) (h : Fin 8) (d : Fin 64) :
    outK T g (ix5 0 b s h d) = head (fun d => T (ix3 b s ⟨512 + (h.val * 64 + d.val), by omega⟩)) (fun d => g (ix2 0 d)) d := by
  pointwise [outK]
  exact keys_apply T g b s h d

end Cert.Reference6Ideal.Math

end
-- ==== Proof.Keys.Host.lean ====
module

public import proofs.«01_k».proof.Proof.Gen.Kernel6Ideal.Frame
public import proofs.«01_k».proof.Proof.Keys.Ref
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Math

open Cert.Kernel6Ideal Cert.Kernel6Ideal.Gen

variable (m : (ℓ : Loc nD τ sig) → Buf (Elt Ideal) ℓ) (ρ : Dev nD → PrngReg)

/-- The rows that enter the first call. -/
theorem V1_v0 (c : Dev nD) : V1 m ρ c main_v0 = shapeCast S256x1024 (m ((c : Thread nD τ).loc main_arg0)) shapeCasts_S32x8x1024_S256x1024 := by
  dsimp only [V1, W1, hostOps0]
  entry_read
  rfl

/-- The gains of the first call. -/
theorem V1_v3 (c : Dev nD) : V1 m ρ c main_v3 = shapeCast S1x1024 (shapeCast S1024 (extractStridedSlice S1x1024 ![0, 0] (m ((c : Thread nD τ).loc main_arg1)) slices_S2x1024_S1x1024_0_0) shapeCasts_S1x1024_S1024) shapeCasts_S1024_S1x1024 := by
  dsimp only [V1, W1, hostOps0]
  entry_read
  rfl

/-- The gating weights of the first call. -/
theorem V1_v6 (c : Dev nD) : V1 m ρ c main_v6 = truncf (F := Ideal) FTy.bf16 (shapeCast S1024x2816 (extractStridedSlice S1x1024x2816 ![0, 0, 0] (m ((c : Thread nD τ).loc main_arg3)) slices_S2x1024x2816_S1x1024x2816_0_0_0) shapeCasts_S1x1024x2816_S1024x2816) bitsLt_bf16_f32 := by
  dsimp only [V1, W1, hostOps0]
  entry_read
  rfl

/-- The other weights of the first call. -/
theorem V1_v9 (c : Dev nD) : V1 m ρ c main_v9 = truncf (F := Ideal) FTy.bf16 (shapeCast S1024x2816 (extractStridedSlice S1x1024x2816 ![0, 0, 0] (m ((c : Thread nD τ).loc main_arg4)) slices_S2x1024x2816_S1x1024x2816_0_0_0) shapeCasts_S1x1024x2816_S1024x2816) bitsLt_bf16_f32 := by
  dsimp only [V1, W1, hostOps0]
  entry_read
  rfl

/-- The carrying weights of the first call. -/
theorem V1_v12 (c : Dev nD) : V1 m ρ c main_v12 = truncf (F := Ideal) FTy.bf16 (shapeCast S2816x1024 (extractStridedSlice S1x2816x1024 ![0, 0, 0] (m ((c : Thread nD τ).loc main_arg5)) slices_S2x2816x1024_S1x2816x1024_0_0_0) shapeCasts_S1x2816x1024_S2816x1024) bitsLt_bf16_f32 := by
  dsimp only [V1, W1, hostOps0]
  entry_read
  rfl

/-- The rows that enter the second call are what the first call leaves. -/
theorem V5_v13 (c : Dev nD) : V5 m ρ c main_v13 = (dat0 (V1 m ρ) c).arrAt 5 cfg0.N :=
  (W5_of m ρ c main_v13 (by decide)).trans ((W4_of m ρ c main_v13 (by decide)).trans ((W3_of m ρ c main_v13 (by decide)).trans (W2_arr m ρ c 5)))

/-- The gains of the second call. -/
theorem V5_v16 (c : Dev nD) : V5 m ρ c main_v16 = shapeCast S1x1024 (shapeCast S1024 (extractStridedSlice S1x1024 ![0, 0] (m ((c : Thread nD τ).loc main_arg2)) slices_S2x1024_S1x1024_0_0) shapeCasts_S1x1024_S1024) shapeCasts_S1024_S1x1024 := by
  refine (W5_of m ρ c main_v16 (by decide)).trans ((W4_of m ρ c main_v16 (by decide)).trans ?_)
  rw [← W2_args m ρ c main_arg2 (by decide)]
  dsimp only [W3, hostOps1]
  entry_read
  rfl

/-- The key columns of the projecting weights. -/
theorem W4_v19 (c : Dev nD) : W4 m ρ c (Proc.devRef .tc main_v19) = extractStridedSlice S1024x512 ![0, 512] (shapeCast S1024x2048 (m ((c : Thread nD τ).loc main_arg6)) shapeCasts_S1x1024x2048_S1024x2048) slices_S1024x2048_S1024x512_0_512 := by
  refine (W4_of m ρ c main_v19 (by decide)).trans ?_
  rw [← W2_args m ρ c main_arg6 (by decide)]
  dsimp only [W3, hostOps1]
  entry_read
  rfl

/-- The value columns of the projecting weights. -/
theorem W4_v20 (c : Dev nD) : W4 m ρ c (Proc.devRef .tc main_v20) = extractStridedSlice S1024x512 ![0, 1024] (shapeCast S1024x2048 (m ((c : Thread nD τ).loc main_arg6)) shapeCasts_S1x1024x2048_S1024x2048) slices_S1024x2048_S1024x512_0_1024 := by
  refine (W4_of m ρ c main_v20 (by decide)).trans ?_
  rw [← W2_args m ρ c main_arg6 (by decide)]
  dsimp only [W3, hostOps1]
  entry_read
  rfl

/-- The pool columns of the projecting weights. -/
theorem W4_v21 (c : Dev nD) : W4 m ρ c (Proc.devRef .tc main_v21) = extractStridedSlice S1024x512 ![0, 1536] (shapeCast S1024x2048 (m ((c : Thread nD τ).loc main_arg6)) shapeCasts_S1x1024x2048_S1024x2048) slices_S1024x2048_S1024x512_0_1536 := by
  refine (W4_of m ρ c main_v21 (by decide)).trans ?_
  rw [← W2_args m ρ c main_arg6 (by decide)]
  dsimp only [W3, hostOps1]
  entry_read
  rfl

/-- Equal parts make equal rows of three parts. -/
theorem join3 {a b c a' b' c' : FVec Ideal S1024x512 .f32} (ha : a = a') (hb : b = b') (hc : c = c') :
    concatenate S1024x1536 1 [⟨S1024x512, a⟩, ⟨S1024x512, b⟩, ⟨S1024x512, c⟩] concatenates_S1024x512_S1024x512_S1024x512_S1024x1536_d1
      = concatenate S1024x1536 1 [⟨S1024x512, a'⟩, ⟨S1024x512, b'⟩, ⟨S1024x512, c'⟩] concatenates_S1024x512_S1024x512_S1024x512_S1024x1536_d1 := by
  subst ha hb hc; rfl

/-- The key, value and pool columns side by side. -/
theorem V5_v52 (c : Dev nD) : V5 m ρ c main_v52 = truncf (F := Ideal) FTy.bf16 (concatenate S1024x1536 1 [⟨S1024x512, extractStridedSlice S1024x512 ![0, 512] (shapeCast S1024x2048 (m ((c : Thread nD τ).loc main_arg6)) shapeCasts_S1x1024x2048_S1024x2048) slices_S1024x2048_S1024x512_0_512⟩, ⟨S1024x512, extractStridedSlice S1024x512 ![0, 1024] (shapeCast S1024x2048 (m ((c : Thread nD τ).loc main_arg6)) shapeCasts_S1x1024x2048_S1024x2048) slices_S1024x2048_S1024x512_0_1024⟩, ⟨S1024x512, extractStridedSlice S1024x512 ![0, 1536] (shapeCast S1024x2048 (m ((c : Thread nD τ).loc main_arg6)) shapeCasts_S1x1024x2048_S1024x2048) slices_S1024x2048_S1024x512_0_1536⟩] concatenates_S1024x512_S1024x512_S1024x512_S1024x1536_d1) bitsLt_bf16_f32 := by
  rw [← W4_v19 m ρ c, ← W4_v20 m ρ c, ← W4_v21 m ρ c]
  dsimp only [V5, W5, hostOps1_2]
  after_results_simp
  refine congrArg (truncf (F := Ideal) FTy.bf16 · bitsLt_bf16_f32) (join3 ?_ ?_ ?_)
  · rfl
  · rfl
  · rfl

/-- The table of ones by head, before it is spread over the columns. -/
theorem W3_v30 (c : Dev nD) : W3 m ρ c (Proc.devRef .tc main_v30) = (uitofp (F := Ideal) FTy.f32 (cmpi .eq (addi (iotaInDim S8x8 32 0) (broadcastInDim S8x8 ![] bcast_S_S8x8 (constantI S_ 32 0#32))) (iotaInDim S8x8 32 1)) : FVec Ideal S8x8 .f32) := by
  dsimp only [W3, hostOps1]
  entry_read
  rfl

/-- The block of ones of one head. -/
theorem W3_v31 (c : Dev nD) : W3 m ρ c (Proc.devRef .tc main_v31) = (broadcastInDim S64x64 ![] bcast_S_S64x64 (constant (F := Ideal) S_ .f32 0x3F800000#32) : FVec Ideal S64x64 .f32) := by
  dsimp only [W3, hostOps1]
  entry_read
  rfl

/-- The table of heads, as a product of its two factors spread over the columns. -/
def spreadHeads (A : FVec Ideal S8x8 .f32) (B : FVec Ideal S64x64 .f32) : FVec Ideal S512x512 .f32 :=
  shapeCast S512x512 (mulf
      (broadcastInDim S8x64x8x64 ![0, 1, 2, 3] bcast_S8x1x8x1_S8x64x8x64_0_1_2_3 (broadcastInDim S8x1x8x1 ![0, 2] bcast_S8x8_S8x1x8x1_0_2 A))
      (broadcastInDim S8x64x8x64 ![0, 1, 2, 3] bcast_S1x64x1x64_S8x64x8x64_0_1_2_3 (broadcastInDim S1x64x1x64 ![1, 3] bcast_S64x64_S1x64x1x64_1_3 B))) shapeCasts_S8x64x8x64_S512x512

/-- The table of heads, from its two factors. -/
theorem W4_v32 (c : Dev nD) : W4 m ρ c (Proc.devRef .tc main_v32) = spreadHeads (W3 m ρ c (Proc.devRef .tc main_v30)) (W3 m ρ c (Proc.devRef .tc main_v31)) := by
  dsimp only [W4, hostOps1_1]
  entry_read
  rfl

/-- The table of heads of the second call. -/
theorem V5_v33 (c : Dev nD) : V5 m ρ c main_v33 = truncf (F := Ideal) FTy.bf16 (W4 m ρ c (Proc.devRef .tc main_v32) : FVec Ideal S512x512 .f32) bitsLt_bf16_f32 := by
  dsimp only [V5, W5, hostOps1_2]
  entry_read
  rfl

/-- The key gains of the second call, head after head. -/
theorem V5_v38 (c : Dev nD) : V5 m ρ c main_v38 = shapeCast S1x512 (shapeCast S512 (broadcastInDim S8x64 ![0, 1] bcast_S1x64_S8x64_0_1 (shapeCast S1x64 (shapeCast S64 (m ((c : Thread nD τ).loc main_arg8)) shapeCasts_S1x64_S64) shapeCasts_S64_S1x64)) shapeCasts_S8x64_S512) shapeCasts_S512_S1x512 := by
  rw [← W2_args m ρ c main_arg8 (by decide), ← W3_of m ρ c main_arg8 (by decide), ← W4_of m ρ c main_arg8 (by decide)]
  dsimp only [V5, W5, hostOps1_2]
  entry_read
  rfl

/-- The result, from what the second call leaves. -/
theorem W7_v55 (c : Dev nD) : W7 m ρ c (Proc.devRef .tc main_v55) = broadcastInDim S1x32x8x8x64 ![1, 2, 3, 4] bcast_S32x8x8x64_S1x32x8x8x64_1_2_3_4 (shapeCast S32x8x8x64 ((dat1 (V5 m ρ) c).arrAt 14 cfg1.N) shapeCasts_S256x512_S32x8x8x64) := by
  rw [← W6_arr m ρ c 14]
  dsimp only [W7, hostOps2]
  entry_read
  rfl

end Cert.Kernel6Ideal.Math

end
-- ==== Proof.Keys.Run.lean ====
module

public import proofs.«01_k».proof.Proof.Gen.Kernel6Ideal.Frame

@[expose] public section

set_option maxRecDepth 16384

noncomputable section

namespace Cert.Kernel6Ideal.Math

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The calls that make the sample keys run to their end: the result array holds what the last host operations leave, and the arguments are as they were. -/
theorem run_results : θ_run defs (onTc (τ := τ) (main (F := F))) ⟨m, fun _ => 0, ρ⟩ (fun r => ∀ c : Dev nD,
      r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c => ⟨h c _ (mem_uc main_v55 (by decide)), (h c _ (mem_uc main_arg0 (by decide))).trans (W7_main_arg0 m ρ c), (h c _ (mem_uc main_arg1 (by decide))).trans (W7_main_arg1 m ρ c), (h c _ (mem_uc main_arg2 (by decide))).trans (W7_main_arg2 m ρ c), (h c _ (mem_uc main_arg3 (by decide))).trans (W7_main_arg3 m ρ c), (h c _ (mem_uc main_arg4 (by decide))).trans (W7_main_arg4 m ρ c), (h c _ (mem_uc main_arg5 (by decide))).trans (W7_main_arg5 m ρ c), (h c _ (mem_uc main_arg6 (by decide))).trans (W7_main_arg6 m ρ c), (h c _ (mem_uc main_arg7 (by decide))).trans (W7_main_arg7 m ρ c), (h c _ (mem_uc main_arg8 (by decide))).trans (W7_main_arg8 m ρ c)⟩)

end Cert.Kernel6Ideal.Math

end
-- ==== Proof.Keys.Real.lean ====
module

public import proofs.«01_k».proof.Proof.Join.Ref
public import Idealize.ShloMosaic.Lib.Pointwise

@[expose] public section

set_option maxRecDepth 16384

noncomputable section

open Idealize.ShloMosaic Idealize.ShloMosaic.TcCoe Idealize.SL.Sem

namespace Cert.Finite

open Cert.Reference2Ideal.Math (spread)
open Cert.Reference4Ideal.Math (line head)

/-- The value is a real number, not an infinity. -/
def IsReal (x : EReal) : Prop := ∃ r : ℝ, x = (r : EReal)

/-- A value that differs from itself by zero is a real number. -/
theorem of_sub {x : EReal} (h : x - x = 0) : IsReal x := by
  induction x using EReal.rec with
  | bot => exact absurd h (by simp)
  | coe r => exact ⟨r, rfl⟩
  | top => exact absurd h (by simp)

/-- A real number differs from itself by zero. -/
theorem sub_self {x : EReal} (h : IsReal x) : x - x = 0 := by
  obtain ⟨r, rfl⟩ := h
  rw [← EReal.coe_sub]; simp

/-- Sums of two real numbers are real. -/
theorem add {x y : EReal} (hx : IsReal x) (hy : IsReal y) : IsReal (x + y) := by
  obtain ⟨a, rfl⟩ := hx; obtain ⟨b, rfl⟩ := hy
  exact ⟨a + b, (EReal.coe_add a b).symm⟩

/-- Products of two real numbers are real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers, as the sum of their real parts. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- Finite sums of real numbers are real. -/
theorem sum {ι : Type} (s : Finset ι) {f : ι → EReal} (h : ∀ i, IsReal (f i)) : IsReal (∑ i ∈ s, f i) := by
  choose g hg using h
  exact ⟨∑ i ∈ s, g i, by simp only [hg, coe_sum]⟩

/-- A finite sum of squares of real numbers is a real number that is not negative. -/
theorem sum_sq {n : ℕ} {f : Fin n → EReal} (h : ∀ i, IsReal (f i)) : ∃ r : ℝ, 0 ≤ r ∧ ∑ i, f i * f i = (r : EReal) := by
  choose g hg using h
  refine ⟨∑ i, g i * g i, Finset.sum_nonneg fun i _ => mul_self_nonneg _, ?_⟩
  simp only [hg, ← EReal.coe_mul, coe_sum]

/-- The constant 1024 as a real number. -/
theorem ofBits_1024 : Ideal.ofBits FTy.f32 1149239296#32 = ((1024 : ℝ) : EReal) := by
  simp [Ideal.ofBits, Ideal.ieee, -EReal.coe_mul]; norm_num

/-- The constant 64 as a real number. -/
theorem ofBits_64 : Ideal.ofBits FTy.f32 1115684864#32 = ((64 : ℝ) : EReal) := by
  simp [Ideal.ofBits, Ideal.ieee, -EReal.coe_mul]; norm_num

/-- The constant one sixty-fourth as a real number. -/
theorem ofBits_64th : Ideal.ofBits FTy.f32 1015021568#32 = (((1 : ℝ) / 64 : ℝ) : EReal) := by
  simp [Ideal.ofBits, Ideal.ieee, -EReal.coe_mul]; norm_num

/-- The small constant is a positive real number. -/
theorem small_pos : ∃ r : ℝ, 0 < r ∧ Ideal.ofBits FTy.f32 897988541#32 = (r : EReal) :=
  ⟨8796093 * (2 ^ 43)⁻¹, by positivity, by simp [Ideal.ofBits, Ideal.ieee, -EReal.coe_mul]⟩

/-- A quotient by a real number that is not zero, as a product. -/
theorem div_coe (x : EReal) {r : ℝ} (h : r ≠ 0) : Ideal.div x (r : EReal) = x * ((r⁻¹ : ℝ) : EReal) := by
  unfold Ideal.div
  rw [if_neg (by exact_mod_cast h), EReal.coe_inv]

/-- The reciprocal root of a positive real number is real. -/
theorem rsqrt_real {r : ℝ} (h : 0 < r) : IsReal (Ideal.rsqrt (r : EReal)) :=
  ⟨(Real.sqrt r)⁻¹, by
    show (if r < 0 then (⊥ : EReal) else if r = 0 then ⊤ else ((Real.sqrt r)⁻¹ : ℝ)) = _
    rw [if_neg (not_lt.mpr h.le), if_neg h.ne']⟩

/-- The scale of a row of real numbers is real. -/
theorem spread_real {x : Fin 1024 → EReal} (h : ∀ k, IsReal (x k)) : IsReal (spread x) := by
  obtain ⟨r, hr, e⟩ := sum_sq h
  obtain ⟨p, hp, ep⟩ := small_pos
  unfold spread
  rw [e, ep, ofBits_1024, div_coe _ (by norm_num), ← EReal.coe_mul, ← EReal.coe_add]
  exact rsqrt_real (by positivity)

/-- Squares are not negative, infinities included. -/
theorem sq_nonneg (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

/-- The square of an infinity is plus infinity. -/
theorem sq_top {x : EReal} (h : ¬ IsReal x) : x * x = ⊤ := by
  induction x using EReal.rec with
  | bot => exact EReal.bot_mul_bot
  | coe r => exact absurd ⟨r, rfl⟩ h
  | top => exact EReal.top_mul_top

/-- A row with an infinite entry has scale zero. -/
theorem spread_zero {x : Fin 1024 → EReal} {k : Fin 1024} (h : ¬ IsReal (x k)) : spread x = 0 := by
  obtain ⟨p, hp, ep⟩ := small_pos
  have e : ∑ k, x k * x k = ⊤ :=
    top_le_iff.mp ((sq_top h).symm.le.trans (Finset.single_le_sum (f := fun k => x k * x k) (fun i _ => sq_nonneg (x i)) (Finset.mem_univ k)))
  unfold spread
  rw [e, ep, ofBits_1024, div_coe _ (by norm_num), EReal.top_mul_coe_of_pos (by norm_num), EReal.top_add_coe]
  rfl

/-- A row times its own scale is real, whatever the row holds. -/
theorem scaled_real (x : Fin 1024 → EReal) (k : Fin 1024) : IsReal (x k * spread x) := by
  by_cases h : ∀ k, IsReal (x k)
  · exact mul (h k) (spread_real h)
  · obtain ⟨k', hk⟩ := not_forall.mp h
    rw [spread_zero hk, mul_zero]
    exact ⟨0, rfl⟩

/-- A row, normalised and scaled by real gains, against a real column is real, whatever the row holds. -/
theorem line_real (x : Fin 1024 → EReal) {g : Fin 1024 → EReal} {w : Fin 1024 → Fin 2048 → EReal} {n : Fin 2048} (hg : ∀ k, IsReal (g k))
    (hw : ∀ k, IsReal (w k n)) : IsReal (line x g w n) :=
  sum _ fun k => mul (mul (scaled_real x k) (hg k)) (hw k)

/-- One where two columns lie in the same head, zero elsewhere. -/
def same (j n : Fin 512) : EReal := if j.val / 64 = n.val / 64 then 1 else 0

/-- A sum over all 512 columns of what lies in one head is the sum over that head's 64 columns. -/
theorem sum_head (f : Fin 512 → EReal) (h : Fin 8) (d : Fin 64) (n : Fin 512) (hn : n.val = h.val * 64 + d.val) :
    ∑ j, f j * same j n = ∑ e : Fin 64, f ⟨h.val * 64 + e.val, by omega⟩ := by
  have e1 : ∑ j, f j * same j n = ∑ p : Fin 8 × Fin 64, f (finProdFinEquiv p) * same (finProdFinEquiv p) n :=
    (Equiv.sum_comp (finProdFinEquiv (m := 8) (n := 64)) (fun j : Fin 512 => f j * same j n)).symm
  rw [e1, Fintype.sum_prod_type, Finset.sum_eq_single h]
  · refine Finset.sum_congr rfl fun e _ => ?_
    have hs : same (finProdFinEquiv (h, e)) n = 1 := by
      unfold same
      rw [if_pos]
      show (e.val + 64 * h.val) / 64 = n.val / 64
      omega
    rw [hs, mul_one]
    refine congrArg f (Fin.ext ?_)
    show e.val + 64 * h.val = h.val * 64 + e.val
    omega
  · intro b _ hb
    refine Finset.sum_eq_zero fun e _ => ?_
    have hs : same (finProdFinEquiv (b, e)) n = 0 := by
      unfold same
      rw [if_neg]
      show ¬ (e.val + 64 * b.val) / 64 = n.val / 64
      intro hc
      exact hb (Fin.ext (by omega))
    rw [hs, mul_zero]
  · intro hc; exact absurd (Finset.mem_univ h) hc

/-- A row of 512 real numbers normalised by head through products with the table of heads, rounding remainders included, is the row normalised head by head. -/
theorem split_head (K : Fin 512 → EReal) (hK : ∀ j, IsReal (K j)) (H : Fin 512 → Fin 512 → EReal) (hH : ∀ j n, H j n = same j n)
    (g : Fin 64 → EReal) (G : EReal) (h : Fin 8) (d : Fin 64) (n : Fin 512) (hn : n.val = h.val * 64 + d.val) (hG : G = g d) :
    K n * Ideal.rsqrt ((∑ j, K j * K j * H j n + ∑ j, (K j * K j - K j * K j) * H j n) * Ideal.ofBits FTy.f32 1015021568#32
        + Ideal.ofBits FTy.f32 897988541#32) * G
      = head (fun e => K ⟨h.val * 64 + e.val, by omega⟩) g d := by
  have z : ∑ j, (K j * K j - K j * K j) * H j n = 0 :=
    Finset.sum_eq_zero fun j _ => by rw [sub_self (mul (hK j) (hK j)), zero_mul]
  simp only [hH] at z ⊢
  rw [z, add_zero, sum_head (fun j => K j * K j) h d n hn]
  unfold head
  rw [show K n = K ⟨h.val * 64 + d.val, by omega⟩ from congrArg K (Fin.ext hn),
    ofBits_64, div_coe _ (by norm_num), ofBits_64th, hG, one_div]

end Cert.Finite

end
-- ==== Proof.Keys.Value.lean ====
module

public import proofs.«01_k».proof.Proof.Keys.Host
public import proofs.«01_k».proof.Proof.Keys.Run
public import proofs.«01_k».proof.Proof.Keys.Real
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Math

open Cert.Kernel6Ideal Cert.Kernel6Ideal.Gen
open Cert.Reference2Ideal.Math (spread entry)
open Cert.Reference5Ideal.Math (fed fed_apply table table_apply)
open Cert.Reference6Ideal.Math (outK outK_apply)
open Cert.Reference4Ideal.Math (head)
open Cert.Finite (IsReal same split_head line_real)

variable (m : (ℓ : Loc nD τ sig) → Buf (Elt Ideal) ℓ) (ρ : Dev nD → PrngReg)

/-- Where each window's block lies at each step of the first call: the rows move with the step, the weights stay. -/
theorem places0 : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- Where each window's block lies at each step of the second call: the rows and the keys move with the step. -/
theorem places1 : ∀ t : Fin cfg1.N, win1_0.index t = ![t.val, 0]
    ∧ win1_1.index t = ![0, 0]
    ∧ win1_2.index t = ![0, 0]
    ∧ win1_4.index t = ![0, 0]
    ∧ win1_5.index t = ![0, 0]
    ∧ win1_14.index t = ![t.val, 0] :=
  (by decide +kernel : ∀ t : Fin grid1.N, _)

/-- The block that a step of the first call stores, read at a row and a column, over any five blocks. -/
theorem stored0_apply (X : FVec Ideal S256x1024 .f32) (G : FVec Ideal S1x1024 .f32) (A B : FVec Ideal S1024x2816 .bf16)
    (D : FVec Ideal S2816x1024 .bf16) (y : S256x1024.Idx) :
    k0_pay1 (F := Ideal) X G A B D y = entry (fun k => X (ix2 (y 0) k)) (fun k => G (ix2 0 k))
      (fun k n => A (ix2 k n)) (fun k n => B (ix2 k n)) (fun n k => D (ix2 n k)) (y 1) := by
  idx_vars y
  pointwise [k0_pay1]
  rfl

/-- Equal parts give equal entries. -/
theorem entry_congr {x x' g g' : Fin 1024 → EReal} {wg wg' wu wu' : Fin 1024 → Fin 2816 → EReal} {wd wd' : Fin 2816 → Fin 1024 → EReal}
    {j : Fin 1024} (h0 : x = x') (h1 : g = g') (h2 : wg = wg') (h3 : wu = wu') (h4 : wd = wd') :
    entry x g wg wu wd j = entry x' g' wg' wu' wd' j := by
  subst h0 h1 h2 h3 h4; rfl

/-- The stacked rows at an index. -/
theorem stacked_apply (A : FVec Ideal S32x8x1024 .f32) (i : S256x1024.Idx) (b : Fin 32) (s : Fin 8) (k : Fin 1024)
    (h : (i 0).val = b.val * 8 + s.val) (hk : (i 1).val = k.val) :
    shapeCast S256x1024 A shapeCasts_S32x8x1024_S256x1024 i = A (ix3 b s k) := by
  idx_vars i
  pointwise
  blk_ext

/-- A row of a step's block is the row of the input where it lies. -/
theorem row_eq (c : Dev nD) (t : Fin cfg0.N) (p : Fin 256) (k : Fin 1024) (b : Fin 32) (s : Fin 8)
    (h : t.val * 256 + p.val = b.val * 8 + s.val) :
    iblk0 (V1 m ρ) c 0 t (ix2 p k) = m ((c : Thread nD τ).loc main_arg0) (ix3 b s k) := by
  blk_simp [iblk0]
  rw [V1_v0]
  refine (stacked_apply _ _ b s k ?_ ?_).trans rfl
  · blk_simp [places0 t]; omega
  · blk_simp [places0 t]

/-- The rows after the feed-forward, stacked. -/
def mid (c : Dev nD) : FVec Ideal S256x1024 .f32 :=
  shapeCast S256x1024 (fed (m ((c : Thread nD τ).loc main_arg0)) (m ((c : Thread nD τ).loc main_arg1))
        (m ((c : Thread nD τ).loc main_arg3)) (m ((c : Thread nD τ).loc main_arg4))
        (m ((c : Thread nD τ).loc main_arg5))) shapeCasts_S32x8x1024_S256x1024

set_option maxHeartbeats 2000000 in
/-- Entry `y` of the block that a step of the first call stores is the fed row where that entry lies. -/
theorem entry0_eq (c : Dev nD) (t : Fin cfg0.N) (y) :
    k0_pay1 (iblk0 (V1 m ρ) c 0 t) (iblk0 (V1 m ρ) c 1 t) (iblk0 (V1 m ρ) c 2 t) (iblk0 (V1 m ρ) c 3 t) (iblk0 (V1 m ρ) c 4 t) y
      = mid m c (((cfg0.win 5).blk t).view.emb y) := by
  have ht : t.val < 1 := t.isLt
  have hy : (y 0).val < 256 := (y 0).isLt
  unfold mid
  refine (stored0_apply _ _ _ _ _ y).trans (Eq.trans ?_ (stacked_apply _ _
    ⟨(t.val * 256 + (y 0).val) / 8, by omega⟩ ⟨(t.val * 256 + (y 0).val) % 8, by omega⟩ (y 1) ?_ ?_).symm)
  · refine Eq.trans ?_ (fed_apply _ _ _ _ _ _ _ _).symm
    refine entry_congr ?_ ?_ ?_ ?_ ?_
    · funext k; exact row_eq m ρ c t _ k _ _ (by dsimp only; omega)
    · funext k; blk_simp [iblk0]; rw [V1_v3]; pointwise; blk_ext [places0 t]
    · funext k n; blk_simp [iblk0]; rw [V1_v6]; pointwise; blk_ext [places0 t]
    · funext k n; blk_simp [iblk0]; rw [V1_v9]; pointwise; blk_ext [places0 t]
    · funext k n; blk_simp [iblk0]; rw [V1_v12]; pointwise; blk_ext [places0 t]
  · blk_simp [places0 t]; dsimp only; omega
  · blk_simp [places0 t]

/-- What the first call leaves are the fed rows. -/
theorem mid_eq (c : Dev nD) : (dat0 (V1 m ρ) c).arrAt 5 cfg0.N = mid m c := by
  refine (dat0 (V1 m ρ) c).arrAt_eq_of_covers 5 _ (by decide +kernel) fun t hf y => ?_
  blk_simp; rw [after0_5]; frame_out
  exact entry0_eq m ρ c t y

/-- A row of a step's block against a column of the weights. -/
theorem along_apply (X : FVec Ideal S256x1024 .f32) (G : FVec Ideal S1x1024 .f32) (W : FVec Ideal S1024x1536 .bf16)
    (p : Fin 256) (n : Fin 1536) : k1_pay2 (F := Ideal) X G W (ix2 p n)
      = ∑ k, X (ix2 p k) * spread (fun k => X (ix2 p k)) * G (ix2 0 k) * W (ix2 k n) := by
  pointwise [k1_pay2, k1_pay1]
  rfl

/-- Equal places give equal indices. -/
theorem ix3_congr {n k l : ℕ} {a a' : Fin n} {b b' : Fin k} {c c' : Fin l} (h0 : a = a') (h1 : b = b') (h2 : c = c') :
    ix3 a b c = ix3 a' b' c' := by
  subst h0 h1 h2; rfl

/-- The whole projection of the sample rows, from the arguments. -/
def proj (c : Dev nD) : FVec Ideal Cert.Reference5Ideal.S32x8x2048 .f32 :=
  table (fed (m ((c : Thread nD τ).loc main_arg0)) (m ((c : Thread nD τ).loc main_arg1))
        (m ((c : Thread nD τ).loc main_arg3)) (m ((c : Thread nD τ).loc main_arg4))
        (m ((c : Thread nD τ).loc main_arg5))) (m ((c : Thread nD τ).loc main_arg2)) (m ((c : Thread nD τ).loc main_arg6))

/-- The key, value and pool columns at an index. -/
theorem cols_apply (A : FVec Ideal S1x1024x2048 .f32) (k : Fin 1024) (n : Fin 1536) :
    truncf (F := Ideal) FTy.bf16 (concatenate S1024x1536 1 [⟨S1024x512, extractStridedSlice S1024x512 ![0, 512] (shapeCast S1024x2048 A shapeCasts_S1x1024x2048_S1024x2048) slices_S1024x2048_S1024x512_0_512⟩, ⟨S1024x512, extractStridedSlice S1024x512 ![0, 1024] (shapeCast S1024x2048 A shapeCasts_S1x1024x2048_S1024x2048) slices_S1024x2048_S1024x512_0_1024⟩, ⟨S1024x512, extractStridedSlice S1024x512 ![0, 1536] (shapeCast S1024x2048 A shapeCasts_S1x1024x2048_S1024x2048) slices_S1024x2048_S1024x512_0_1536⟩] concatenates_S1024x512_S1024x512_S1024x512_S1024x1536_d1) bitsLt_bf16_f32 (ix2 k n)
      = A (ix3 0 k ⟨512 + n.val, by omega⟩) := by
  pointwise
  by_cases h1 : n.val < 512
  · rw [dif_pos h1]
  · rw [dif_neg h1]
    by_cases h2 : n.val - 512 < 512
    · rw [dif_pos h2]
      congr 2
      refine Fin.ext ?_
      show 1024 + (n.val - 512) = 512 + n.val
      omega
    · rw [dif_neg h2]
      congr 2
      refine Fin.ext ?_
      show 1536 + (n.val - 512 - 512) = 512 + n.val
      omega

/-- Equal parts give equal sums of a normalised row against a column. -/
theorem sum_congr3 {x x' g g' w w' : Fin 1024 → EReal} (h0 : x = x') (h1 : g = g') (h2 : w = w') :
    ∑ k, x k * spread x * g k * w k = ∑ k, x' k * spread x' * g' k * w' k := by
  subst h0 h1 h2; rfl

/-- A row of a step's block of the second call is a fed row. -/
theorem midrow_eq (c : Dev nD) (t : Fin cfg1.N) (p : Fin 256) (k : Fin 1024) (b : Fin 32) (s : Fin 8)
    (h : t.val * 256 + p.val = b.val * 8 + s.val) :
    iblk1 (V5 m ρ) c 0 t (ix2 p k) = fed (m ((c : Thread nD τ).loc main_arg0)) (m ((c : Thread nD τ).loc main_arg1))
        (m ((c : Thread nD τ).loc main_arg3)) (m ((c : Thread nD τ).loc main_arg4))
        (m ((c : Thread nD τ).loc main_arg5)) (ix3 b s k) := by
  blk_simp [iblk1]
  rw [V5_v13, mid_eq]
  refine (stacked_apply _ _ b s k ?_ ?_).trans rfl
  · blk_simp [places1 t]; omega
  · blk_simp [places1 t]

/-- A step's product at an index is the projection there. -/
theorem along_eq (c : Dev nD) (t : Fin cfg1.N) (n : Fin 1536) (p : Fin 256) (b : Fin 32) (s : Fin 8)
    (h : t.val * 256 + p.val = b.val * 8 + s.val) :
    k1_pay2 (iblk1 (V5 m ρ) c 0 t) (iblk1 (V5 m ρ) c 1 t) (iblk1 (V5 m ρ) c 2 t) (ix2 p n) = proj m c (ix3 b s ⟨512 + n.val, by omega⟩) := by
  unfold proj
  refine (along_apply _ _ _ p n).trans (Eq.trans ?_ (table_apply _ _ _ _ _ _).symm)
  refine sum_congr3 ?_ ?_ ?_
  · funext k; exact midrow_eq m ρ c t p k b s h
  · funext k; blk_simp [iblk1]; rw [V5_v16]; pointwise; blk_ext [places1 t]
  · funext k
    blk_simp [iblk1]
    rw [V5_v52]
    refine Eq.trans (congrArg _ ?_) (cols_apply _ k n)
    blk_ext [places1 t]

/-- The gains of the projection and its key columns are real numbers. -/
def RealArgs (c : Dev nD) : Prop :=
  (∀ k : Fin 1024, IsReal (m ((c : Thread nD τ).loc main_arg2) (ix2 0 k)))
    ∧ ∀ (k : Fin 1024) (j : Fin 512), IsReal (m ((c : Thread nD τ).loc main_arg6) (ix3 0 k ⟨512 + j.val, by omega⟩))

/-- The key columns of the projection are real where the gains and the key columns of the weights are. -/
theorem proj_isReal (c : Dev nD) (h : RealArgs m c) (b : Fin 32) (s : Fin 8) (j : Fin 512) :
    IsReal (proj m c (ix3 b s ⟨512 + j.val, by omega⟩)) := by
  obtain ⟨hg, hw⟩ := h
  unfold proj
  rw [table_apply]
  exact line_real _ hg fun k => hw k j

/-- The table of heads at a row and a column: one where both lie in the same head. -/
theorem spreadHeads_apply (A : FVec Ideal S8x8 .f32) (B : FVec Ideal S64x64 .f32) (j n : Fin 512) :
    spreadHeads A B (ix2 j n) = A (ix2 ⟨j.val / 64, by omega⟩ ⟨n.val / 64, by omega⟩) * B (ix2 ⟨j.val % 64, by omega⟩ ⟨n.val % 64, by omega⟩) := by
  pointwise [spreadHeads]
  blk_ext

/-- The unit table at a row and a column. -/
theorem unit_apply (a b : Fin 8) :
    (uitofp (F := Ideal) FTy.f32 (cmpi .eq (addi (iotaInDim S8x8 32 0) (broadcastInDim S8x8 ![] bcast_S_S8x8 (constantI S_ 32 0#32))) (iotaInDim S8x8 32 1)) : FVec Ideal S8x8 .f32) (ix2 a b)
      = if a = b then 1 else 0 := by
  have e : (cmpi .eq (addi (iotaInDim S8x8 32 0) (broadcastInDim S8x8 ![] bcast_S_S8x8 (constantI S_ 32 0#32))) (iotaInDim S8x8 32 1)) (ix2 a b)
      = if a = b then 1#1 else 0#1 := by
    revert a b; decide
  show ((((cmpi .eq (addi (iotaInDim S8x8 32 0) (broadcastInDim S8x8 ![] bcast_S_S8x8 (constantI S_ 32 0#32))) (iotaInDim S8x8 32 1)) (ix2 a b)).toNat : ℝ) : EReal) = _
  rw [e]
  split <;> simp

/-- The table of heads of the second call. -/
theorem table_heads (c : Dev nD) (j n : Fin 512) : (V5 m ρ c main_v33 : FVec Ideal S512x512 .bf16) (ix2 j n) = same j n := by
  rw [V5_v33, W4_v32, W3_v30, W3_v31]
  refine (spreadHeads_apply _ _ j n).trans ?_
  rw [unit_apply]
  have e : (broadcastInDim S64x64 ![] bcast_S_S64x64 (constant (F := Ideal) S_ .f32 0x3F800000#32) : FVec Ideal S64x64 .f32)
      (ix2 ⟨j.val % 64, by omega⟩ ⟨n.val % 64, by omega⟩) = 1 := by
    pointwise
  rw [e, mul_one]
  unfold same
  simp only [Fin.mk.injEq]

/-- The key part of a product, normalised through the table of heads and scaled, at an index. -/
theorem keyPart_apply (X : FVec Ideal S256x1024 .f32) (G : FVec Ideal S1x1024 .f32) (W : FVec Ideal S1024x1536 .bf16)
    (H : FVec Ideal S512x512 .bf16) (g : FVec Ideal S1x512 .f32) (p : Fin 256) (n : Fin 512) :
    k1_pay4 (F := Ideal) (k1_pay3 (F := Ideal) X G W H H) g (ix2 p n)
      = k1_pay2 (F := Ideal) X G W (ix2 p ⟨n.val, by omega⟩)
        * Ideal.rsqrt ((∑ j : Fin 512, k1_pay2 (F := Ideal) X G W (ix2 p ⟨j.val, by omega⟩) * k1_pay2 (F := Ideal) X G W (ix2 p ⟨j.val, by omega⟩) * H (ix2 j n)
            + ∑ j : Fin 512, (k1_pay2 (F := Ideal) X G W (ix2 p ⟨j.val, by omega⟩) * k1_pay2 (F := Ideal) X G W (ix2 p ⟨j.val, by omega⟩)
                - k1_pay2 (F := Ideal) X G W (ix2 p ⟨j.val, by omega⟩) * k1_pay2 (F := Ideal) X G W (ix2 p ⟨j.val, by omega⟩)) * H (ix2 j n))
              * Ideal.ofBits FTy.f32 1015021568#32 + Ideal.ofBits FTy.f32 897988541#32) * g (ix2 0 n) := by
  unfold k1_pay4 k1_pay3
  generalize k1_pay2 (F := Ideal) X G W = T
  pointwise

/-- The key part of a product, over any blocks whose product row is real and whose table is the table of heads, is the row normalised head by head. -/
theorem keyRow_apply (X : FVec Ideal S256x1024 .f32) (G : FVec Ideal S1x1024 .f32) (W : FVec Ideal S1024x1536 .bf16)
    (H : FVec Ideal S512x512 .bf16) (g : FVec Ideal S1x512 .f32) (p : Fin 256) (n : Fin 512) (K : Fin 512 → EReal) (gg : Fin 64 → EReal)
    (h : Fin 8) (d : Fin 64) (hn : n.val = h.val * 64 + d.val)
    (hT : ∀ j : Fin 512, k1_pay2 (F := Ideal) X G W (ix2 p ⟨j.val, by omega⟩) = K j) (hK : ∀ j, IsReal (K j))
    (hH : ∀ j n : Fin 512, H (ix2 j n) = same j n) (hg : g (ix2 0 n) = gg d) :
    k1_pay4 (F := Ideal) (k1_pay3 (F := Ideal) X G W H H) g (ix2 p n) = head (fun e => K ⟨h.val * 64 + e.val, by omega⟩) gg d := by
  refine (keyPart_apply X G W H g p n).trans ?_
  simp only [hT]
  exact split_head K hK (fun j n => H (ix2 j n)) hH gg _ h d n hn hg

/-- The key rows a step leaves, at an index. -/
theorem out14_apply (x0 : FVec Ideal S256x1024 .f32) (x1 : FVec Ideal S1x1024 .f32) (x2 : FVec Ideal S1024x1536 .bf16) (x3)
    (x4 : FVec Ideal S512x512 .bf16) (x5 : FVec Ideal S1x512 .f32) (x6 x7) (y : S256x512.Idx) :
    out1_14 (F := Ideal) x0 x1 x2 x3 x4 x5 x6 x7 y = k1_pay4 (F := Ideal) (k1_pay3 (F := Ideal) x0 x1 x2 x4 x4) x5 y := by
  unfold_out out1_14
  frame_out

/-- The key gains of the second call at a column. -/
theorem gains_apply (c : Dev nD) (h : Fin 8) (d : Fin 64) (n : Fin 512) (hn : n.val = h.val * 64 + d.val) :
    (V5 m ρ c main_v38 : FVec Ideal S1x512 .f32) (ix2 0 n) = m ((c : Thread nD τ).loc main_arg8) (ix2 0 d) := by
  rw [V5_v38]
  have hb : h.val * 64 + d.val < 512 := by omega
  obtain ⟨n, hn'⟩ := n
  dsimp only at hn
  subst hn
  pointwise

/-- The normalised keys, stacked. -/
def stackedKeys (c : Dev nD) : FVec Ideal S256x512 .f32 := fun i =>
  head (fun e => proj m c (ix3 ⟨(i 0).val / 8, by have : (i 0).val < 256 := (i 0).isLt; omega⟩ ⟨(i 0).val % 8, by omega⟩
      ⟨512 + ((i 1).val / 64 * 64 + e.val), by have : (i 1).val < 512 := (i 1).isLt; omega⟩))
    (fun e => m ((c : Thread nD τ).loc main_arg8) (ix2 0 e)) ⟨(i 1).val % 64, by omega⟩

/-- Equal rows, gains and places give equal normalised entries. -/
theorem head_congr {z z' g g' : Fin 64 → EReal} {d d' : Fin 64} (h0 : z = z') (h1 : g = g') (h2 : d = d') :
    head z g d = head z' g' d' := by
  subst h0 h1 h2; rfl

/-- What a step of the second call leaves in its key array, at a row and a column. -/
theorem keyStep_eq (c : Dev nD) (hr : RealArgs m c) (t : Fin cfg1.N) (p : Fin 256) (n : Fin 512) (b : Fin 32) (s : Fin 8)
    (h : t.val * 256 + p.val = b.val * 8 + s.val) :
    k1_pay4 (F := Ideal) (k1_pay3 (F := Ideal) (iblk1 (V5 m ρ) c 0 t) (iblk1 (V5 m ρ) c 1 t) (iblk1 (V5 m ρ) c 2 t)
        (iblk1 (V5 m ρ) c 4 t) (iblk1 (V5 m ρ) c 4 t)) (iblk1 (V5 m ρ) c 5 t) (ix2 p n)
      = head (fun e => proj m c (ix3 b s ⟨512 + (n.val / 64 * 64 + e.val), by omega⟩))
          (fun e => m ((c : Thread nD τ).loc main_arg8) (ix2 0 e)) ⟨n.val % 64, by omega⟩ := by
  refine keyRow_apply _ _ _ _ _ p n (fun j => proj m c (ix3 b s ⟨512 + j.val, by omega⟩)) _ ⟨n.val / 64, by omega⟩ ⟨n.val % 64, by omega⟩
    (by dsimp only; omega) (fun j => along_eq m ρ c t ⟨j.val, by omega⟩ p b s h) (fun j => proj_isReal m c hr b s _) (fun j n => ?_) ?_
  · refine Eq.trans ?_ (table_heads m ρ c j n)
    blk_simp [iblk1]
    refine congrArg (V5 m ρ c main_v33) ?_
    blk_ext [places1 t]
  · refine Eq.trans ?_ (gains_apply m ρ c ⟨n.val / 64, by omega⟩ ⟨n.val % 64, by omega⟩ n (by dsimp only; omega))
    blk_simp [iblk1]
    refine congrArg (V5 m ρ c main_v38) ?_
    blk_ext [places1 t]

/-- What the second call leaves in its key array. -/
theorem keys_eq (c : Dev nD) (hr : RealArgs m c) : (dat1 (V5 m ρ) c).arrAt 14 cfg1.N = stackedKeys m c := by
  refine (dat1 (V5 m ρ) c).arrAt_eq_of_covers 14 _ (by decide +kernel) fun t hf y => ?_
  have ht : t.val < 1 := t.isLt
  have hy : (y 0).val < 256 := (y 0).isLt
  have hy1 : (y 1).val < 512 := (y 1).isLt
  blk_simp; rw [after1_14]
  refine (out14_apply _ _ _ _ _ _ _ _ y).trans ?_
  refine (congrArg _ (show y = ix2 (y 0) (y 1) from by idx_vars y; rfl)).trans ?_
  refine (keyStep_eq m ρ c hr t (y 0) (y 1) ⟨(t.val * 256 + (y 0).val) / 8, by omega⟩ ⟨(t.val * 256 + (y 0).val) % 8, by omega⟩
    (by dsimp only; omega)).trans ?_
  unfold stackedKeys
  refine head_congr (funext fun e => congrArg (proj m c) (ix3_congr ?_ ?_ ?_)) rfl ?_
  · refine Fin.ext ?_; blk_simp [places1 t]
  · refine Fin.ext ?_; blk_simp [places1 t]
  · refine Fin.ext ?_; blk_simp [places1 t]
  · refine Fin.ext ?_; blk_simp [places1 t]

/-- Stacked rows laid out in heads, at an index. -/
theorem heads_apply (A : FVec Ideal S256x512 .f32) (b : Fin 32) (s : Fin 8) (h : Fin 8) (d : Fin 64) :
    broadcastInDim S1x32x8x8x64 ![1, 2, 3, 4] bcast_S32x8x8x64_S1x32x8x8x64_1_2_3_4 (shapeCast S32x8x8x64 A shapeCasts_S256x512_S32x8x8x64) (ix5 0 b s h d)
      = A (ix2 ⟨b.val * 8 + s.val, by omega⟩ ⟨h.val * 64 + d.val, by omega⟩) := by
  pointwise

/-- The keys that the sample calls hand back, from the arguments. -/
def keysOut (c : Dev nD) : FVec Ideal S1x32x8x8x64 .f32 := outK (proj m c) (m ((c : Thread nD τ).loc main_arg8))

/-- The result of the kernel is the result of the reference, where the gains and the key columns of the weights are real. -/
theorem result0_eq (c : Dev nD) (hr : RealArgs m c) : W7 m ρ c (Proc.devRef .tc main_v55) = keysOut m c := by
  unfold keysOut
  rw [W7_v55, keys_eq m ρ c hr]
  funext i
  idx_vars i
  obtain rfl : i0 = 0 := Subsingleton.elim _ _
  refine (heads_apply _ i1 i2 i3 i4).trans (Eq.trans ?_ (outK_apply _ _ i1 i2 i3 i4).symm)
  unfold stackedKeys
  refine head_congr (funext fun e => congrArg (proj m c) (ix3_congr (Fin.ext ?_) (Fin.ext ?_) (Fin.ext ?_))) rfl (Fin.ext ?_)
  · show (i1.val * 8 + i2.val) / 8 = i1.val; omega
  · show (i1.val * 8 + i2.val) % 8 = i2.val; omega
  · show 512 + ((i3.val * 64 + i4.val) / 64 * 64 + e.val) = 512 + (i3.val * 64 + e.val); omega
  · show (i3.val * 64 + i4.val) % 64 = i4.val; omega

/-- Where the gains and the key columns of the weights are real, the calls run to their end, hand back the sample keys and leave their arguments as they were. -/
theorem run_values (hr : ∀ c, RealArgs m c) : θ_run (defs (F := Ideal)) (onTc (τ := τ) (main (F := Ideal))) ⟨m, fun _ => 0, ρ⟩ (fun r => ∀ c : Dev nD,
      r.2.mem ((c : Thread nD τ).loc main_v55) = keysOut m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)) :=
  (θ_run (defs (F := Ideal)) _ _).mono
    (fun r h c => ⟨(h c).1.trans (result0_eq m ρ c (hr c)), (h c).2⟩)
    (run_results m ρ)

end Cert.Kernel6Ideal.Math

end
-- ==== Proof.Keys.Claim.lean ====
module

public import proofs.«01_k».proof.Defs
public import proofs.«01_k».proof.Proof.Gen.Reference6Ideal.Run
public import proofs.«01_k».proof.Proof.Gen.Pre_finite_mix
public import proofs.«01_k».proof.Proof.Keys.Value

@[expose] public section

set_option maxRecDepth 16384

noncomputable section

namespace Cert.Proof

open Idealize.ShloMosaic Idealize.SL.Sem

/-- The reference of the sample keys runs to its end, leaves its arguments as they were and every counter at zero. -/
theorem keys_reference_frame : Cert.quiescent_Reference6Ideal := by
  intro m g _
  exact (θ_run Cert.Reference6Ideal.defs _ _).mono
    (fun r h => ⟨fun c => (h.1 c).2, h.2⟩)
    (show θ_run _ _ _ (fun r => (∀ c, _ ∧ _) ∧ r.2.sem = fun _ => 0) from
      (θ_run Cert.Reference6Ideal.defs _ _).mono
        (fun r h => ⟨h, Idealize.ShloMosaic.sem_eq_zero_of_no_sems (by decide) r.2⟩)
        (Cert.Reference6Ideal.Value.run (F := Ideal) m g))

/-- The same, where the gains and the key columns of the weights are also asked to be finite. -/
theorem keys_reference_frame_finite : Cert.quiescent_Reference6Ideal_pre_finite_mix :=
  fun m g _ => keys_reference_frame m g trivial

/-- An array that differs from itself by zero everywhere holds real numbers. -/
theorem mask_real {s : Shape} (a : FVec Ideal s .f32) (hb : Cert.Pre_finite_mix.S_.BroadcastsInDim s (![] : Fin 0 → Fin s.rank))
    (h : cmpf (F := Ideal) .oeq (subf a a) (broadcastInDim s ![] hb (constant Cert.Pre_finite_mix.S_ .f32 0x00000000#32)) = fun _ => 1#1)
    (i : s.Idx) : Cert.Finite.IsReal (a i) := by
  have e : Ideal.cmp .oeq (a i - a i) (Ideal.ofBits .f32 0x00000000#32) = 1#1 := congrFun h i
  rw [Ideal.ofBits_zero_f32] at e
  refine Cert.Finite.of_sub ?_
  by_contra hc
  have e0 : Ideal.cmp .oeq (a i - a i) 0 = 0#1 := by
    show BitVec.ofBool (decide (a i - a i = 0)) = 0#1
    rw [decide_eq_false hc]; rfl
  rw [e0] at e
  exact absurd e (by decide)

/-- The first row of gains, cut out, at a place. -/
theorem gain_row (a : FVec Ideal Cert.Pre_finite_mix.S2x1024 .f32) (k : Fin 1024) :
    shapeCast Cert.Pre_finite_mix.S1024 (extractStridedSlice Cert.Pre_finite_mix.S1x1024 ![0, 0] a Cert.Pre_finite_mix.Facts.slices_S2x1024_S1x1024_0_0)
      Cert.Pre_finite_mix.Facts.shapeCasts_S1x1024_S1024 (ix1 k) = a (ix2 0 k) := by
  pointwise

/-- The key columns of the weights, cut out, at a place. -/
theorem key_cols (a : FVec Ideal Cert.Pre_finite_mix.S1x1024x2048 .f32) (k : Fin 1024) (j : Fin 512) :
    shapeCast Cert.Pre_finite_mix.S1024x512 (extractStridedSlice Cert.Pre_finite_mix.S1x1024x512 ![0, 0, 512] a Cert.Pre_finite_mix.Facts.slices_S1x1024x2048_S1x1024x512_0_0_512)
      Cert.Pre_finite_mix.Facts.shapeCasts_S1x1024x512_S1024x512 (ix2 k j) = a (ix3 0 k ⟨512 + j.val, by omega⟩) := by
  pointwise

/-- What the precondition says: the gains and the key columns of the weights hold real numbers. -/
theorem real_args (m : (ℓ : Loc Cert.Kernel6Ideal.nD Cert.Kernel6Ideal.τ Cert.Kernel6Ideal.sig) → Buf (Elt Ideal) ℓ)
    (h : Cert.Pre_Kernel6Ideal_finite_mix m) (c : Dev Cert.Kernel6Ideal.nD) : Cert.Kernel6Ideal.Math.RealArgs m c := by
  obtain ⟨h0, h1⟩ := h c
  refine ⟨fun k => ?_, fun k j => ?_⟩
  · obtain ⟨r, hr⟩ := mask_real _ _ h0 (ix1 k)
    exact ⟨r, (gain_row _ k).symm.trans hr⟩
  · obtain ⟨r, hr⟩ := mask_real _ _ h1 (ix2 k j)
    exact ⟨r, (key_cols _ k j).symm.trans hr⟩

/-- The reference's sample keys, as its stages one after the other. -/
theorem sample_keys (m : (ℓ : Loc Cert.Reference6Ideal.nD Cert.Reference6Ideal.τ Cert.Reference6Ideal.sig) → Buf (Elt Ideal) ℓ)
    (c : Dev Cert.Reference6Ideal.nD) : Cert.Reference6Ideal.Value.res_main_v81 m c = Cert.Reference6Ideal.Math.outK (Cert.Reference5Ideal.Math.table (Cert.Reference5Ideal.Math.fed (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)))
        (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg6))) (m ((c.tc : Thread Cert.Reference6Ideal.nD Cert.Reference6Ideal.τ).loc Cert.Reference6Ideal.main_arg8)) := by
  unfold Cert.Reference6Ideal.Value.res_main_v81
  rfl

set_option maxHeartbeats 2000000 in
/-- Where the gains and the key columns of the weights are finite, the sample calls and their reference end with equal keys over the reals. -/
theorem keys_algebraic : Cert.algebraic_Kernel6Ideal_Reference6Ideal_pre_finite_mix := by
  pair_intro
  · run_from Cert.Kernel6Ideal.Math.run_values m g (real_args m hpre)
  · run_from Cert.Reference6Ideal.Value.run m' g'
    all_goals obtain ⟨a0, a1, a2, a3, a4, a5, a6, a7, a8⟩ := hagree c
    refine (sample_keys m' c).trans ?_
    unfold Cert.Kernel6Ideal.Math.keysOut Cert.Kernel6Ideal.Math.proj
    rw [a0, a1, a2, a3, a4, a5, a6, a8]

end Cert.Proof

end
-- ==== Proof.Pool.Sum.lean ====
module

public import proofs.«01_k».proof.Proof.Keys.Real
public import Idealize.ShloMosaic.Lib.Pointwise

@[expose] public section

set_option maxRecDepth 16384

noncomputable section

open Idealize.ShloMosaic Idealize.ShloMosaic.TcCoe Idealize.SL.Sem

namespace Cert.Pool

open Cert.Finite (IsReal)

/-- A fold that adds one value after another is the first value plus the sum. -/
theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- The entries of a column of an array down the rows, and zero past the last row. -/
def column {A N C : ℕ} (x : FVec Ideal ⟨3, ![A, N, C]⟩ .f32) (b : Fin A) (n : Fin C) (i : ℕ) : EReal :=
  if h : i < N then x (ix3 b ⟨i, h⟩ n) else 0

/-- A column at one of its rows. -/
theorem column_lt {A N C : ℕ} (x : FVec Ideal ⟨3, ![A, N, C]⟩ .f32) (b : Fin A) (n : Fin C) {i : ℕ} (h : i < N) :
    column x b n i = x (ix3 b ⟨i, h⟩ n) := dif_pos h

/-- A column past its last row. -/
theorem column_ge {A N C : ℕ} (x : FVec Ideal ⟨3, ![A, N, C]⟩ .f32) (b : Fin A) (n : Fin C) {i : ℕ} (h : ¬ i < N) :
    column x b n i = 0 := dif_neg h

/-- The places of a window one wide, one column deep and `N` rows high. -/
def tall (N : ℕ) : Fin N ≃ (⟨3, ![1, N, 1]⟩ : Shape).Idx where
  toFun q := ix3 0 q 0
  invFun p := p 1
  left_inv _ := rfl
  right_inv p := by
    funext a
    match a with
    | ⟨0, _⟩ => exact Subsingleton.elim (α := Fin 1) _ _
    | ⟨1, _⟩ => rfl
    | ⟨2, _⟩ => exact Subsingleton.elim (α := Fin 1) _ _

/-- A sum over a window whose last place stands at row `j` is the sum of the rows up to `j`. -/
theorem sum_window (N : ℕ) (e : ℕ → EReal) (j : ℕ) (hj : j < N + 1) :
    ∑ q : Fin (N + 1), (if N ≤ j + q.val then e (j + q.val - N) else 0) = ∑ i ∈ Finset.range (j + 1), e i := by
  rw [← Finset.sum_range (fun q => if N ≤ j + q then e (j + q - N) else 0),
    show N + 1 = (N - j) + (j + 1) by omega, Finset.sum_range_add]
  rw [Finset.sum_eq_zero (fun q hq => if_neg (by have := Finset.mem_range.1 hq; omega)), zero_add]
  refine Finset.sum_congr rfl fun q _ => ?_
  rw [if_pos (by omega)]
  congr 1
  omega

/-- The running sums down the rows, at a place. -/
theorem running {A N C : ℕ} (x : FVec Ideal ⟨3, ![A, N + 1, C]⟩ .f32) (init : FVec Ideal ⟨0, ![]⟩ .f32) (hinit : init ix0 = 0)
    (h : (⟨3, ![A, N + 1, C]⟩ : Shape).ReduceWindows (![1, N + 1, 1] : Fin 3 → ℕ) ![1, 1, 1] ![0, N, 0] ![0, 0, 0] ⟨3, ![A, N + 1, C]⟩)
    (hu : 0 < (⟨0, ![]⟩ : Shape).numel) (b : Fin A) (j : Fin (N + 1)) (n : Fin C) :
    Host.reduceWindowAdd ![1, N + 1, 1] ![1, 1, 1] ![0, N, 0] ![0, 0, 0] x init h hu (ix3 b j n)
      = ∑ i ∈ Finset.range (j.val + 1), column x b n i := by
  have hv : init (Shape.Idx.first hu) = 0 := (congrArg init (ValueIdx.eq_ix0 _)).trans hinit
  have hj := j.isLt
  have hb := b.isLt
  have hn := n.isLt
  show Ideal.hostReduceWindowAdd _ _ _ _ h x _ _ = _
  unfold Ideal.hostReduceWindowAdd Host.reduceWindow
  dsimp only
  rw [foldl_add, hv, zero_add, ← Fin.sum_univ_def]
  rw [← Equiv.sum_comp ((tall (N + 1)).trans (⟨3, ![1, N + 1, 1]⟩ : Shape).rowMajor)]
  refine Eq.trans (Finset.sum_congr rfl fun q _ => ?_) (sum_window N (column x b n) j.val hj)
  have hq := q.isLt
  simp only [Equiv.trans_apply, Equiv.symm_apply_apply]
  split
  · next hin =>
    have h1 := hin 1
    change N ≤ j.val * 1 + q.val ∧ j.val * 1 + q.val - N < N + 1 at h1
    rw [if_pos (by omega)]
    unfold column
    rw [dif_pos (by omega)]
    refine congrArg x (funext fun a => Fin.ext ?_)
    match a with
    | ⟨0, _⟩ => show b.val * 1 + 0 - 0 = b.val; omega
    | ⟨1, _⟩ => show j.val * 1 + q.val - N = j.val + q.val - N; omega
    | ⟨2, _⟩ => show n.val * 1 + 0 - 0 = n.val; omega
  · next hin =>
    rw [if_neg]
    intro hle
    refine hin fun a => ?_
    match a with
    | ⟨0, _⟩ => show 0 ≤ b.val * 1 + 0 ∧ b.val * 1 + 0 - 0 < A; omega
    | ⟨1, _⟩ => show N ≤ j.val * 1 + q.val ∧ j.val * 1 + q.val - N < N + 1; omega
    | ⟨2, _⟩ => show 0 ≤ n.val * 1 + 0 ∧ n.val * 1 + 0 - 0 < C; omega

/-- The value `k` rows back, and zero before the first row. -/
def back (f : ℕ → EReal) (s k : ℕ) : EReal := if k ≤ s then f (s - k) else 0

/-- The last `w` rows' sum. -/
def recent (f : ℕ → EReal) (w s : ℕ) : EReal := ∑ k ∈ Finset.range w, back f s k

/-- A sequence with fifteen zeros before it. -/
def padded (f : ℕ → EReal) (i : ℕ) : EReal := if 15 ≤ i then f (i - 15) else 0

/-- Two running sums of real numbers differ by the rows between them. -/
theorem sub_running {e : ℕ → EReal} (he : ∀ i, IsReal (e i)) (a w : ℕ) :
    ∑ i ∈ Finset.range (a + w), e i - ∑ i ∈ Finset.range a, e i = ∑ k ∈ Finset.range w, e (a + k) := by
  choose g hg using he
  simp only [hg, Cert.Finite.coe_sum, ← EReal.coe_sub]
  rw [Finset.sum_range_add, add_sub_cancel_left]

/-- Two running sums of a padded sequence of real numbers differ by the last rows' sum. -/
theorem sub_padded {f : ℕ → EReal} (hf : ∀ i, IsReal (f i)) (w s o : ℕ) (ho : o + w = 16) :
    ∑ i ∈ Finset.range (16 + s), padded f i - ∑ i ∈ Finset.range (o + s), padded f i = recent f w s := by
  have hp : ∀ i, IsReal (padded f i) := fun i => by
    unfold padded
    split
    · exact hf _
    · exact ⟨0, rfl⟩
  rw [show 16 + s = (o + s) + w by omega, sub_running hp, ← Finset.sum_range_reflect]
  refine Finset.sum_congr rfl fun k hk => ?_
  have hk := Finset.mem_range.1 hk
  unfold padded back
  by_cases h : k ≤ s
  · rw [if_pos (by omega), if_pos h]; congr 1; omega
  · rw [if_neg (by omega), if_neg h]

/-- How many rows the mean at row `s` is taken over. -/
def tally (s w : ℕ) : EReal :=
  FloatOps.sitofp (F := Ideal) FTy.f32 (IntOp.minsi (IntOp.addi (BitVec.ofNat 32 s) 1#32) (BitVec.ofNat 32 w))

/-- The mean of the last `w` rows, less the row itself. -/
def lag (f : ℕ → EReal) (s w : ℕ) : EReal := Ideal.div (recent f w s) (tally s w) - f s

/-- The lags of group `g`'s columns against column `c` of the group's weights. -/
def groupAt (f : Fin 512 → ℕ → EReal) (w : Fin 4 → Fin 128 → Fin 128 → EReal) (s : ℕ) (g : Fin 4) (c : Fin 128) : EReal :=
  ∑ l : Fin 128, lag (f ⟨g.val * 128 + l.val, by omega⟩) s (2 ^ (g.val + 1)) * w g l c

/-- The pooled row at a column: the group that the column lies in, at the column inside the group. -/
def pooled (f : Fin 512 → ℕ → EReal) (w : Fin 4 → Fin 128 → Fin 128 → EReal) (s : ℕ) (n : Fin 512) : EReal :=
  groupAt f w s ⟨n.val / 128, by omega⟩ ⟨n.val % 128, by omega⟩

/-- The pooled row at a column whose group and place inside it are known. -/
theorem pooled_at (f : Fin 512 → ℕ → EReal) (w : Fin 4 → Fin 128 → Fin 128 → EReal) (s : ℕ) (n : Fin 512) (g : Fin 4) (c : Fin 128)
    (h : n.val = g.val * 128 + c.val) : pooled f w s n = groupAt f w s g c := by
  unfold pooled
  congr 1
  · exact Fin.ext (show n.val / 128 = g.val by omega)
  · exact Fin.ext (show n.val % 128 = c.val by omega)

/-- One entry of the output: the row's own entry, the attention's row and the scaled pooled row against their halves of the weights. -/
def entry (y : EReal) (a : Fin 512 → EReal) (f : Fin 512 → ℕ → EReal) (w : Fin 4 → Fin 128 → Fin 128 → EReal) (p : Fin 512 → EReal)
    (wa wp : Fin 512 → EReal) (s : ℕ) : EReal :=
  y + (∑ k, a k * wa k + ∑ k, pooled f w s k * p k * wp k)

end Cert.Pool

end
-- ==== Proof.Pool.Read.lean ====
module

public import proofs.«01_k».proof.Proof.Gen.Kernel7Ideal.Frame
public import proofs.«01_k».proof.Proof.Pool.Sum
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Kernel7Ideal.Math
open Cert.Kernel7Ideal Cert.Kernel7Ideal.Gen Cert.Pool
variable (m : (ℓ : Loc nD τ sig) → Buf (Elt Ideal) ℓ)

/-- A row of the scratch array: sixteen rows of what came before, then the block's rows. -/
def row (U : FVec Ideal S1x512x512 .f32) (P : FVec Ideal S1x16x512 .f32) (r : ℕ) (n : Fin 512) : EReal :=
  if r < 16 then column P 0 n r else column U 0 n (r - 16)

/-- 512 rows of the scratch array from row `o`, 128 columns from column `p`. -/
def stretch (U : FVec Ideal S1x512x512 .f32) (P : FVec Ideal S1x16x512 .f32) (o p : ℕ) (hp : p + 128 ≤ 512) : FVec Ideal S1x512x128 .f32 :=
  fun j => row U P (o + (j 1).val) ⟨p + (j 2).val, by have : (j 2).val < 128 := (j 2).isLt; omega⟩

/-- A row off the stored rows keeps what it held. -/
theorem rows_off {o e : ℕ} (L : List (View.Piece (Elt Ideal) S1x528x512 .f32)) (inb)
    (w : (Rect.unit (s := S1x528x512) ![0, o, 0] ![1, e, 512] inb).shape.Idx → Elt Ideal .f32)
    (y : S1x528x512.Idx) (h : (y 1).val < o) :
    View.canon (⟨Rect.unit (s := S1x528x512) ![0, o, 0] ![1, e, 512] inb, w⟩ :: L) y = View.canon L y := by
  apply View.canon_cons_of_not_mem
  rw [Rect.mem_set_unit]
  intro hm
  have h1 := (hm 1).1
  simp only [Matrix.cons_val_one, Matrix.cons_val_zero] at h1
  omega

/-- A stored row reads what was stored. -/
theorem rows_on {o e : ℕ} (L : List (View.Piece (Elt Ideal) S1x528x512 .f32)) (inb)
    (w : (Rect.unit (s := S1x528x512) ![0, o, 0] ![1, e, 512] inb).shape.Idx → Elt Ideal .f32)
    (y : S1x528x512.Idx) (h : o ≤ (y 1).val) (h' : (y 1).val < o + e) :
    View.canon (⟨Rect.unit (s := S1x528x512) ![0, o, 0] ![1, e, 512] inb, w⟩ :: L) y
      = w (ix3 0 ⟨(y 1).val - o, by omega⟩ (y 2)) := by
  refine Eq.trans (congrArg _ ?_) (View.canon_cons_emb (Rect.unit (s := S1x528x512) ![0, o, 0] ![1, e, 512] inb) w L _)
  have h0 : (y 0).val < 1 := (y 0).isLt
  funext a
  refine Fin.ext ?_
  fin_cases a
  · show (y 0).val = 0 + 1 * 0; omega
  · show (y 1).val = o + 1 * ((y 1).val - o); omega
  · show (y 2).val = 0 + 1 * (y 2).val; omega

/-- A read of the scratch array after its two stores. -/
theorem stretch_eq (U : FVec Ideal S1x512x512 .f32) (P : FVec Ideal S1x16x512 .f32) (o p : ℕ) (hp : p + 128 ≤ 512) (i1 i2 i3) (j : S1x512x128.Idx) :
    View.canon ([⟨Rect.unit (s := S1x528x512) ![0, 16, 0] ![1, 512, 512] i1, U⟩, ⟨Rect.unit (s := S1x528x512) ![0, 0, 0] ![1, 16, 512] i2, P⟩] : List (View.Piece (Elt Ideal) S1x528x512 .f32))
      ((Rect.unit (s := S1x528x512) ![0, o, p] ![1, 512, 128] i3).toLoadRect.idx j) = stretch U P o p hp j := by
  have h1 : (j 1).val < 512 := (j 1).isLt
  have h2 : (j 2).val < 128 := (j 2).isLt
  have h0 : (j 0).val < 1 := (j 0).isLt
  have ho : o + 512 ≤ 528 := i3 1
  have hy : (Rect.unit (s := S1x528x512) ![0, o, p] ![1, 512, 128] i3).toLoadRect.idx j
      = (ix3 0 ⟨o + (j 1).val, by omega⟩ ⟨p + (j 2).val, by omega⟩ : S1x528x512.Idx) := by
    funext a
    refine Fin.ext ?_
    fin_cases a
    · show 0 + 1 * (j 0).val = 0; omega
    · show o + 1 * (j 1).val = o + (j 1).val; omega
    · show p + 1 * (j 2).val = p + (j 2).val; omega
  rw [hy]
  unfold stretch row
  by_cases h : o + (j 1).val < 16
  · rw [if_pos h, column_lt P 0 _ h, rows_off _ i1 U _ h]
    refine (rows_on _ i2 P _ (Nat.zero_le _) (by show o + (j 1).val < 0 + 16; omega)).trans ?_
    rfl
  · rw [if_neg h, column_lt U 0 _ (show o + (j 1).val - 16 < 512 by omega)]
    refine (rows_on _ i1 U _ (by show 16 ≤ o + (j 1).val; omega) (by show o + (j 1).val < 16 + 512; omega)).trans ?_
    rfl

theorem same (U : FVec Ideal S1x512x512 .f32) : k0_pay2 (F := Ideal) U = U := by
  funext y; idx_vars y; pointwise [k0_pay2]
theorem same' (U : FVec Ideal S1x512x512 .f32) : k0_pay4 (F := Ideal) U = U := by
  funext y; idx_vars y; pointwise [k0_pay4]

/-- The position in its sequence of a step's first row. -/
def first (i : grid0.Coords) : BitVec 32 :=
  Scalar.muli (Scalar.select
    (Scalar.andi (Scalar.xori (Scalar.cmpi .slt (Scalar.remsi (BitVec.ofNat 32 (i 0).val) (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi (BitVec.ofNat 32 (i 0).val) (Scalar.select (Scalar.cmpi .eq 16#32 0#32) 1#32 16#32)) 0#32))
    (Scalar.addi (Scalar.remsi (BitVec.ofNat 32 (i 0).val) (Scalar.select (Scalar.cmpi .eq 16#32 0#32) 1#32 16#32)) (Scalar.select (Scalar.cmpi .eq 16#32 0#32) 1#32 16#32))
    (Scalar.remsi (BitVec.ofNat 32 (i 0).val) (Scalar.select (Scalar.cmpi .eq 16#32 0#32) 1#32 16#32))) 512#32

/-- One group's square of the pool weights. -/
def square (W : FVec Ideal S4x128x128 .bf16) (g : Fin 4) : FVec Ideal S1x128x128 .bf16 :=
  fun j => W (ix3 g (j 1) (j 2))

/-- The pooled rows of a step. -/
def pooledRows (w : BitVec 32) (U : FVec Ideal S1x512x512 .f32) (P : FVec Ideal S1x16x512 .f32) (W : FVec Ideal S4x128x128 .bf16)
    (s : FVec Ideal S1x512 .f32) : FVec Ideal S512x512 .bf16 :=
  k0_pay12 U (k0_pay5 w)
    (k0_pay6 U w (stretch U P 15 0 (by decide)) (square W 0))
    (k0_pay8 U (k0_pay7 U w (stretch U P 15 128 (by decide)) (stretch U P 14 128 (by decide)) (stretch U P 13 128 (by decide))) (square W 1))
    (k0_pay10 (k0_pay9 U (k0_pay5 w) (stretch U P 15 256 (by decide)) (stretch U P 14 256 (by decide)) (stretch U P 13 256 (by decide))
      (stretch U P 12 256 (by decide)) (stretch U P 11 256 (by decide)) (stretch U P 10 256 (by decide)) (stretch U P 9 256 (by decide))) (square W 2))
    (k0_pay11 U (stretch U P 15 384 (by decide)) (stretch U P 14 384 (by decide)) (stretch U P 13 384 (by decide))
      (stretch U P 12 384 (by decide)) (stretch U P 11 384 (by decide)) (stretch U P 10 384 (by decide)) (stretch U P 9 384 (by decide))
      (stretch U P 8 384 (by decide)) (stretch U P 7 384 (by decide)) (stretch U P 6 384 (by decide)))
    (stretch U P 5 384 (by decide)) (stretch U P 4 384 (by decide)) (stretch U P 3 384 (by decide)) (stretch U P 2 384 (by decide))
    (stretch U P 1 384 (by decide)) (square W 3) s

theorem square_eq (W : FVec Ideal S4x128x128 .bf16) (g : ℕ) (hg : g < 4) (inb) :
    (View.ld W (Rect.unit (s := S4x128x128) ![g, 0, 0] ![1, 128, 128] inb) : S1x128x128.Idx → Elt Ideal .bf16) = square W ⟨g, hg⟩ := by
  refine funext fun (j : S1x128x128.Idx) => congrArg W ?_
  have h0 : (j 0).val < 1 := (j 0).isLt
  funext a
  refine Fin.ext ?_
  fin_cases a
  · show g + 1 * (j 0).val = g; omega
  · show 0 + 1 * (j 1).val = (j 1).val; omega
  · show 0 + 1 * (j 2).val = (j 2).val; omega

theorem out_eq (c : Dev nD) (t : Fin cfg0.N) : outsAt0 m c t =
    k0_pay1 (pooledRows (first (grid0.coords t)) (iblk m c 2 t) (k0_pay3 (grid0.coords t) (iblk m c 3 t)) (iblk m c 4 t) (iblk m c 5 t))
      (k0_pay13 (iblk m c 1 t)) (k0_pay14 (iblk m c 6 t)) (iblk m c 7 t) (iblk m c 0 t) := by
  unfold outsAt0 out0_A_8 kernelRun0_A
  dsimp only
  frame_out
  simp only [View.readCov_eq_canon', same, same']
  generalize iblk m c 2 t = U
  generalize k0_pay3 (grid0.coords t) (iblk m c 3 t) = P
  generalize iblk m c 4 t = W
  simp only [stretch_eq U P _ 0 (by decide), stretch_eq U P _ 128 (by decide), stretch_eq U P _ 256 (by decide), stretch_eq U P _ 384 (by decide)]
  rw [square_eq W 0 (by decide), square_eq W 1 (by decide), square_eq W 2 (by decide), square_eq W 3 (by decide)]
  rfl

end Cert.Kernel7Ideal.Math
end
-- ==== Proof.Pool.Ref.lean ====
module

public import proofs.«01_k».proof.Proof.Gen.Reference7Ideal
public import proofs.«01_k».proof.Proof.Pool.Sum
public import Idealize.ShloMosaic.Lib.Pointwise

@[expose] public section

set_option maxRecDepth 16384

noncomputable section

open Idealize.ShloMosaic Idealize.ShloMosaic.TcCoe Idealize.SL.Sem

namespace Cert.Reference7Ideal.Math

open Cert.Reference7Ideal Cert.Reference7Ideal.Gen Cert.Pool
open Cert.Finite (IsReal)

/-- The rows with fifteen zero rows before them. -/
def ext (a2 : FVec Ideal S2x8192x512 .f32) : FVec Ideal S2x8207x512 .f32 :=
  concatenate S2x8207x512 1 [⟨S2x15x512, (broadcastInDim S2x15x512 ![] bcast_S_S2x15x512 (constant S_ .f32 0x00000000#32))⟩, ⟨S2x8192x512, a2⟩] concatenates_S2x15x512_S2x8192x512_S2x8207x512_d1

/-- The extended rows at an index. -/
theorem ext_apply (a2 : FVec Ideal S2x8192x512 .f32) (b : Fin 2) (i : Fin 8207) (n : Fin 512) :
    ext a2 (ix3 b i n) = padded (column a2 b n) i.val := by
  have hi := i.isLt
  pointwise [ext]
  unfold padded
  by_cases h : i.val < 15
  · rw [dif_pos h, if_neg (by omega)]
  · have h1 : 15 ≤ i.val := by omega
    have h2 : i.val - 15 < 8192 := by omega
    exact (dif_neg h).trans ((if_pos h1).trans (column_lt a2 b n h2)).symm

/-- A column of the extended rows is the padded column. -/
theorem ext_column (a2 : FVec Ideal S2x8192x512 .f32) (b : Fin 2) (n : Fin 512) (i : ℕ) :
    column (ext a2) b n i = padded (column a2 b n) i := by
  by_cases h : i < 8207
  · exact (column_lt (ext a2) b n h).trans (ext_apply a2 b ⟨i, h⟩ n)
  · have h1 : 15 ≤ i := by omega
    have h2 : ¬ i - 15 < 8192 := by omega
    exact (column_ge (ext a2) b n h).trans ((if_pos h1).trans (column_ge a2 b n h2)).symm

/-- The running sums of the rows, a zero row before them. -/
def sums (E : FVec Ideal S2x8207x512 .f32) : FVec Ideal S2x8208x512 .f32 :=
  concatenate S2x8208x512 1 [⟨S2x1x512, (broadcastInDim S2x1x512 ![] bcast_S_S2x1x512 (constant S_ .f32 0x00000000#32))⟩, ⟨S2x8207x512, (Host.reduceWindowAdd ![1, 8207, 1] ![1, 1, 1] ![0, 8206, 0] ![0, 0, 0] E (broadcastInDim S_ ![] bcast_S_S_ (constant S_ .f32 0x00000000#32)) reduceWindows_S2x8207x512_S2x8207x512_w1s1p0_0_w8207s1p8206_0_w1s1p0_0 h_S_)⟩] concatenates_S2x1x512_S2x8207x512_S2x8208x512_d1

/-- The running sums at an index: the rows before it. -/
theorem sums_apply (E : FVec Ideal S2x8207x512 .f32) (b : Fin 2) (i : Fin 8208) (n : Fin 512) :
    sums E (ix3 b i n) = ∑ k ∈ Finset.range i.val, column E b n k := by
  have hi := i.isLt
  unfold sums
  generalize hR : Host.reduceWindowAdd ![1, 8207, 1] ![1, 1, 1] ![0, 8206, 0] ![0, 0, 0] E (broadcastInDim S_ ![] bcast_S_S_ (constant S_ .f32 0x00000000#32)) reduceWindows_S2x8207x512_S2x8207x512_w1s1p0_0_w8207s1p8206_0_w1s1p0_0 h_S_ = R
  have hr : ∀ j : Fin 8207, R (ix3 b j n) = ∑ k ∈ Finset.range (j.val + 1), column E b n k := fun j => by
    rw [← hR]
    exact running (N := 8206) E _ (by pointwise) reduceWindows_S2x8207x512_S2x8207x512_w1s1p0_0_w8207s1p8206_0_w1s1p0_0 h_S_ b j n
  pointwise
  by_cases h : i.val < 1
  · rw [dif_pos h, show i.val = 0 by omega, Finset.range_zero, Finset.sum_empty]
  · rw [dif_neg h, hr]
    dsimp only
    rw [show i.val - 1 + 1 = i.val by omega]

/-- One group's columns: the mean of its last rows from two running sums, less the row itself. -/
def group (o p : ℕ) (w : BitVec 32) (C : FVec Ideal S2x8208x512 .f32) (E : FVec Ideal S2x8207x512 .f32)
    (h16 : S2x8208x512.Slices ![0, 16, p] S2x8192x128) (ho : S2x8208x512.Slices ![0, o, p] S2x8192x128)
    (hp : S2x8192x512.Slices ![0, 0, p] S2x8192x128) : FVec Ideal S2x8192x128 .f32 :=
  subf (Host.divf (subf (extractStridedSlice S2x8192x128 ![0, 16, p] C h16) (extractStridedSlice S2x8192x128 ![0, o, p] C ho)) (broadcastInDim S2x8192x128 ![0, 1, 2] bcast_S1x8192x1_S2x8192x128_0_1_2 (broadcastInDim S1x8192x1 ![1] bcast_S8192_S1x8192x1_1 (sitofp .f32 (minsi (addi (addi (broadcastInDim S8192 ![] bcast_S_S8192 (constantI S_ 32 0#32)) (iotaInDim S8192 32 0)) (broadcastInDim S8192 ![] bcast_S_S8192 (constantI S_ 32 1#32))) (broadcastInDim S8192 ![] bcast_S_S8192 (constantI S_ 32 w))))))) (extractStridedSlice S2x8192x128 ![0, 0, p] (extractStridedSlice S2x8192x512 ![0, 15, 0] E slices_S2x8207x512_S2x8192x512_0_15_0) hp)

/-- One group's columns at an index, where the rows are real numbers. -/
theorem group_apply (a2 : FVec Ideal S2x8192x512 .f32) (hr : ∀ i, IsReal (a2 i)) (o p w : ℕ) (h16 ho hp)
    (hw : o + w = 16) (b : Fin 2) (s : Fin 8192) (l : Fin 128) (hl : p + l.val < 512) :
    group o p (BitVec.ofNat 32 w) (sums (ext a2)) (ext a2) h16 ho hp (ix3 b s l) = lag (column a2 b ⟨p + l.val, hl⟩) s.val w := by
  have hc : ∀ i, IsReal (column a2 b ⟨p + l.val, hl⟩ i) := fun i => by
    unfold column
    split
    · exact hr _
    · exact ⟨0, rfl⟩
  pointwise [group]
  simp only [sums_apply, ext_apply, ext_column]
  rw [sub_padded hc w s.val o hw]
  unfold lag tally
  refine congrArg₂ (· - ·) ?_ ?_
  · refine congrArg₂ Ideal.div rfl (congrArg _ (congrArg₂ _ (congrArg₂ _ ?_ rfl) rfl))
    exact BitVec.zero_add _
  · unfold padded
    rw [if_pos (by omega)]
    congr 1
    omega

/-- A group's columns against the group's weights. -/
def carried (D : FVec Ideal S2x8192x128 .f32) (q : ℕ) (a3 : FVec Ideal S4x128x128 .f32) (hq : S4x128x128.Slices ![q, 0, 0] S1x128x128) :
    FVec Ideal S2x8192x128 .f32 :=
  Host.dotGeneral dot_S2x8192x128_S128x128_S2x8192x128_2_0_01_1_n_n none D (shapeCast _ (extractStridedSlice S1x128x128 ![q, 0, 0] a3 hq) shapeCasts_S1x128x128_S128x128)

/-- A group's product at an index, where the rows are real numbers. -/
theorem carried_apply (a2 : FVec Ideal S2x8192x512 .f32) (hr : ∀ i, IsReal (a2 i)) (a3 : FVec Ideal S4x128x128 .f32) (g : Fin 4) (o p w q : ℕ) (h16 ho hp hq)
    (hg : q = g.val) (hp' : p = g.val * 128) (hw' : w = 2 ^ (g.val + 1)) (hw : o + w = 16) (b : Fin 2) (s : Fin 8192) (c : Fin 128) :
    carried (group o p (BitVec.ofNat 32 w) (sums (ext a2)) (ext a2) h16 ho hp) q a3 hq (ix3 b s c)
      = groupAt (column a2 b) (fun g l c => a3 (ix3 g l c)) s.val g c := by
  subst hg hp' hw'
  generalize hD : group o (g.val * 128) (BitVec.ofNat 32 (2 ^ (g.val + 1))) (sums (ext a2)) (ext a2) h16 ho hp = D
  have hd : ∀ l : Fin 128, D (ix3 b s l) = lag (column a2 b ⟨g.val * 128 + l.val, by omega⟩) s.val (2 ^ (g.val + 1)) := fun l => by
    rw [← hD]
    exact group_apply a2 hr o _ _ h16 ho hp hw b s l (by omega)
  pointwise [carried]
  simp only [hd]
  rfl

/-- The four groups' products side by side. -/
def pool (a2 : FVec Ideal S2x8192x512 .f32) (a3 : FVec Ideal S4x128x128 .f32) : FVec Ideal S2x8192x512 .f32 :=
  concatenate S2x8192x512 2 [
    ⟨S2x8192x128, carried (group 14 0 2#32 (sums (ext a2)) (ext a2) slices_S2x8208x512_S2x8192x128_0_16_0 slices_S2x8208x512_S2x8192x128_0_14_0 slices_S2x8192x512_S2x8192x128_0_0_0) 0 a3 slices_S4x128x128_S1x128x128_0_0_0⟩,
    ⟨S2x8192x128, carried (group 12 128 4#32 (sums (ext a2)) (ext a2) slices_S2x8208x512_S2x8192x128_0_16_128 slices_S2x8208x512_S2x8192x128_0_12_128 slices_S2x8192x512_S2x8192x128_0_0_128) 1 a3 slices_S4x128x128_S1x128x128_1_0_0⟩,
    ⟨S2x8192x128, carried (group 8 256 8#32 (sums (ext a2)) (ext a2) slices_S2x8208x512_S2x8192x128_0_16_256 slices_S2x8208x512_S2x8192x128_0_8_256 slices_S2x8192x512_S2x8192x128_0_0_256) 2 a3 slices_S4x128x128_S1x128x128_2_0_0⟩,
    ⟨S2x8192x128, carried (group 0 384 16#32 (sums (ext a2)) (ext a2) slices_S2x8208x512_S2x8192x128_0_16_384 slices_S2x8208x512_S2x8192x128_0_0_384 slices_S2x8192x512_S2x8192x128_0_0_384) 3 a3 slices_S4x128x128_S1x128x128_3_0_0⟩]
    concatenates_S2x8192x128_S2x8192x128_S2x8192x128_S2x8192x128_S2x8192x512_d2

/-- Four blocks of 128 columns side by side, each group's sums at its own columns, make the pooled row. -/
theorem four_apply (f : Fin 512 → ℕ → EReal) (w : Fin 4 → Fin 128 → Fin 128 → EReal) (s : ℕ) (n : Fin 512) (D : Fin 4 → Fin 128 → EReal)
    (h : ∀ g c, D g c = groupAt f w s g c) :
    (if h0 : n.val < 128 then D 0 ⟨n.val, h0⟩
      else if h1 : n.val - 128 < 128 then D 1 ⟨n.val - 128, h1⟩
      else if h2 : n.val - 128 - 128 < 128 then D 2 ⟨n.val - 128 - 128, h2⟩ else D 3 ⟨n.val - 128 - 128 - 128, by omega⟩)
      = pooled f w s n := by
  have hn := n.isLt
  split
  · rw [h]; exact (pooled_at f w s n 0 _ (by show n.val = 0 * 128 + n.val; omega)).symm
  split
  · rw [h]; exact (pooled_at f w s n 1 _ (by show n.val = 1 * 128 + (n.val - 128); omega)).symm
  split
  · rw [h]; exact (pooled_at f w s n 2 _ (by show n.val = 2 * 128 + (n.val - 128 - 128); omega)).symm
  · rw [h]; exact (pooled_at f w s n 3 _ (by show n.val = 3 * 128 + (n.val - 128 - 128 - 128); omega)).symm

/-- The pooled rows at an index, where the rows are real numbers. -/
theorem pool_apply (a2 : FVec Ideal S2x8192x512 .f32) (hr : ∀ i, IsReal (a2 i)) (a3 : FVec Ideal S4x128x128 .f32) (b : Fin 2) (s : Fin 8192) (n : Fin 512) :
    pool a2 a3 (ix3 b s n) = pooled (column a2 b) (fun g l c => a3 (ix3 g l c)) s.val n := by
  unfold pool
  generalize h0 : carried (group 14 0 _ _ _ _ _ _) 0 a3 _ = D0
  generalize h1 : carried (group 12 128 _ _ _ _ _ _) 1 a3 _ = D1
  generalize h2 : carried (group 8 256 _ _ _ _ _ _) 2 a3 _ = D2
  generalize h3 : carried (group 0 384 _ _ _ _ _ _) 3 a3 _ = D3
  pointwise
  refine four_apply (column a2 b) (fun g l c => a3 (ix3 g l c)) s.val n (fun g c => ![D0, D1, D2, D3] g (ix3 b s c)) fun g c => ?_
  fin_cases g
  · exact (congrFun h0.symm _).trans (carried_apply a2 hr a3 0 14 0 2 0 _ _ _ _ rfl rfl rfl rfl b s c)
  · exact (congrFun h1.symm _).trans (carried_apply a2 hr a3 1 12 128 4 1 _ _ _ _ rfl rfl rfl rfl b s c)
  · exact (congrFun h2.symm _).trans (carried_apply a2 hr a3 2 8 256 8 2 _ _ _ _ rfl rfl rfl rfl b s c)
  · exact (congrFun h3.symm _).trans (carried_apply a2 hr a3 3 0 384 16 3 _ _ _ _ rfl rfl rfl rfl b s c)

/-- The output product, over any pooled rows. -/
def product (a0 : FVec Ideal S2x8192x1024 .f32) (a1 : FVec Ideal S512x16384 .f32) (P : FVec Ideal S2x8192x512 .f32) (a4 : FVec Ideal S512 .f32)
    (a5 : FVec Ideal S1024x1024 .f32) : FVec Ideal S16384x1024 .f32 :=
  shapeCast _ (addf a0 (Host.dotGeneral dot_S2x8192x1024_S1024x1024_S2x8192x1024_2_0_01_1_n_n none (concatenate S2x8192x1024 2 [⟨S2x8192x512, (shapeCast _ (transpose S16384x512 [1, 0] a1 transposes_S512x16384_S16384x512_1_0) shapeCasts_S16384x512_S2x8192x512)⟩, ⟨S2x8192x512, mulf P (broadcastInDim S2x8192x512 ![0, 1, 2] bcast_S1x1x512_S2x8192x512_0_1_2 (broadcastInDim S1x1x512 ![2] bcast_S512_S1x1x512_2 a4))⟩] concatenates_S2x8192x512_S2x8192x512_S2x8192x1024_d2) a5)) shapeCasts_S2x8192x1024_S16384x1024

/-- The reference as one function of its six argument arrays. -/
abbrev out (a0 : FVec Ideal S2x8192x1024 .f32) (a1 : FVec Ideal S512x16384 .f32) (a2 : FVec Ideal S2x8192x512 .f32) (a3 : FVec Ideal S4x128x128 .f32)
    (a4 : FVec Ideal S512 .f32) (a5 : FVec Ideal S1024x1024 .f32) : FVec Ideal S16384x1024 .f32 :=
  product a0 a1 (pool a2 a3) a4 a5

/-- The reference at an index, where the pool rows are real numbers. -/
theorem out_apply (a0 : FVec Ideal S2x8192x1024 .f32) (a1 : FVec Ideal S512x16384 .f32) (a2 : FVec Ideal S2x8192x512 .f32) (hr : ∀ i, IsReal (a2 i))
    (a3 : FVec Ideal S4x128x128 .f32) (a4 : FVec Ideal S512 .f32) (a5 : FVec Ideal S1024x1024 .f32)
    (i : S16384x1024.Idx) (r : Fin 16384) (j : Fin 1024) (hr' : (i 0).val = r.val) (hj : (i 1).val = j.val) :
    out a0 a1 a2 a3 a4 a5 i = entry (a0 (ix3 ⟨r.val / 8192, by omega⟩ ⟨r.val % 8192, by omega⟩ j)) (fun k => a1 (ix2 k r))
      (column a2 ⟨r.val / 8192, by omega⟩) (fun g l c => a3 (ix3 g l c)) (fun k => a4 (ix1 k))
      (fun k => a5 (ix2 ⟨k.val, by omega⟩ j)) (fun k => a5 (ix2 ⟨512 + k.val, by omega⟩ j)) (r.val % 8192) := by
  obtain ⟨r, hr0⟩ := r
  obtain ⟨j, hj'⟩ := j
  dsimp only at hr' hj
  subst hr' hj
  unfold out
  generalize hP : pool a2 a3 = P
  have hp : ∀ b s n, P (ix3 b s n) = pooled (column a2 b) (fun g l c => a3 (ix3 g l c)) s.val n := fun b s n => by
    rw [← hP]; exact pool_apply a2 hr a3 b s n
  pointwise [product]
  simp only [hp]
  rfl

end Cert.Reference7Ideal.Math

end
-- ==== Proof.Pool.Groups.lean ====
module

public import proofs.«01_k».proof.Proof.Pool.Read
public import proofs.«01_k».proof.Proof.Pool.Ref

@[expose] public section

set_option maxRecDepth 16384

noncomputable section

open Idealize.ShloMosaic Idealize.ShloMosaic.TcCoe Idealize.SL.Sem

namespace Cert.Kernel7Ideal.Math

open Cert.Kernel7Ideal Cert.Kernel7Ideal.Gen Cert.Pool

/-- The block and the rows before it hold consecutive rows of the columns `F`, the block's first at
    position `p`; before position 0 there is nothing. -/
structure Holds (F : Fin 512 → ℕ → EReal) (p : ℕ) (U : FVec Ideal S1x512x512 .f32) (P : FVec Ideal S1x16x512 .f32) : Prop where
  here : ∀ (r n : Fin 512), U (ix3 0 r n) = F n (p + r.val)
  before : ∀ (k : ℕ) (r n : Fin 512), k ≤ 15 → row U P (16 - k + r.val) n = back (F n) (p + r.val) k

variable {F : Fin 512 → ℕ → EReal} {p : ℕ} {U : FVec Ideal S1x512x512 .f32} {P : FVec Ideal S1x16x512 .f32}

/-- The word that counts a step's rows. -/
theorem word_eq (p r : ℕ) : IntOp.addi (Scalar.addi 0#32 (BitVec.ofNat 32 p)) (BitVec.ofNat 32 r) = BitVec.ofNat 32 (p + r) := by
  show (0#32 + BitVec.ofNat 32 p) + BitVec.ofNat 32 r = _
  rw [BitVec.zero_add, BitVec.ofNat_add]

/-- A row read from row `o` on is the row `16 - o` back. -/
theorem stretch_at (h : Holds F p U P) (o q : ℕ) (ho : 1 ≤ o ∧ o ≤ 15) (hq : q + 128 ≤ 512) (r : Fin 512) (l : Fin 128) :
    stretch U P o q hq (ix3 0 r l) = back (F ⟨q + l.val, by omega⟩) (p + r.val) (16 - o) := by
  have := h.before (16 - o) r ⟨q + l.val, by omega⟩ (by omega)
  rw [show 16 - (16 - o) = o by omega] at this
  exact this

/-- The window's sum, written out from the row itself. -/
theorem recent_one (f : ℕ → EReal) (s : ℕ) : recent f 1 s = f s := by
  simp [recent, back]

/-- One more row in the window. -/
theorem recent_succ (f : ℕ → EReal) (w s : ℕ) : recent f (w + 1) s = recent f w s + back f s w := Finset.sum_range_succ _ _

/-- Group 0's lags against its weights. -/
theorem group0 (h : Holds F p U P) (W : FVec Ideal S1x128x128 .bf16) (r : Fin 512) (c : Fin 128) :
    k0_pay6 U (BitVec.ofNat 32 p) (stretch U P 15 0 (by decide)) W (ix2 r c)
      = ∑ l : Fin 128, lag (F ⟨0 * 128 + l.val, by omega⟩) (p + r.val) (2 ^ 1) * W (ix3 0 l c) := by
  pointwise [k0_pay6, k0_pay5]
  refine Finset.sum_congr rfl fun l _ => congrArg (· * _) ?_
  simp only [h.here, word_eq, stretch_at h 15 0 (by decide), lag, tally]
  rw [show (2 : ℕ) ^ 1 = 1 + 1 by rfl]
  simp only [recent_succ _ (_ + 1), recent_one, zero_add]

/-- Group 1's lags against its weights. -/
theorem group1 (h : Holds F p U P) (W : FVec Ideal S1x128x128 .bf16) (r : Fin 512) (c : Fin 128) :
    k0_pay8 U (k0_pay7 U (BitVec.ofNat 32 p) (stretch U P 15 128 (by decide)) (stretch U P 14 128 (by decide)) (stretch U P 13 128 (by decide))) W (ix2 r c)
      = ∑ l : Fin 128, lag (F ⟨1 * 128 + l.val, by omega⟩) (p + r.val) (2 ^ 2) * W (ix3 0 l c) := by
  pointwise [k0_pay8, k0_pay7, k0_pay5]
  refine Finset.sum_congr rfl fun l _ => congrArg (· * _) ?_
  simp only [h.here, word_eq, stretch_at h 15 128 (by decide), stretch_at h 14 128 (by decide), stretch_at h 13 128 (by decide), lag, tally]
  rw [show (2 : ℕ) ^ 2 = 1 + 1 + 1 + 1 by rfl]
  simp only [recent_succ _ (_ + 1), recent_one, zero_add]

/-- Group 2's lags against its weights. -/
theorem group2 (h : Holds F p U P) (W : FVec Ideal S1x128x128 .bf16) (r : Fin 512) (c : Fin 128) :
    k0_pay10 (k0_pay9 U (k0_pay5 (BitVec.ofNat 32 p))
      (stretch U P 15 256 (by decide)) (stretch U P 14 256 (by decide)) (stretch U P 13 256 (by decide)) (stretch U P 12 256 (by decide)) (stretch U P 11 256 (by decide)) (stretch U P 10 256 (by decide)) (stretch U P 9 256 (by decide))) W (ix2 r c)
      = ∑ l : Fin 128, lag (F ⟨2 * 128 + l.val, by omega⟩) (p + r.val) (2 ^ 3) * W (ix3 0 l c) := by
  pointwise [k0_pay10, k0_pay9, k0_pay5]
  refine Finset.sum_congr rfl fun l _ => congrArg (· * _) ?_
  simp only [h.here, word_eq, stretch_at h 15 256 (by decide), stretch_at h 14 256 (by decide), stretch_at h 13 256 (by decide), stretch_at h 12 256 (by decide), stretch_at h 11 256 (by decide), stretch_at h 10 256 (by decide), stretch_at h 9 256 (by decide), lag, tally]
  rw [show (2 : ℕ) ^ 3 = 1 + 1 + 1 + 1 + 1 + 1 + 1 + 1 by rfl]
  simp only [recent_succ _ (_ + 1), recent_one, zero_add]

/-- The pooled rows of a step at row `r` and column `n`: group 3's sums are formed here, the other groups' are given. -/
theorem pooledRows_apply (h : Holds F p U P) (W : FVec Ideal S4x128x128 .bf16) (s : FVec Ideal S1x512 .f32) (r n : Fin 512) :
    pooledRows (BitVec.ofNat 32 p) U P W s (ix2 r n) = pooled F (fun g l c => W (ix3 g l c)) (p + r.val) n * s (ix2 0 n) := by
  unfold pooledRows
  have g0 := group0 h (square W 0) r
  have g1 := group1 h (square W 1) r
  have g2 := group2 h (square W 2) r
  generalize k0_pay6 (F := Ideal) U _ _ _ = D0 at g0 ⊢
  generalize k0_pay8 (F := Ideal) U _ _ = D1 at g1 ⊢
  generalize k0_pay10 (F := Ideal) _ _ = D2 at g2 ⊢
  pointwise [k0_pay12, k0_pay11, k0_pay5]
  refine congrArg (· * _) ?_
  rw [← Cert.Reference7Ideal.Math.four_apply F (fun g l c => W (ix3 g l c)) (p + r.val) n _ (fun _ _ => rfl)]
  by_cases h0 : n.val < 128
  · rw [dif_pos h0, dif_pos h0]; exact g0 _
  rw [dif_neg h0, dif_neg h0]
  by_cases h1 : n.val - 128 < 128
  · rw [dif_pos h1, dif_pos h1]; exact g1 _
  rw [dif_neg h1, dif_neg h1]
  by_cases h2 : n.val - 128 - 128 < 128
  · rw [dif_pos h2, dif_pos h2]; exact g2 _
  rw [dif_neg h2, dif_neg h2]
  refine Finset.sum_congr rfl fun l _ => congrArg (· * _) ?_
  simp only [h.here, word_eq, stretch_at h 15 384 (by decide), stretch_at h 14 384 (by decide), stretch_at h 13 384 (by decide), stretch_at h 12 384 (by decide), stretch_at h 11 384 (by decide), stretch_at h 10 384 (by decide), stretch_at h 9 384 (by decide), stretch_at h 8 384 (by decide), stretch_at h 7 384 (by decide), stretch_at h 6 384 (by decide), stretch_at h 5 384 (by decide), stretch_at h 4 384 (by decide), stretch_at h 3 384 (by decide), stretch_at h 2 384 (by decide), stretch_at h 1 384 (by decide), lag, tally]
  rw [show (2 : ℕ) ^ ((3 : Fin 4).val + 1) = 1 + 1 + 1 + 1 + 1 + 1 + 1 + 1 + 1 + 1 + 1 + 1 + 1 + 1 + 1 + 1 by rfl]
  simp only [recent_succ _ (_ + 1), recent_one, zero_add]
  rfl

end Cert.Kernel7Ideal.Math

end
-- ==== Proof.Pool.Host.lean ====
module

public import proofs.«01_k».proof.Proof.Gen.Kernel7Ideal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Math

open Cert.Kernel7Ideal Cert.Kernel7Ideal.Gen

variable (m : (ℓ : Loc nD τ sig) → Buf (Elt Ideal) ℓ)

/-- The rows, one below the other. -/
theorem V_v0 (c : Dev nD) : V m c main_v0 = shapeCast S16384x1024 (m ((c : Thread nD τ).loc main_arg0)) shapeCasts_S2x8192x1024_S16384x1024 := by
  conv_lhs => simp only [V, hostOps0]
  entry_read
  rfl

/-- The groups' weights. -/
theorem V_v2 (c : Dev nD) : V m c main_v2 = truncf (F := Ideal) FTy.bf16 (m ((c : Thread nD τ).loc main_arg3)) bitsLt_bf16_f32 := by
  conv_lhs => simp only [V, hostOps0]
  entry_read
  rfl

/-- The pooled columns' scale, as a row. -/
theorem V_v3 (c : Dev nD) : V m c main_v3 = shapeCast S1x512 (m ((c : Thread nD τ).loc main_arg4)) shapeCasts_S512_S1x512 := by
  conv_lhs => simp only [V, hostOps0]
  entry_read
  rfl

/-- The attention's half of the output weights. -/
theorem V_v5 (c : Dev nD) : V m c main_v5 = truncf (F := Ideal) FTy.bf16 (extractStridedSlice S512x1024 ![0, 0] (m ((c : Thread nD τ).loc main_arg5)) slices_S1024x1024_S512x1024_0_0) bitsLt_bf16_f32 := by
  conv_lhs => simp only [V, hostOps0]
  entry_read
  rfl

/-- The pooled columns' half of the output weights. -/
theorem V_v7 (c : Dev nD) : V m c main_v7 = truncf (F := Ideal) FTy.bf16 (extractStridedSlice S512x1024 ![512, 0] (m ((c : Thread nD τ).loc main_arg5)) slices_S1024x1024_S512x1024_512_0) bitsLt_bf16_f32 := by
  conv_lhs => simp only [V, hostOps0]
  entry_read
  rfl

/-- The pool rows in blocks of 512. -/
theorem V_v8 (c : Dev nD) : V m c main_v8 = shapeCast S32x512x512 (shapeCast S16384x512 (m ((c : Thread nD τ).loc main_arg2)) shapeCasts_S2x8192x512_S16384x512) shapeCasts_S16384x512_S32x512x512 := by
  conv_lhs => simp only [V, hostOps0]
  entry_read
  rfl

/-- The pool rows in blocks of sixteen. -/
theorem V_v9 (c : Dev nD) : V m c main_v9 = shapeCast S1024x16x512 (shapeCast S16384x512 (m ((c : Thread nD τ).loc main_arg2)) shapeCasts_S2x8192x512_S16384x512) shapeCasts_S16384x512_S1024x16x512 := by
  conv_lhs => simp only [V, hostOps0]
  entry_read
  rfl

end Cert.Kernel7Ideal.Math

end
-- ==== Proof.Pool.Value.lean ====
module

public import proofs.«01_k».proof.Proof.Pool.Groups
public import proofs.«01_k».proof.Proof.Pool.Host

@[expose] public section

set_option maxRecDepth 16384

noncomputable section

open Idealize.ShloMosaic Idealize.ShloMosaic.TcCoe Idealize.SL.Sem
open Idealize.ShloMosaic.Pipeline (Dat)

namespace Cert.Kernel7Ideal.Math

open Cert.Kernel7Ideal Cert.Kernel7Ideal.Gen Cert.Pool
open Cert.Reference7Ideal.Math (out out_apply)

variable (m : (ℓ : Loc nD τ sig) → Buf (Elt Ideal) ℓ)

/-- Where each window's block lies at each of the 32 steps; the sixteen rows before a step's rows are
    the block of sixteen before its first, and the first step reads block 0 for them. -/
theorem places : ∀ t : Fin cfg0.N, win0_0.index t = ![t.val, 0]
    ∧ win0_1.index t = ![0, t.val] ∧ win0_2.index t = ![t.val, 0, 0] ∧ win0_3.index t = ![32 * t.val - 1, 0, 0]
    ∧ win0_4.index t = ![0, 0, 0] ∧ win0_5.index t = ![0, 0] ∧ win0_6.index t = ![0, 0] ∧ win0_7.index t = ![0, 0]
    ∧ win0_8.index t = ![t.val, 0] :=
  (by decide +kernel : ∀ t : Fin grid0.N, _)

/-- Sixteen steps run down a sequence, 512 rows each. -/
theorem first_eq : ∀ t : Fin cfg0.N, first (grid0.coords t) = BitVec.ofNat 32 (t.val % 16 * 512) :=
  (by decide +kernel : ∀ t : Fin grid0.N, _)

/-- Whether a step is its sequence's first. -/
def opening (i : grid0.Coords) : BitVec 1 :=
  Scalar.cmpi .eq (Scalar.select
    (Scalar.andi (Scalar.xori (Scalar.cmpi .slt (Scalar.remsi (BitVec.ofNat 32 (i 0).val) (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi (BitVec.ofNat 32 (i 0).val) (Scalar.select (Scalar.cmpi .eq 16#32 0#32) 1#32 16#32)) 0#32))
    (Scalar.addi (Scalar.remsi (BitVec.ofNat 32 (i 0).val) (Scalar.select (Scalar.cmpi .eq 16#32 0#32) 1#32 16#32)) (Scalar.select (Scalar.cmpi .eq 16#32 0#32) 1#32 16#32))
    (Scalar.remsi (BitVec.ofNat 32 (i 0).val) (Scalar.select (Scalar.cmpi .eq 16#32 0#32) 1#32 16#32))) 0#32

theorem opening_eq : ∀ t : Fin cfg0.N, opening (grid0.coords t) = if t.val % 16 = 0 then 1#1 else 0#1 :=
  (by decide +kernel : ∀ t : Fin grid0.N, _)

/-- At its sequence's first step the rows before are zero; else they are what was read. -/
theorem halo_eq (t : Fin cfg0.N) (H : FVec Ideal S1x16x512 .f32) (q : Fin 16) (n : Fin 512) :
    k0_pay3 (grid0.coords t) H (ix3 0 q n) = if t.val % 16 = 0 then 0 else H (ix3 0 q n) := by
  have h : k0_pay3 (grid0.coords t) H
      = shapeCast S1x16x512 (Scalar.select (opening (grid0.coords t)) (broadcast S1x16x512 (Scalar.ofBits (F := Ideal) .f32 0x00000000#32))
          (shapeCast S1x16x512 H shapeCasts_S1x16x512_S1x16x512)) shapeCasts_S1x16x512_S1x16x512 := rfl
  rw [h, opening_eq]
  by_cases ht : t.val % 16 = 0
  · rw [if_pos ht, if_pos ht]
    show shapeCast S1x16x512 (broadcast S1x16x512 (Scalar.ofBits (F := Ideal) .f32 0x00000000#32)) _ _ = _
    pointwise
  · rw [if_neg ht, if_neg ht]
    show shapeCast S1x16x512 (shapeCast S1x16x512 H shapeCasts_S1x16x512_S1x16x512) _ _ = _
    pointwise

/-- The pool rows in blocks of 512, at a row. -/
theorem blocks_apply (A : FVec Ideal S2x8192x512 .f32) (i : S32x512x512.Idx) (b : Fin 2) (s : Fin 8192) (n : Fin 512)
    (h : (i 0).val * 512 + (i 1).val = b.val * 8192 + s.val) (hn : (i 2).val = n.val) :
    shapeCast S32x512x512 (shapeCast S16384x512 A shapeCasts_S2x8192x512_S16384x512) shapeCasts_S16384x512_S32x512x512 i = A (ix3 b s n) := by
  idx_vars i
  pointwise
  blk_ext

/-- The pool rows in blocks of sixteen, at a row. -/
theorem sixteens_apply (A : FVec Ideal S2x8192x512 .f32) (i : S1024x16x512.Idx) (b : Fin 2) (s : Fin 8192) (n : Fin 512)
    (h : (i 0).val * 16 + (i 1).val = b.val * 8192 + s.val) (hn : (i 2).val = n.val) :
    shapeCast S1024x16x512 (shapeCast S16384x512 A shapeCasts_S2x8192x512_S16384x512) shapeCasts_S16384x512_S1024x16x512 i = A (ix3 b s n) := by
  idx_vars i
  pointwise
  blk_ext

/-- A step's block and the sixteen rows before it hold consecutive rows of the step's sequence. -/
theorem holds (c : Dev nD) (t : Fin cfg0.N) (b : Fin 2) (hb : b.val = t.val / 16) :
    Holds (column (m ((c : Thread nD τ).loc main_arg2)) b) (t.val % 16 * 512) (iblk m c 2 t) (k0_pay3 (grid0.coords t) (iblk m c 3 t)) := by
  have ht : t.val < 32 := t.isLt
  have here : ∀ (r n : Fin 512), iblk m c 2 t (ix3 0 r n) = column (m ((c : Thread nD τ).loc main_arg2)) b n (t.val % 16 * 512 + r.val) := by
    intro r n
    have hr := r.isLt
    rw [column_lt _ b n (show t.val % 16 * 512 + r.val < 8192 by omega)]
    blk_simp [iblk]
    rw [V_v8]
    refine (blocks_apply _ _ b ⟨t.val % 16 * 512 + r.val, by omega⟩ n ?_ ?_).trans rfl
    · blk_simp [places t]; dsimp only; omega
    · blk_simp [places t]
  refine ⟨here, fun k r n hk => ?_⟩
  have hr := r.isLt
  unfold row back
  by_cases h : 16 - k + r.val < 16
  · rw [if_pos h, column_lt _ 0 n h, halo_eq]
    by_cases h0 : t.val % 16 = 0
    · rw [if_pos h0, if_neg (by omega)]
    · rw [if_neg h0, if_pos (by omega), column_lt _ b n (show t.val % 16 * 512 + r.val - k < 8192 by omega)]
      blk_simp [iblk]
      rw [V_v9]
      refine (sixteens_apply _ _ b ⟨t.val % 16 * 512 + r.val - k, by omega⟩ n ?_ ?_).trans rfl
      · blk_simp [places t]; dsimp only; omega
      · blk_simp [places t]
  · rw [if_neg h, if_pos (by omega), column_lt _ 0 n (show 16 - k + r.val - 16 < 512 by omega), here]
    refine congrArg _ ?_
    dsimp only
    omega

/-- The block that a step stores at row `r` and column `j`, over any pooled rows and any other blocks. -/
theorem stored_apply (D : FVec Ideal S512x512 .bf16) (A : FVec Ideal S512x512 .f32) (B C : FVec Ideal S512x1024 .bf16)
    (X : FVec Ideal S512x1024 .f32) (r : Fin 512) (j : Fin 1024) :
    k0_pay1 (F := Ideal) D (k0_pay13 A) (k0_pay14 B) C X (ix2 r j)
      = X (ix2 r j) + (∑ k : Fin 512, A (ix2 k r) * B (ix2 k j) + ∑ k : Fin 512, D (ix2 r k) * C (ix2 k j)) := by
  pointwise [k0_pay1, k0_pay13, k0_pay14]

/-- The same with the pooled rows of blocks that hold a sequence's rows. -/
theorem stored_entry {F : Fin 512 → ℕ → EReal} {p : ℕ} {U : FVec Ideal S1x512x512 .f32} {P : FVec Ideal S1x16x512 .f32} (h : Holds F p U P)
    (W : FVec Ideal S4x128x128 .bf16) (s : FVec Ideal S1x512 .f32) (A : FVec Ideal S512x512 .f32) (B C : FVec Ideal S512x1024 .bf16)
    (X : FVec Ideal S512x1024 .f32) (y : S512x1024.Idx) :
    k0_pay1 (F := Ideal) (pooledRows (BitVec.ofNat 32 p) U P W s) (k0_pay13 A) (k0_pay14 B) C X y
      = entry (X (ix2 (y 0) (y 1))) (fun k => A (ix2 k (y 0))) F (fun g l c => W (ix3 g l c)) (fun k => s (ix2 0 k))
        (fun k => B (ix2 k (y 1))) (fun k => C (ix2 k (y 1))) (p + (y 0).val) := by
  obtain ⟨r, j, rfl⟩ : ∃ r j, y = ix2 r j := ⟨_, _, ValueIdx.eq_ix2 y⟩
  refine (stored_apply _ _ _ _ _ r j).trans ?_
  simp only [pooledRows_apply h]
  rfl

/-- Equal parts give equal entries. -/
theorem entry_congr {y y' : EReal} {a a' : Fin 512 → EReal} {f f' : Fin 512 → ℕ → EReal} {w w' : Fin 4 → Fin 128 → Fin 128 → EReal}
    {p p' wa wa' wp wp' : Fin 512 → EReal} {s s' : ℕ} (h0 : y = y') (h1 : a = a') (h2 : f = f') (h3 : w = w') (h4 : p = p')
    (h5 : wa = wa') (h6 : wp = wp') (h7 : s = s') : entry y a f w p wa wp s = entry y' a' f' w' p' wa' wp' s' := by
  subst h0 h1 h2 h3 h4 h5 h6 h7; rfl

/-- The stacked rows at an index. -/
theorem stacked_apply (A : FVec Ideal S2x8192x1024 .f32) (i : S16384x1024.Idx) (b : Fin 2) (s : Fin 8192) (k : Fin 1024)
    (h : (i 0).val = b.val * 8192 + s.val) (hk : (i 1).val = k.val) :
    shapeCast S16384x1024 A shapeCasts_S2x8192x1024_S16384x1024 i = A (ix3 b s k) := by
  idx_vars i
  pointwise
  blk_ext

/-- Entry `y` of the block that step `t` stores is the reference at the row and column where that entry lies. -/
theorem entry_eq (c : Dev nD) (hr : ∀ i, Cert.Finite.IsReal (m ((c : Thread nD τ).loc main_arg2) i)) (t : Fin cfg0.N) (y : S512x1024.Idx) :
    outsAt0 m c t y
      = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (((cfg0.win 8).blk t).view.emb y) := by
  have ht : t.val < 32 := t.isLt
  have hy : (y 0).val < 512 := (y 0).isLt
  rw [out_eq, first_eq]
  refine (stored_entry (holds m c t ⟨t.val / 16, by omega⟩ rfl) _ _ _ _ _ _ y).trans (Eq.trans ?_ (out_apply _ _ _ hr _ _ _ _
    ⟨t.val * 512 + (y 0).val, by omega⟩ (y 1) ?_ ?_).symm)
  · refine entry_congr ?_ ?_ ?_ ?_ ?_ ?_ ?_ ?_
    · blk_simp [iblk]; rw [V_v0]
      refine (stacked_apply _ _ ⟨(t.val * 512 + (y 0).val) / 8192, by omega⟩ ⟨(t.val * 512 + (y 0).val) % 8192, by omega⟩ (y 1) ?_ ?_).trans rfl
      · blk_simp [places t]; dsimp only; omega
      · blk_simp [places t]
    · funext k; blk_ext [iblk, places t]
    · refine congrArg _ (Fin.ext ?_); dsimp only; omega
    · funext g l n; blk_simp [iblk]; rw [V_v2]; blk_ext [places t]
    · funext k; blk_simp [iblk]; rw [V_v3]; pointwise; blk_ext [places t]
    · funext k; blk_simp [iblk]; rw [V_v5]; pointwise; blk_ext [places t]
    · funext k; blk_simp [iblk]; rw [V_v7]; pointwise; blk_ext [places t]
    · dsimp only; omega
  · blk_simp [places t]
  · blk_simp [places t]

/-- The result array after the run is the reference's array. -/
theorem result_eq (c : Dev nD) (hr : ∀ i, Cert.Finite.IsReal (m ((c : Thread nD τ).loc main_arg2) i)) : (dats m 0 c).arrAt 8 (cfgs 0).N
    = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 8 _ (by decide +kernel) fun t hf y => ?_
  blk_simp; rw [after0_8]
  exact entry_eq m c hr t y

end Cert.Kernel7Ideal.Math

end
-- ==== Proof.Pool.Claim.lean ====
module

public import proofs.«01_k».proof.Defs
public import proofs.«01_k».proof.Proof.Gen.Reference7Ideal.Run
public import proofs.«01_k».proof.Proof.Gen.Pre_finite_pool
public import proofs.«01_k».proof.Proof.Keys.Claim
public import proofs.«01_k».proof.Proof.Pool.Value

@[expose] public section

set_option maxRecDepth 16384

noncomputable section

namespace Cert.Proof

open Idealize.ShloMosaic Idealize.SL.Sem

/-- The reference of the output product runs to its end, leaves its arguments as they were and every counter at zero. -/
theorem pool_reference_frame : Cert.quiescent_Reference7Ideal := by
  intro m g _
  exact (θ_run Cert.Reference7Ideal.defs _ _).mono
    (fun r h => ⟨fun c => (h.1 c).2, h.2⟩)
    (show θ_run _ _ _ (fun r => (∀ c, _ ∧ _) ∧ r.2.sem = fun _ => 0) from
      (θ_run Cert.Reference7Ideal.defs _ _).mono
        (fun r h => ⟨h, Idealize.ShloMosaic.sem_eq_zero_of_no_sems (by decide) r.2⟩)
        (Cert.Reference7Ideal.Value.run (F := Ideal) m g))

/-- The same, where the pool rows are also asked to be finite. -/
theorem pool_reference_frame_finite : Cert.quiescent_Reference7Ideal_pre_finite_pool :=
  fun m g _ => pool_reference_frame m g trivial

/-- The reference's result, as its stages one after the other. -/
theorem pool_result (m : (ℓ : Loc Cert.Reference7Ideal.nD Cert.Reference7Ideal.τ Cert.Reference7Ideal.sig) → Buf (Elt Ideal) ℓ)
    (c : Dev Cert.Reference7Ideal.nD) : Cert.Reference7Ideal.Value.res_main_v82 m c = Cert.Reference7Ideal.Math.out
      (m ((c.tc : Thread Cert.Reference7Ideal.nD Cert.Reference7Ideal.τ).loc Cert.Reference7Ideal.main_arg0))
      (m ((c.tc : Thread Cert.Reference7Ideal.nD Cert.Reference7Ideal.τ).loc Cert.Reference7Ideal.main_arg1))
      (m ((c.tc : Thread Cert.Reference7Ideal.nD Cert.Reference7Ideal.τ).loc Cert.Reference7Ideal.main_arg2))
      (m ((c.tc : Thread Cert.Reference7Ideal.nD Cert.Reference7Ideal.τ).loc Cert.Reference7Ideal.main_arg3))
      (m ((c.tc : Thread Cert.Reference7Ideal.nD Cert.Reference7Ideal.τ).loc Cert.Reference7Ideal.main_arg4))
      (m ((c.tc : Thread Cert.Reference7Ideal.nD Cert.Reference7Ideal.τ).loc Cert.Reference7Ideal.main_arg5)) := by
  unfold Cert.Reference7Ideal.Value.res_main_v82
  rfl

/-- Where the pool rows are finite, the output product and its reference end with equal arrays over the reals. -/
theorem pool_algebraic : Cert.algebraic_Kernel7Ideal_Reference7Ideal_pre_finite_pool := by
  pair_intro
  · run_from Cert.Kernel7Ideal.Gen.run_main m g
  · run_from Cert.Reference7Ideal.Value.run m' g'
    obtain ⟨a0, a1, a2, a3, a4, a5⟩ := hagree c
    refine Eq.trans (pool_result m' c) (Eq.trans ?_ (Cert.Kernel7Ideal.Math.result_eq m c fun i => mask_real _ _ (hpre c) i).symm)
    rw [a0, a1, a2, a3, a4, a5]

end Cert.Proof

end
-- ==== Proof.Tail.Read.lean ====
module

public import proofs.«01_k».proof.Proof.Gen.Kernel8Ideal.Frame
public import proofs.«01_k».proof.Proof.Pool.Sum
public import Idealize.ShloMosaic.Lib.Pipeline.ValueKit
public import Idealize.ShloMosaic.Lib.Pipeline.ReadBack
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Kernel8Ideal.Math
open Cert.Kernel8Ideal Cert.Kernel8Ideal.Gen Cert.Pool
variable (m : (ℓ : Loc nD τ sig) → Buf (Elt Ideal) ℓ)

/-- A row of the scratch array: sixteen rows of what came before, then the block's rows. -/
def row (U : FVec Ideal S32x8x512 .f32) (P : FVec Ideal S32x16x512 .f32) (b : Fin 32) (r : ℕ) (n : Fin 512) : EReal :=
  if r < 16 then column P b n r else column U b n (r - 16)

/-- Eight rows of every sequence of the scratch array from row `o`, 128 columns from column `p`. -/
def stretch (U : FVec Ideal S32x8x512 .f32) (P : FVec Ideal S32x16x512 .f32) (o p : ℕ) (hp : p + 128 ≤ 512) : FVec Ideal S32x8x128 .f32 :=
  fun j => row U P (j 0) (o + (j 1).val) ⟨p + (j 2).val, by have : (j 2).val < 128 := (j 2).isLt; omega⟩

/-- A row off the stored rows keeps what it held. -/
theorem rows_off {o e : ℕ} (L : List (View.Piece (Elt Ideal) S32x24x512 .f32)) (inb)
    (w : (Rect.unit (s := S32x24x512) ![0, o, 0] ![32, e, 512] inb).shape.Idx → Elt Ideal .f32)
    (y : S32x24x512.Idx) (h : (y 1).val < o) :
    View.canon (⟨Rect.unit (s := S32x24x512) ![0, o, 0] ![32, e, 512] inb, w⟩ :: L) y = View.canon L y := by
  apply View.canon_cons_of_not_mem
  rw [Rect.mem_set_unit]
  intro hm
  have h1 := (hm 1).1
  simp only [Matrix.cons_val_one, Matrix.cons_val_zero] at h1
  omega

/-- A stored row reads what was stored. -/
theorem rows_on {o e : ℕ} (L : List (View.Piece (Elt Ideal) S32x24x512 .f32)) (inb)
    (w : (Rect.unit (s := S32x24x512) ![0, o, 0] ![32, e, 512] inb).shape.Idx → Elt Ideal .f32)
    (y : S32x24x512.Idx) (h : o ≤ (y 1).val) (h' : (y 1).val < o + e) :
    View.canon (⟨Rect.unit (s := S32x24x512) ![0, o, 0] ![32, e, 512] inb, w⟩ :: L) y
      = w (ix3 (y 0) ⟨(y 1).val - o, by omega⟩ (y 2)) := by
  refine Eq.trans (congrArg _ ?_) (View.canon_cons_emb (Rect.unit (s := S32x24x512) ![0, o, 0] ![32, e, 512] inb) w L _)
  funext a
  refine Fin.ext ?_
  fin_cases a
  · show (y 0).val = 0 + 1 * (y 0).val; omega
  · show (y 1).val = o + 1 * ((y 1).val - o); omega
  · show (y 2).val = 0 + 1 * (y 2).val; omega

/-- A read of the scratch array after its two stores. -/
theorem stretch_eq (U : FVec Ideal S32x8x512 .f32) (P : FVec Ideal S32x16x512 .f32) (o p : ℕ) (hp : p + 128 ≤ 512) (i1 i2 i3) (j : S32x8x128.Idx) :
    View.canon ([⟨Rect.unit (s := S32x24x512) ![0, 16, 0] ![32, 8, 512] i1, U⟩, ⟨Rect.unit (s := S32x24x512) ![0, 0, 0] ![32, 16, 512] i2, P⟩] : List (View.Piece (Elt Ideal) S32x24x512 .f32))
      ((Rect.unit (s := S32x24x512) ![0, o, p] ![32, 8, 128] i3).toLoadRect.idx j) = stretch U P o p hp j := by
  have h1 : (j 1).val < 8 := (j 1).isLt
  have h2 : (j 2).val < 128 := (j 2).isLt
  have h0 : (j 0).val < 32 := (j 0).isLt
  have ho : o + 8 ≤ 24 := i3 1
  have hy : (Rect.unit (s := S32x24x512) ![0, o, p] ![32, 8, 128] i3).toLoadRect.idx j
      = (ix3 (j 0) ⟨o + (j 1).val, by omega⟩ ⟨p + (j 2).val, by omega⟩ : S32x24x512.Idx) := by
    funext a
    refine Fin.ext ?_
    fin_cases a
    · show 0 + 1 * (j 0).val = (j 0).val; omega
    · show o + 1 * (j 1).val = o + (j 1).val; omega
    · show p + 1 * (j 2).val = p + (j 2).val; omega
  rw [hy]
  unfold stretch row
  by_cases h : o + (j 1).val < 16
  · rw [if_pos h, column_lt P (j 0) _ h, rows_off _ i1 U _ h]
    refine (rows_on _ i2 P _ (Nat.zero_le _) (by show o + (j 1).val < 0 + 16; omega)).trans ?_
    rfl
  · rw [if_neg h, column_lt U (j 0) _ (show o + (j 1).val - 16 < 8 by omega)]
    refine (rows_on _ i1 U _ (by show 16 ≤ o + (j 1).val; omega) (by show o + (j 1).val < 16 + 8; omega)).trans ?_
    rfl

theorem same (P : FVec Ideal S32x16x512 .f32) : k0_pay2 (F := Ideal) P = P := by
  funext y; idx_vars y; pointwise [k0_pay2]
theorem same' (U : FVec Ideal S32x8x512 .f32) : k0_pay3 (F := Ideal) U = U := by
  funext y; idx_vars y; pointwise [k0_pay3]

/-- One group's square of the pool weights. -/
def square (W : FVec Ideal S4x128x128 .bf16) (g : Fin 4) : FVec Ideal S1x128x128 .bf16 :=
  fun j => W (ix3 g (j 1) (j 2))

/-- What the one step stores. -/
def stored (U : FVec Ideal S32x8x512 .f32) (P : FVec Ideal S32x16x512 .f32) (W : FVec Ideal S4x128x128 .bf16)
    (s : FVec Ideal S1x512 .f32) (A : FVec Ideal S256x512 .f32) (B C : FVec Ideal S512x1024 .bf16) (X : FVec Ideal S256x1024 .f32) :
    FVec Ideal S256x1024 .f32 :=
  k0_pay1
    (k0_pay5 U (stretch U P 15 0 (by decide)) (square W 0))
    (k0_pay7 U k0_pay4 (k0_pay6 U (stretch U P 15 128 (by decide))) (stretch U P 14 128 (by decide)) (stretch U P 13 128 (by decide)) (square W 1))
    (k0_pay9 U k0_pay4 (k0_pay8 U (stretch U P 15 256 (by decide)) (stretch U P 14 256 (by decide)) (stretch U P 13 256 (by decide))
      (stretch U P 12 256 (by decide)) (stretch U P 11 256 (by decide))) (stretch U P 10 256 (by decide)) (stretch U P 9 256 (by decide)) (square W 2))
    (k0_pay11 U k0_pay4 (k0_pay10 U (stretch U P 15 384 (by decide)) (stretch U P 14 384 (by decide)) (stretch U P 13 384 (by decide))
      (stretch U P 12 384 (by decide)) (stretch U P 11 384 (by decide)) (stretch U P 10 384 (by decide))) (stretch U P 9 384 (by decide))
      (stretch U P 8 384 (by decide)) (stretch U P 7 384 (by decide)) (stretch U P 6 384 (by decide)) (stretch U P 5 384 (by decide))
      (stretch U P 4 384 (by decide)) (stretch U P 3 384 (by decide)) (stretch U P 2 384 (by decide)) (stretch U P 1 384 (by decide)))
    (k0_pay12 (square W 3)) s A B C X

theorem square_eq (W : FVec Ideal S4x128x128 .bf16) (g : ℕ) (hg : g < 4) (inb) :
    (View.ld W (Rect.unit (s := S4x128x128) ![g, 0, 0] ![1, 128, 128] inb) : S1x128x128.Idx → Elt Ideal .bf16) = square W ⟨g, hg⟩ := by
  refine funext fun (j : S1x128x128.Idx) => congrArg W ?_
  have h0 : (j 0).val < 1 := (j 0).isLt
  funext a
  refine Fin.ext ?_
  fin_cases a
  · show g + 1 * (j 0).val = g; omega
  · show 0 + 1 * (j 1).val = (j 1).val; omega
  · show 0 + 1 * (j 2).val = (j 2).val; omega

/-- What the one step stores, as a function of its blocks. -/
theorem out_eq (c : Dev nD) (t : Fin cfg0.N) : outsAt0 m c t =
    stored (iblk m c 2 t) (iblk m c 3 t) (iblk m c 4 t) (iblk m c 5 t) (iblk m c 1 t) (iblk m c 6 t) (iblk m c 7 t) (iblk m c 0 t) := by
  unfold outsAt0 out0_A_8 kernelRun0_A
  dsimp only
  frame_out
  simp only [View.readCov_eq_canon', same, same']
  generalize iblk m c 2 t = U
  generalize iblk m c 3 t = P
  generalize iblk m c 4 t = W
  simp only [stretch_eq U P _ 0 (by decide), stretch_eq U P _ 128 (by decide), stretch_eq U P _ 256 (by decide), stretch_eq U P _ 384 (by decide)]
  rw [square_eq W 0 (by decide), square_eq W 1 (by decide), square_eq W 2 (by decide), square_eq W 3 (by decide)]
  rfl

end Cert.Kernel8Ideal.Math
end
-- ==== Proof.Tail.Groups.lean ====
module

public import proofs.«01_k».proof.Proof.Tail.Read
public import proofs.«01_k».proof.Proof.Pool.Groups

@[expose] public section

set_option maxRecDepth 16384

noncomputable section

open Idealize.ShloMosaic Idealize.ShloMosaic.TcCoe Idealize.SL.Sem

namespace Cert.Kernel8Ideal.Math

open Cert.Kernel8Ideal Cert.Kernel8Ideal.Gen Cert.Pool
open Cert.Kernel7Ideal.Math (recent_one recent_succ)

/-- The sample rows and the rows before them hold consecutive rows of the columns `F` of every sequence, the first
    sample row at position 16384. -/
structure Holds (F : Fin 32 → Fin 512 → ℕ → EReal) (U : FVec Ideal S32x8x512 .f32) (P : FVec Ideal S32x16x512 .f32) : Prop where
  here : ∀ (b : Fin 32) (s : Fin 8) (n : Fin 512), U (ix3 b s n) = F b n (16384 + s.val)
  before : ∀ (k : ℕ) (b : Fin 32) (s : Fin 8) (n : Fin 512), 1 ≤ k → k ≤ 15 →
    row U P b (16 - k + s.val) n = back (F b n) (16384 + s.val) k

variable {F : Fin 32 → Fin 512 → ℕ → EReal} {U : FVec Ideal S32x8x512 .f32} {P : FVec Ideal S32x16x512 .f32}

/-- The word that counts the sample rows. -/
theorem word_eq (s : ℕ) : IntOp.addi 16384#32 (BitVec.ofNat 32 s) = BitVec.ofNat 32 (16384 + s) :=
  (BitVec.ofNat_add 16384 s).symm

/-- A row read from row `o` on is the row `16 - o` back. -/
theorem stretch_at (h : Holds F U P) (o q : ℕ) (ho : 1 ≤ o ∧ o ≤ 15) (hq : q + 128 ≤ 512) (b : Fin 32) (s : Fin 8) (l : Fin 128) :
    stretch U P o q hq (ix3 b s l) = back (F b ⟨q + l.val, by omega⟩) (16384 + s.val) (16 - o) := by
  have := h.before (16 - o) b s ⟨q + l.val, by omega⟩ (by omega) (by omega)
  rw [show 16 - (16 - o) = o by omega] at this
  exact this

/-- Group 0's lags against its weights. -/
theorem group0 (h : Holds F U P) (W : FVec Ideal S1x128x128 .bf16) (r : Fin 256) (c : Fin 128) :
    k0_pay5 (F := Ideal) U (stretch U P 15 0 (by decide)) W (ix2 r c)
      = ∑ l : Fin 128, lag (F ⟨r.val / 8, by omega⟩ ⟨0 * 128 + l.val, by omega⟩) (16384 + r.val % 8) (2 ^ 1) * W (ix3 0 l c) := by
  pointwise [k0_pay5, k0_pay4]
  refine Finset.sum_congr rfl fun l _ => congrArg (· * _) ?_
  simp only [h.here, word_eq, stretch_at h 15 0 (by decide), lag, tally]
  rw [show (2 : ℕ) ^ 1 = 1 + 1 by rfl]
  simp only [recent_succ _ (_ + 1), recent_one, zero_add]

/-- Group 1's lags against its weights. -/
theorem group1 (h : Holds F U P) (W : FVec Ideal S1x128x128 .bf16) (r : Fin 256) (c : Fin 128) :
    k0_pay7 (F := Ideal) U k0_pay4 (k0_pay6 U (stretch U P 15 128 (by decide))) (stretch U P 14 128 (by decide)) (stretch U P 13 128 (by decide)) W (ix2 r c)
      = ∑ l : Fin 128, lag (F ⟨r.val / 8, by omega⟩ ⟨1 * 128 + l.val, by omega⟩) (16384 + r.val % 8) (2 ^ 2) * W (ix3 0 l c) := by
  pointwise [k0_pay7, k0_pay6, k0_pay4]
  refine Finset.sum_congr rfl fun l _ => congrArg (· * _) ?_
  simp only [h.here, word_eq, stretch_at h 15 128 (by decide), stretch_at h 14 128 (by decide), stretch_at h 13 128 (by decide), lag, tally]
  rw [show (2 : ℕ) ^ 2 = 1 + 1 + 1 + 1 by rfl]
  simp only [recent_succ _ (_ + 1), recent_one, zero_add]

/-- Group 2's lags against its weights. -/
theorem group2 (h : Holds F U P) (W : FVec Ideal S1x128x128 .bf16) (r : Fin 256) (c : Fin 128) :
    k0_pay9 (F := Ideal) U k0_pay4 (k0_pay8 U (stretch U P 15 256 (by decide)) (stretch U P 14 256 (by decide)) (stretch U P 13 256 (by decide)) (stretch U P 12 256 (by decide)) (stretch U P 11 256 (by decide))) (stretch U P 10 256 (by decide)) (stretch U P 9 256 (by decide)) W (ix2 r c)
      = ∑ l : Fin 128, lag (F ⟨r.val / 8, by omega⟩ ⟨2 * 128 + l.val, by omega⟩) (16384 + r.val % 8) (2 ^ 3) * W (ix3 0 l c) := by
  pointwise [k0_pay9, k0_pay8, k0_pay4]
  refine Finset.sum_congr rfl fun l _ => congrArg (· * _) ?_
  simp only [h.here, word_eq, stretch_at h 15 256 (by decide), stretch_at h 14 256 (by decide), stretch_at h 13 256 (by decide), stretch_at h 12 256 (by decide), stretch_at h 11 256 (by decide), stretch_at h 10 256 (by decide), stretch_at h 9 256 (by decide), lag, tally]
  rw [show (2 : ℕ) ^ 3 = 1 + 1 + 1 + 1 + 1 + 1 + 1 + 1 by rfl]
  simp only [recent_succ _ (_ + 1), recent_one, zero_add]

/-- Group 3's lags. -/
theorem lags3 (h : Holds F U P) (r : Fin 256) (l : Fin 128) :
    k0_pay11 (F := Ideal) U k0_pay4 (k0_pay10 U (stretch U P 15 384 (by decide)) (stretch U P 14 384 (by decide)) (stretch U P 13 384 (by decide)) (stretch U P 12 384 (by decide)) (stretch U P 11 384 (by decide)) (stretch U P 10 384 (by decide))) (stretch U P 9 384 (by decide)) (stretch U P 8 384 (by decide)) (stretch U P 7 384 (by decide)) (stretch U P 6 384 (by decide)) (stretch U P 5 384 (by decide)) (stretch U P 4 384 (by decide)) (stretch U P 3 384 (by decide)) (stretch U P 2 384 (by decide)) (stretch U P 1 384 (by decide)) (ix2 r l)
      = lag (F ⟨r.val / 8, by omega⟩ ⟨3 * 128 + l.val, by omega⟩) (16384 + r.val % 8) (2 ^ 4) := by
  pointwise [k0_pay11, k0_pay10, k0_pay4]
  simp only [h.here, word_eq, stretch_at h 15 384 (by decide), stretch_at h 14 384 (by decide), stretch_at h 13 384 (by decide), stretch_at h 12 384 (by decide), stretch_at h 11 384 (by decide), stretch_at h 10 384 (by decide), stretch_at h 9 384 (by decide), stretch_at h 8 384 (by decide), stretch_at h 7 384 (by decide), stretch_at h 6 384 (by decide), stretch_at h 5 384 (by decide), stretch_at h 4 384 (by decide), stretch_at h 3 384 (by decide), stretch_at h 2 384 (by decide), stretch_at h 1 384 (by decide), lag, tally]
  rw [show (2 : ℕ) ^ 4 = 1 + 1 + 1 + 1 + 1 + 1 + 1 + 1 + 1 + 1 + 1 + 1 + 1 + 1 + 1 + 1 by rfl]
  simp only [recent_succ _ (_ + 1), recent_one, zero_add]

/-- What the step stores at row `r` and column `j`. -/
theorem stored_apply (h : Holds F U P) (W : FVec Ideal S4x128x128 .bf16) (s : FVec Ideal S1x512 .f32) (A : FVec Ideal S256x512 .f32)
    (B C : FVec Ideal S512x1024 .bf16) (X : FVec Ideal S256x1024 .f32) (r : Fin 256) (j : Fin 1024) :
    stored U P W s A B C X (ix2 r j)
      = entry (X (ix2 r j)) (fun k => A (ix2 r k)) (F ⟨r.val / 8, by omega⟩) (fun g l c => W (ix3 g l c)) (fun k => s (ix2 0 k))
        (fun k => B (ix2 k j)) (fun k => C (ix2 k j)) (16384 + r.val % 8) := by
  unfold stored
  have g0 := group0 h (square W 0) r
  have g1 := group1 h (square W 1) r
  have g2 := group2 h (square W 2) r
  have g3 := lags3 h r
  generalize k0_pay5 (F := Ideal) U _ _ = D0 at g0 ⊢
  generalize k0_pay7 (F := Ideal) U _ _ _ _ _ = D1 at g1 ⊢
  generalize k0_pay9 (F := Ideal) U _ _ _ _ _ = D2 at g2 ⊢
  generalize k0_pay11 (F := Ideal) U _ _ _ _ _ _ _ _ _ _ _ = D3 at g3 ⊢
  pointwise [k0_pay1, k0_pay12]
  unfold entry
  refine congrArg₂ (· + ·) rfl (congrArg₂ (· + ·) rfl (Finset.sum_congr rfl fun n _ => ?_))
  refine congrArg (· * _) (congrArg (· * _) ?_)
  rw [← Cert.Reference7Ideal.Math.four_apply (F ⟨r.val / 8, by omega⟩) (fun g l c => W (ix3 g l c)) (16384 + r.val % 8) n _ (fun _ _ => rfl)]
  by_cases h0 : n.val < 128
  · rw [dif_pos h0, dif_pos h0]; exact g0 _
  rw [dif_neg h0, dif_neg h0]
  by_cases h1 : n.val - 128 < 128
  · rw [dif_pos h1, dif_pos h1]; exact g1 _
  rw [dif_neg h1, dif_neg h1]
  by_cases h2 : n.val - 128 - 128 < 128
  · rw [dif_pos h2, dif_pos h2]; exact g2 _
  rw [dif_neg h2, dif_neg h2]
  exact Finset.sum_congr rfl fun l _ => congrArg (· * _) (g3 l)

end Cert.Kernel8Ideal.Math

end
-- ==== Proof.Tail.Host.lean ====
module

public import proofs.«01_k».proof.Proof.Gen.Kernel8Ideal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Math

open Cert.Kernel8Ideal Cert.Kernel8Ideal.Gen

variable (m : (ℓ : Loc nD τ sig) → Buf (Elt Ideal) ℓ)

/-- The rows, one below the other. -/
theorem V_v0 (c : Dev nD) : V m c main_v0 = shapeCast S256x1024 (m ((c : Thread nD τ).loc main_arg0)) shapeCasts_S32x8x1024_S256x1024 := by
  conv_lhs => simp only [V, hostOps0, hostOps0_1, hostOps0_2, List.flatten_cons, List.flatten_nil, List.append_nil, List.cons_append, List.nil_append]
  entry_read
  rfl

/-- The groups' weights. -/
theorem V_v1 (c : Dev nD) : V m c main_v1 = truncf (F := Ideal) FTy.bf16 (m ((c : Thread nD τ).loc main_arg4)) bitsLt_bf16_f32 := by
  conv_lhs => simp only [V, hostOps0, hostOps0_1, hostOps0_2, List.flatten_cons, List.flatten_nil, List.append_nil, List.cons_append, List.nil_append]
  entry_read
  rfl

/-- The pooled columns' scale, as a row. -/
theorem V_v2 (c : Dev nD) : V m c main_v2 = shapeCast S1x512 (m ((c : Thread nD τ).loc main_arg5)) shapeCasts_S512_S1x512 := by
  conv_lhs => simp only [V, hostOps0, hostOps0_1, hostOps0_2, List.flatten_cons, List.flatten_nil, List.append_nil, List.cons_append, List.nil_append]
  entry_read
  rfl

/-- The attention's half of the output weights. -/
theorem V_v4 (c : Dev nD) : V m c main_v4 = truncf (F := Ideal) FTy.bf16 (extractStridedSlice S512x1024 ![0, 0] (m ((c : Thread nD τ).loc main_arg6)) slices_S1024x1024_S512x1024_0_0) bitsLt_bf16_f32 := by
  conv_lhs => simp only [V, hostOps0, hostOps0_1, hostOps0_2, List.flatten_cons, List.flatten_nil, List.append_nil, List.cons_append, List.nil_append]
  entry_read
  rfl

/-- The pooled columns' half of the output weights. -/
theorem V_v6 (c : Dev nD) : V m c main_v6 = truncf (F := Ideal) FTy.bf16 (extractStridedSlice S512x1024 ![512, 0] (m ((c : Thread nD τ).loc main_arg6)) slices_S1024x1024_S512x1024_512_0) bitsLt_bf16_f32 := by
  conv_lhs => simp only [V, hostOps0, hostOps0_1, hostOps0_2, List.flatten_cons, List.flatten_nil, List.append_nil, List.cons_append, List.nil_append]
  entry_read
  rfl

/-- The rows before the sample rows, a row of zeros first. -/
theorem V_v7 (c : Dev nD) : V m c main_v7 = pad S32x16x512 ![0, 1, 0] ![0, 0, 0] ![0, 0, 0] (m ((c : Thread nD τ).loc main_arg3)) (sitofp (F := Ideal) .f32 (constantI S_ 32 0#32)) pads_S32x15x512_S32x16x512_000_100_000 h_S_ := by
  conv_lhs => simp only [V, hostOps0, hostOps0_1, hostOps0_2, List.flatten_cons, List.flatten_nil, List.append_nil, List.cons_append, List.nil_append]
  entry_read
  rfl

/-- The attention's rows, one below the other. -/
theorem V_v8 (c : Dev nD) : V m c main_v8 = shapeCast S256x512 (m ((c : Thread nD τ).loc main_arg1)) shapeCasts_S32x8x512_S256x512 := by
  conv_lhs => simp only [V, hostOps0, hostOps0_1, hostOps0_2, List.flatten_cons, List.flatten_nil, List.append_nil, List.cons_append, List.nil_append]
  entry_read
  rfl

end Cert.Kernel8Ideal.Math

end
-- ==== Proof.Tail.Ref.lean ====
module

public import proofs.«01_k».proof.Proof.Gen.Reference8Ideal
public import proofs.«01_k».proof.Proof.Pool.Ref

@[expose] public section

set_option maxRecDepth 16384

noncomputable section

open Idealize.ShloMosaic Idealize.ShloMosaic.TcCoe Idealize.SL.Sem

namespace Cert.Reference8Ideal.Math

open Cert.Reference8Ideal Cert.Reference8Ideal.Gen Cert.Pool
open Cert.Finite (IsReal)

/-- A sequence's last fifteen rows, then its sample rows. -/
def ext (a3 : FVec Ideal S32x15x512 .f32) (a2 : FVec Ideal S32x8x512 .f32) : FVec Ideal S32x23x512 .f32 :=
  concatenate S32x23x512 1 [⟨S32x15x512, a3⟩, ⟨S32x8x512, a2⟩] concatenates_S32x15x512_S32x8x512_S32x23x512_d1

/-- A column of the joined rows, at a position of the sequence: its first sample row stands at position 16384. -/
def late (a3 : FVec Ideal S32x15x512 .f32) (a2 : FVec Ideal S32x8x512 .f32) (b : Fin 32) (n : Fin 512) (i : ℕ) : EReal :=
  column (ext a3 a2) b n (i - 16369)

/-- The joined rows at an index. -/
theorem ext_apply (a3 : FVec Ideal S32x15x512 .f32) (a2 : FVec Ideal S32x8x512 .f32) (b : Fin 32) (i : Fin 23) (n : Fin 512) :
    ext a3 a2 (ix3 b i n) = if i.val < 15 then column a3 b n i.val else column a2 b n (i.val - 15) := by
  have hi := i.isLt
  pointwise [ext]
  by_cases h : i.val < 15
  · rw [dif_pos h, if_pos h, column_lt a3 b n h]
  · have h2 : i.val - 15 < 8 := by omega
    rw [dif_neg h, if_neg h, column_lt a2 b n h2]

/-- A sample row, at its position. -/
theorem late_here (a3 : FVec Ideal S32x15x512 .f32) (a2 : FVec Ideal S32x8x512 .f32) (b : Fin 32) (n : Fin 512) (s : Fin 8) :
    late a3 a2 b n (16384 + s.val) = a2 (ix3 b s n) := by
  have hs := s.isLt
  unfold late
  rw [column_lt _ b n (show 16384 + s.val - 16369 < 23 by omega), ext_apply, if_neg (by dsimp only; omega),
    column_lt a2 b n (by dsimp only; omega)]
  refine congrArg a2 (congrArg (ix3 b · n) (Fin.ext ?_))
  dsimp only
  omega

/-- Every entry of the joined rows is a real number when the rows' are. -/
theorem ext_real {a3 : FVec Ideal S32x15x512 .f32} {a2 : FVec Ideal S32x8x512 .f32} (h3 : ∀ i, IsReal (a3 i)) (h2 : ∀ i, IsReal (a2 i))
    (b : Fin 32) (n : Fin 512) (i : ℕ) : IsReal (column (ext a3 a2) b n i) := by
  unfold column
  split
  · rw [ext_apply]
    have h3' : ∀ k, IsReal (column a3 b n k) := fun k => by unfold column; split; exacts [h3 _, ⟨0, rfl⟩]
    have h2' : ∀ k, IsReal (column a2 b n k) := fun k => by unfold column; split; exacts [h2 _, ⟨0, rfl⟩]
    split
    · exact h3' _
    · exact h2' _
  · exact ⟨0, rfl⟩

/-- The running sums of the joined rows, a zero row before them. -/
def sums (E : FVec Ideal S32x23x512 .f32) : FVec Ideal S32x24x512 .f32 :=
  concatenate S32x24x512 1 [⟨S32x1x512, (broadcastInDim S32x1x512 ![] bcast_S_S32x1x512 (constant S_ .f32 0x00000000#32))⟩, ⟨S32x23x512, (Host.reduceWindowAdd ![1, 23, 1] ![1, 1, 1] ![0, 22, 0] ![0, 0, 0] E (broadcastInDim S_ ![] bcast_S_S_ (constant S_ .f32 0x00000000#32)) reduceWindows_S32x23x512_S32x23x512_w1s1p0_0_w23s1p22_0_w1s1p0_0 h_S_)⟩] concatenates_S32x1x512_S32x23x512_S32x24x512_d1

/-- The running sums at an index: the rows before it. -/
theorem sums_apply (E : FVec Ideal S32x23x512 .f32) (b : Fin 32) (i : Fin 24) (n : Fin 512) :
    sums E (ix3 b i n) = ∑ k ∈ Finset.range i.val, column E b n k := by
  have hi := i.isLt
  unfold sums
  generalize hR : Host.reduceWindowAdd ![1, 23, 1] ![1, 1, 1] ![0, 22, 0] ![0, 0, 0] E (broadcastInDim S_ ![] bcast_S_S_ (constant S_ .f32 0x00000000#32)) reduceWindows_S32x23x512_S32x23x512_w1s1p0_0_w23s1p22_0_w1s1p0_0 h_S_ = R
  have hr : ∀ j : Fin 23, R (ix3 b j n) = ∑ k ∈ Finset.range (j.val + 1), column E b n k := fun j => by
    rw [← hR]
    exact running (N := 22) E _ (by pointwise) reduceWindows_S32x23x512_S32x23x512_w1s1p0_0_w23s1p22_0_w1s1p0_0 h_S_ b j n
  pointwise
  by_cases h : i.val < 1
  · rw [dif_pos h, show i.val = 0 by omega, Finset.range_zero, Finset.sum_empty]
  · rw [dif_neg h, hr]
    dsimp only
    rw [show i.val - 1 + 1 = i.val by omega]

/-- Two running sums of the joined rows differ by the last rows' sum at the row's position. -/
theorem sub_late {a3 : FVec Ideal S32x15x512 .f32} {a2 : FVec Ideal S32x8x512 .f32} (h3 : ∀ i, IsReal (a3 i)) (h2 : ∀ i, IsReal (a2 i))
    (b : Fin 32) (n : Fin 512) (w s o : ℕ) (ho : o + w = 16) :
    ∑ i ∈ Finset.range (16 + s), column (ext a3 a2) b n i - ∑ i ∈ Finset.range (o + s), column (ext a3 a2) b n i
      = recent (late a3 a2 b n) w (16384 + s) := by
  rw [show 16 + s = (o + s) + w by omega, sub_running (ext_real h3 h2 b n), ← Finset.sum_range_reflect]
  refine Finset.sum_congr rfl fun k hk => ?_
  have hk := Finset.mem_range.1 hk
  unfold back late
  rw [if_pos (by omega)]
  exact congrArg _ (by omega)

/-- One group's columns: the mean of its last rows from two running sums, less the row itself. -/
def group (o p : ℕ) (w : BitVec 32) (C : FVec Ideal S32x24x512 .f32) (E : FVec Ideal S32x23x512 .f32)
    (h16 : S32x24x512.Slices ![0, 16, p] S32x8x128) (ho : S32x24x512.Slices ![0, o, p] S32x8x128)
    (hp : S32x8x512.Slices ![0, 0, p] S32x8x128) : FVec Ideal S32x8x128 .f32 :=
  subf (Host.divf (subf (extractStridedSlice S32x8x128 ![0, 16, p] C h16) (extractStridedSlice S32x8x128 ![0, o, p] C ho)) (broadcastInDim S32x8x128 ![0, 1, 2] bcast_S1x8x1_S32x8x128_0_1_2 (broadcastInDim S1x8x1 ![1] bcast_S8_S1x8x1_1 (sitofp .f32 (minsi (addi (addi (broadcastInDim S8 ![] bcast_S_S8 (constantI S_ 32 16384#32)) (iotaInDim S8 32 0)) (broadcastInDim S8 ![] bcast_S_S8 (constantI S_ 32 1#32))) (broadcastInDim S8 ![] bcast_S_S8 (constantI S_ 32 w))))))) (extractStridedSlice S32x8x128 ![0, 0, p] (extractStridedSlice S32x8x512 ![0, 15, 0] E slices_S32x23x512_S32x8x512_0_15_0) hp)

/-- One group's columns at an index, where the rows are real numbers. -/
theorem group_apply {a3 : FVec Ideal S32x15x512 .f32} {a2 : FVec Ideal S32x8x512 .f32} (h3 : ∀ i, IsReal (a3 i)) (h2 : ∀ i, IsReal (a2 i))
    (o p w : ℕ) (h16 ho hp) (hw : o + w = 16) (b : Fin 32) (s : Fin 8) (l : Fin 128) (hl : p + l.val < 512) :
    group o p (BitVec.ofNat 32 w) (sums (ext a3 a2)) (ext a3 a2) h16 ho hp (ix3 b s l)
      = lag (late a3 a2 b ⟨p + l.val, hl⟩) (16384 + s.val) w := by
  have hs := s.isLt
  generalize hE : ext a3 a2 = E
  pointwise [group]
  simp only [sums_apply]
  subst hE
  rw [sub_late h3 h2 b ⟨p + l.val, hl⟩ w s.val o hw]
  unfold lag tally
  refine congrArg₂ (· - ·) ?_ ?_
  · refine congrArg₂ Ideal.div rfl (congrArg _ (congrArg₂ _ (congrArg₂ _ ?_ rfl) rfl))
    exact (BitVec.ofNat_add 16384 s.val).symm
  · unfold late
    rw [column_lt _ b _ (show 16384 + s.val - 16369 < 23 by omega)]
    refine congrArg (ext a3 a2) (congrArg (ix3 b · _) (Fin.ext ?_))
    dsimp only
    omega

/-- A group's columns against the group's weights. -/
def carried (D : FVec Ideal S32x8x128 .f32) (q : ℕ) (a4 : FVec Ideal S4x128x128 .f32) (hq : S4x128x128.Slices ![q, 0, 0] S1x128x128) :
    FVec Ideal S32x8x128 .f32 :=
  Host.dotGeneral dot_S32x8x128_S128x128_S32x8x128_2_0_01_1_n_n none D (shapeCast _ (extractStridedSlice S1x128x128 ![q, 0, 0] a4 hq) shapeCasts_S1x128x128_S128x128)

/-- A group's product at an index, where the rows are real numbers. -/
theorem carried_apply {a3 : FVec Ideal S32x15x512 .f32} {a2 : FVec Ideal S32x8x512 .f32} (h3 : ∀ i, IsReal (a3 i)) (h2 : ∀ i, IsReal (a2 i))
    (a4 : FVec Ideal S4x128x128 .f32) (g : Fin 4) (o p w q : ℕ) (h16 ho hp hq)
    (hg : q = g.val) (hp' : p = g.val * 128) (hw' : w = 2 ^ (g.val + 1)) (hw : o + w = 16) (b : Fin 32) (s : Fin 8) (c : Fin 128) :
    carried (group o p (BitVec.ofNat 32 w) (sums (ext a3 a2)) (ext a3 a2) h16 ho hp) q a4 hq (ix3 b s c)
      = groupAt (late a3 a2 b) (fun g l c => a4 (ix3 g l c)) (16384 + s.val) g c := by
  subst hg hp' hw'
  generalize hD : group o (g.val * 128) (BitVec.ofNat 32 (2 ^ (g.val + 1))) (sums (ext a3 a2)) (ext a3 a2) h16 ho hp = D
  have hd : ∀ l : Fin 128, D (ix3 b s l) = lag (late a3 a2 b ⟨g.val * 128 + l.val, by omega⟩) (16384 + s.val) (2 ^ (g.val + 1)) := fun l => by
    rw [← hD]
    exact group_apply h3 h2 o _ _ h16 ho hp hw b s l (by omega)
  pointwise [carried]
  simp only [hd]
  rfl

/-- The four groups' products side by side. -/
def pool (a3 : FVec Ideal S32x15x512 .f32) (a2 : FVec Ideal S32x8x512 .f32) (a4 : FVec Ideal S4x128x128 .f32) : FVec Ideal S32x8x512 .f32 :=
  concatenate S32x8x512 2 [
    ⟨S32x8x128, carried (group 14 0 2#32 (sums (ext a3 a2)) (ext a3 a2) slices_S32x24x512_S32x8x128_0_16_0 slices_S32x24x512_S32x8x128_0_14_0 slices_S32x8x512_S32x8x128_0_0_0) 0 a4 slices_S4x128x128_S1x128x128_0_0_0⟩,
    ⟨S32x8x128, carried (group 12 128 4#32 (sums (ext a3 a2)) (ext a3 a2) slices_S32x24x512_S32x8x128_0_16_128 slices_S32x24x512_S32x8x128_0_12_128 slices_S32x8x512_S32x8x128_0_0_128) 1 a4 slices_S4x128x128_S1x128x128_1_0_0⟩,
    ⟨S32x8x128, carried (group 8 256 8#32 (sums (ext a3 a2)) (ext a3 a2) slices_S32x24x512_S32x8x128_0_16_256 slices_S32x24x512_S32x8x128_0_8_256 slices_S32x8x512_S32x8x128_0_0_256) 2 a4 slices_S4x128x128_S1x128x128_2_0_0⟩,
    ⟨S32x8x128, carried (group 0 384 16#32 (sums (ext a3 a2)) (ext a3 a2) slices_S32x24x512_S32x8x128_0_16_384 slices_S32x24x512_S32x8x128_0_0_384 slices_S32x8x512_S32x8x128_0_0_384) 3 a4 slices_S4x128x128_S1x128x128_3_0_0⟩]
    concatenates_S32x8x128_S32x8x128_S32x8x128_S32x8x128_S32x8x512_d2

/-- The pooled rows at an index, where the rows are real numbers. -/
theorem pool_apply {a3 : FVec Ideal S32x15x512 .f32} {a2 : FVec Ideal S32x8x512 .f32} (hr3 : ∀ i, IsReal (a3 i)) (hr2 : ∀ i, IsReal (a2 i))
    (a4 : FVec Ideal S4x128x128 .f32) (b : Fin 32) (s : Fin 8) (n : Fin 512) :
    pool a3 a2 a4 (ix3 b s n) = pooled (late a3 a2 b) (fun g l c => a4 (ix3 g l c)) (16384 + s.val) n := by
  unfold pool
  generalize h0 : carried (group 14 0 _ _ _ _ _ _) 0 a4 _ = D0
  generalize h1 : carried (group 12 128 _ _ _ _ _ _) 1 a4 _ = D1
  generalize h2 : carried (group 8 256 _ _ _ _ _ _) 2 a4 _ = D2
  generalize h3 : carried (group 0 384 _ _ _ _ _ _) 3 a4 _ = D3
  pointwise
  refine Cert.Reference7Ideal.Math.four_apply (late a3 a2 b) (fun g l c => a4 (ix3 g l c)) (16384 + s.val) n (fun g c => ![D0, D1, D2, D3] g (ix3 b s c)) fun g c => ?_
  fin_cases g
  · exact (congrFun h0.symm _).trans (carried_apply hr3 hr2 a4 0 14 0 2 0 _ _ _ _ rfl rfl rfl rfl b s c)
  · exact (congrFun h1.symm _).trans (carried_apply hr3 hr2 a4 1 12 128 4 1 _ _ _ _ rfl rfl rfl rfl b s c)
  · exact (congrFun h2.symm _).trans (carried_apply hr3 hr2 a4 2 8 256 8 2 _ _ _ _ rfl rfl rfl rfl b s c)
  · exact (congrFun h3.symm _).trans (carried_apply hr3 hr2 a4 3 0 384 16 3 _ _ _ _ rfl rfl rfl rfl b s c)

/-- The output product, over any pooled rows. -/
def product (a0 : FVec Ideal S32x8x1024 .f32) (a1 : FVec Ideal S32x8x512 .f32) (P : FVec Ideal S32x8x512 .f32) (a5 : FVec Ideal S512 .f32)
    (a6 : FVec Ideal S1024x1024 .f32) : FVec Ideal S256x1024 .f32 :=
  shapeCast _ (addf a0 (Host.dotGeneral dot_S32x8x1024_S1024x1024_S32x8x1024_2_0_01_1_n_n none (concatenate S32x8x1024 2 [⟨S32x8x512, a1⟩, ⟨S32x8x512, mulf P (broadcastInDim S32x8x512 ![0, 1, 2] bcast_S1x1x512_S32x8x512_0_1_2 (broadcastInDim S1x1x512 ![2] bcast_S512_S1x1x512_2 a5))⟩] concatenates_S32x8x512_S32x8x512_S32x8x1024_d2) a6)) shapeCasts_S32x8x1024_S256x1024

/-- The reference as one function of its seven argument arrays. -/
abbrev out (a0 : FVec Ideal S32x8x1024 .f32) (a1 a2 : FVec Ideal S32x8x512 .f32) (a3 : FVec Ideal S32x15x512 .f32) (a4 : FVec Ideal S4x128x128 .f32)
    (a5 : FVec Ideal S512 .f32) (a6 : FVec Ideal S1024x1024 .f32) : FVec Ideal S256x1024 .f32 :=
  product a0 a1 (pool a3 a2 a4) a5 a6

/-- The reference at an index, where the pool rows are real numbers. -/
theorem out_apply (a0 : FVec Ideal S32x8x1024 .f32) (a1 a2 : FVec Ideal S32x8x512 .f32) (a3 : FVec Ideal S32x15x512 .f32)
    (h2 : ∀ i, IsReal (a2 i)) (h3 : ∀ i, IsReal (a3 i)) (a4 : FVec Ideal S4x128x128 .f32) (a5 : FVec Ideal S512 .f32) (a6 : FVec Ideal S1024x1024 .f32)
    (i : S256x1024.Idx) (r : Fin 256) (j : Fin 1024) (hr' : (i 0).val = r.val) (hj : (i 1).val = j.val) :
    out a0 a1 a2 a3 a4 a5 a6 i = entry (a0 (ix3 ⟨r.val / 8, by omega⟩ ⟨r.val % 8, by omega⟩ j)) (fun k => a1 (ix3 ⟨r.val / 8, by omega⟩ ⟨r.val % 8, by omega⟩ k))
      (late a3 a2 ⟨r.val / 8, by omega⟩) (fun g l c => a4 (ix3 g l c)) (fun k => a5 (ix1 k))
      (fun k => a6 (ix2 ⟨k.val, by omega⟩ j)) (fun k => a6 (ix2 ⟨512 + k.val, by omega⟩ j)) (16384 + r.val % 8) := by
  obtain ⟨r, hr0⟩ := r
  obtain ⟨j, hj'⟩ := j
  dsimp only at hr' hj
  subst hr' hj
  unfold out
  generalize hP : pool a3 a2 a4 = P
  have hp : ∀ b s n, P (ix3 b s n) = pooled (late a3 a2 b) (fun g l c => a4 (ix3 g l c)) (16384 + s.val) n := fun b s n => by
    rw [← hP]; exact pool_apply h3 h2 a4 b s n
  pointwise [product]
  simp only [hp]
  rfl

end Cert.Reference8Ideal.Math

end
-- ==== Proof.Tail.Value.lean ====
module

public import proofs.«01_k».proof.Proof.Tail.Groups
public import proofs.«01_k».proof.Proof.Tail.Host
public import proofs.«01_k».proof.Proof.Tail.Ref
public import proofs.«01_k».proof.Proof.Pool.Value
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Kernel8Ideal.Math

open Cert.Kernel8Ideal Cert.Kernel8Ideal.Gen Cert.Pool
open Cert.Kernel7Ideal.Math (entry_congr)
open Cert.Reference8Ideal.Math (out out_apply ext_apply late late_here)

variable (m : (ℓ : Loc nD τ sig) → Buf (Elt Ideal) ℓ)

/-- Every window's block is its whole array. -/
theorem places : ∀ t : Fin cfg0.N, win0_0.index t = ![0, 0]
    ∧ win0_1.index t = ![0, 0] ∧ win0_2.index t = ![0, 0, 0] ∧ win0_3.index t = ![0, 0, 0]
    ∧ win0_4.index t = ![0, 0, 0] ∧ win0_5.index t = ![0, 0] ∧ win0_6.index t = ![0, 0] ∧ win0_7.index t = ![0, 0]
    ∧ win0_8.index t = ![0, 0] :=
  (by decide +kernel : ∀ t : Fin grid0.N, _)

/-- The rows before the sample rows, under their row of zeros. -/
theorem under_apply (A : FVec Ideal S32x15x512 .f32) (z : FVec Ideal S_ .f32) (i : S32x16x512.Idx) (b : Fin 32) (q : Fin 15) (n : Fin 512)
    (h0 : (i 0).val = b.val) (h1 : (i 1).val = q.val + 1) (h2 : (i 2).val = n.val) :
    pad S32x16x512 ![0, 1, 0] ![0, 0, 0] ![0, 0, 0] A z pads_S32x15x512_S32x16x512_000_100_000 h_S_ i = A (ix3 b q n) := by
  refine pad_apply_of_inside _ _ _ A z _ _ i (ix3 b q n) ?_
  intro a
  match a with
  | ⟨0, _⟩ => show (i 0).val = _; simp; omega
  | ⟨1, _⟩ => show (i 1).val = _; simp; omega
  | ⟨2, _⟩ => show (i 2).val = _; simp; omega

/-- The sample rows and the rows before them hold consecutive rows of their sequences. -/
theorem holds (c : Dev nD) (t : Fin cfg0.N) :
    Holds (late (m ((c : Thread nD τ).loc main_arg3)) (m ((c : Thread nD τ).loc main_arg2))) (iblk m c 2 t) (iblk m c 3 t) := by
  have here : ∀ (b : Fin 32) (s : Fin 8) (n : Fin 512), iblk m c 2 t (ix3 b s n) = m ((c : Thread nD τ).loc main_arg2) (ix3 b s n) := by
    intro b s n
    blk_ext [iblk, places t]
  refine ⟨fun b s n => (here b s n).trans (late_here _ _ b n s).symm, fun k b s n hk hk' => ?_⟩
  have hs := s.isLt
  unfold row back late
  rw [if_pos (show k ≤ 16384 + s.val by omega), column_lt _ b n (show 16384 + s.val - k - 16369 < 23 by omega), ext_apply]
  dsimp only
  by_cases h : 16 - k + s.val < 16
  · rw [if_pos h, if_pos (by omega), column_lt _ b n h, column_lt _ b n (show 16384 + s.val - k - 16369 < 15 by omega)]
    blk_simp [iblk]
    rw [V_v7]
    refine under_apply _ _ _ b ⟨16384 + s.val - k - 16369, by omega⟩ n ?_ ?_ ?_
    · blk_simp [places t]
    · blk_simp [places t]; dsimp only; omega
    · blk_simp [places t]
  · rw [if_neg h, if_neg (by omega), column_lt _ b n (show 16 - k + s.val - 16 < 8 by omega), here,
      column_lt _ b n (show 16384 + s.val - k - 16369 - 15 < 8 by omega)]
    refine congrArg _ (congrArg (ix3 b · n) (Fin.ext ?_))
    dsimp only
    omega

/-- The stacked rows at an index. -/
theorem stacked_apply (A : FVec Ideal S32x8x1024 .f32) (i : S256x1024.Idx) (b : Fin 32) (s : Fin 8) (k : Fin 1024)
    (h : (i 0).val = b.val * 8 + s.val) (hk : (i 1).val = k.val) :
    shapeCast S256x1024 A shapeCasts_S32x8x1024_S256x1024 i = A (ix3 b s k) := by
  idx_vars i
  pointwise
  blk_ext

/-- The attention's stacked rows at an index. -/
theorem stacked_apply' (A : FVec Ideal S32x8x512 .f32) (i : S256x512.Idx) (b : Fin 32) (s : Fin 8) (k : Fin 512)
    (h : (i 0).val = b.val * 8 + s.val) (hk : (i 1).val = k.val) :
    shapeCast S256x512 A shapeCasts_S32x8x512_S256x512 i = A (ix3 b s k) := by
  idx_vars i
  pointwise
  blk_ext

/-- Entry `y` of the block that the step stores is the reference at that row and column. -/
theorem entry_eq (c : Dev nD) (h2 : ∀ i, Cert.Finite.IsReal (m ((c : Thread nD τ).loc main_arg2) i))
    (h3 : ∀ i, Cert.Finite.IsReal (m ((c : Thread nD τ).loc main_arg3) i)) (t : Fin cfg0.N) (y : S256x1024.Idx) :
    outsAt0 m c t y
      = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (((cfg0.win 8).blk t).view.emb y) := by
  obtain ⟨r, j, rfl⟩ : ∃ (r : Fin 256) (j : Fin 1024), y = ix2 r j := ⟨_, _, ValueIdx.eq_ix2 y⟩
  have hr := r.isLt
  rw [out_eq]
  refine (stored_apply (holds m c t) _ _ _ _ _ _ r j).trans (Eq.trans ?_ (out_apply _ _ _ _ h2 h3 _ _ _ _ r j ?_ ?_).symm)
  · refine entry_congr ?_ ?_ rfl ?_ ?_ ?_ ?_ rfl
    · blk_simp [iblk]; rw [V_v0]
      refine stacked_apply _ _ ⟨r.val / 8, by omega⟩ ⟨r.val % 8, by omega⟩ j ?_ ?_
      · blk_simp [places t]; dsimp only; omega
      · blk_simp [places t]
    · funext k
      blk_simp [iblk]; rw [V_v8]
      refine stacked_apply' _ _ ⟨r.val / 8, by omega⟩ ⟨r.val % 8, by omega⟩ k ?_ ?_
      · blk_simp [places t]; dsimp only; omega
      · blk_simp [places t]
    · funext g l n; blk_simp [iblk]; rw [V_v1]; blk_ext [places t]
    · funext k; blk_simp [iblk]; rw [V_v2]; pointwise; blk_ext [places t]
    · funext k; blk_simp [iblk]; rw [V_v4]; pointwise; blk_ext [places t]
    · funext k; blk_simp [iblk]; rw [V_v6]; pointwise; blk_ext [places t]
  · blk_simp [places t]
  · blk_simp [places t]

/-- The result array after the run is the reference's array. -/
theorem result_eq (c : Dev nD) (h2 : ∀ i, Cert.Finite.IsReal (m ((c : Thread nD τ).loc main_arg2) i))
    (h3 : ∀ i, Cert.Finite.IsReal (m ((c : Thread nD τ).loc main_arg3) i)) : (dats m 0 c).arrAt 8 (cfgs 0).N
    = out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 8 _ (by decide +kernel) fun t hf y => ?_
  blk_simp; rw [after0_8]
  exact entry_eq m c h2 h3 t y

end Cert.Kernel8Ideal.Math

end
-- ==== Proof.Tail.Claim.lean ====
module

public import proofs.«01_k».proof.Defs
public import proofs.«01_k».proof.Proof.Gen.Reference8Ideal.Run
public import proofs.«01_k».proof.Proof.Gen.Pre_finite_state
public import proofs.«01_k».proof.Proof.Keys.Claim
public import proofs.«01_k».proof.Proof.Tail.Value

@[expose] public section

set_option maxRecDepth 16384

noncomputable section

namespace Cert.Proof

open Idealize.ShloMosaic Idealize.SL.Sem

/-- The reference of the sample rows' output product runs to its end, leaves its arguments as they were and every counter at zero. -/
theorem tail_reference_frame : Cert.quiescent_Reference8Ideal := by
  intro m g _
  exact (θ_run Cert.Reference8Ideal.defs _ _).mono
    (fun r h => ⟨fun c => (h.1 c).2, h.2⟩)
    (show θ_run _ _ _ (fun r => (∀ c, _ ∧ _) ∧ r.2.sem = fun _ => 0) from
      (θ_run Cert.Reference8Ideal.defs _ _).mono
        (fun r h => ⟨h, Idealize.ShloMosaic.sem_eq_zero_of_no_sems (by decide) r.2⟩)
        (Cert.Reference8Ideal.Value.run (F := Ideal) m g))

/-- The same, where the pool rows and the rows before them are also asked to be finite. -/
theorem tail_reference_frame_finite : Cert.quiescent_Reference8Ideal_pre_finite_state :=
  fun m g _ => tail_reference_frame m g trivial

/-- The sample reference's result, as its stages one after the other. -/
theorem tail_result (m : (ℓ : Loc Cert.Reference8Ideal.nD Cert.Reference8Ideal.τ Cert.Reference8Ideal.sig) → Buf (Elt Ideal) ℓ)
    (c : Dev Cert.Reference8Ideal.nD) : Cert.Reference8Ideal.Value.res_main_v79 m c = Cert.Reference8Ideal.Math.out
      (m ((c.tc : Thread Cert.Reference8Ideal.nD Cert.Reference8Ideal.τ).loc Cert.Reference8Ideal.main_arg0))
      (m ((c.tc : Thread Cert.Reference8Ideal.nD Cert.Reference8Ideal.τ).loc Cert.Reference8Ideal.main_arg1))
      (m ((c.tc : Thread Cert.Reference8Ideal.nD Cert.Reference8Ideal.τ).loc Cert.Reference8Ideal.main_arg2))
      (m ((c.tc : Thread Cert.Reference8Ideal.nD Cert.Reference8Ideal.τ).loc Cert.Reference8Ideal.main_arg3))
      (m ((c.tc : Thread Cert.Reference8Ideal.nD Cert.Reference8Ideal.τ).loc Cert.Reference8Ideal.main_arg4))
      (m ((c.tc : Thread Cert.Reference8Ideal.nD Cert.Reference8Ideal.τ).loc Cert.Reference8Ideal.main_arg5))
      (m ((c.tc : Thread Cert.Reference8Ideal.nD Cert.Reference8Ideal.τ).loc Cert.Reference8Ideal.main_arg6)) := by
  unfold Cert.Reference8Ideal.Value.res_main_v79
  rfl

/-- Where the pool rows and the rows before them are finite, the sample rows' output product and its reference end with equal arrays over the reals. -/
theorem tail_algebraic : Cert.algebraic_Kernel8Ideal_Reference8Ideal_pre_finite_state := by
  pair_intro
  · run_from Cert.Kernel8Ideal.Gen.run_main m g
    exacts [Cert.Kernel8Ideal.Gen.V_main_arg0 m c, Cert.Kernel8Ideal.Gen.V_main_arg1 m c, Cert.Kernel8Ideal.Gen.V_main_arg3 m c, Cert.Kernel8Ideal.Gen.V_main_arg4 m c, Cert.Kernel8Ideal.Gen.V_main_arg5 m c, Cert.Kernel8Ideal.Gen.V_main_arg6 m c]
  · run_from Cert.Reference8Ideal.Value.run m' g'
    obtain ⟨a0, a1, a2, a3, a4, a5, a6⟩ := hagree c
    refine Eq.trans (tail_result m' c) (Eq.trans ?_ (Cert.Kernel8Ideal.Math.result_eq m c (fun i => mask_real _ _ (hpre c).1 i) fun i => mask_real _ _ (hpre c).2 i).symm)
    rw [a0, a1, a2, a3, a4, a5, a6]

end Cert.Proof

end
-- ==== Proof.Gate.Ref.lean ====
module

public import proofs.«01_k».proof.Proof.Gen.Reference9Ideal
public import proofs.«01_k».proof.Proof.Mix.Ref
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Reference9Ideal.Math

open Cert.Reference9Ideal Cert.Reference9Ideal.Gen
open Cert.Reference3Ideal.Math (spread bend unit centre level grp causal)

/-- What the eight rows of a sequence give to row `r` in column `n`: their mixture by the group's weights, and the column's shift. -/
def mixed (v : Fin 8 → Fin 1024 → EReal) (w : Fin 8 → Fin 8 → Fin 8 → EReal) (b : Fin 8 → Fin 1024 → EReal)
    (r : Fin 8) (n : Fin 1024) : EReal :=
  ∑ s, v s n * w (grp n) r s + b r n

/-- One entry of the sample mixer: the row's own entry plus the gated row carried back by `wo`; `x` is the sequence's eight rows. -/
def entry (x : Fin 8 → Fin 1024 → EReal) (g : Fin 1024 → EReal) (wu wv : Fin 1024 → Fin 1024 → EReal)
    (lg lb : Fin 1024 → EReal) (w : Fin 8 → Fin 8 → Fin 8 → EReal) (b : Fin 8 → Fin 1024 → EReal)
    (wo : Fin 1024 → Fin 1024 → EReal) (r : Fin 8) (j : Fin 1024) : EReal :=
  x r j + ∑ n, unit (x r) g wu n * mixed (fun s => level (unit (x s) g wv) lg lb) w b r n * wo n j

/-- A row's place among the first eight of a chunk. -/
def low (r : Fin 8) : Fin 128 := ⟨r.val, by omega⟩

/-- The rows, normalised by their mean square and scaled. -/
def normed (a0 : FVec Ideal S32x8x1024 .f32) (a1 : FVec Ideal S1024 .f32) : FVec Ideal S32x8x1024 .f32 :=
  mulf (mulf a0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf a0 a0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 a1))

/-- The normalised rows at an index. -/
theorem normed_apply (a0 : FVec Ideal S32x8x1024 .f32) (a1 : FVec Ideal S1024 .f32) (b : Fin 32) (s : Fin 8) (k : Fin 1024) :
    normed a0 a1 (ix3 b s k) = a0 (ix3 b s k) * spread (fun k => a0 (ix3 b s k)) * a1 (ix1 k) := by
  pointwise [normed]
  rfl

/-- The rows carried into both halves of the columns. -/
def wide (H : FVec Ideal S32x8x1024 .f32) (a2 : FVec Ideal S1024x2048 .f32) : FVec Ideal S32x8x2048 .f32 :=
  Host.dotGeneral dot_S32x8x1024_S1024x2048_S32x8x2048_2_0_01_1_n_n none H a2

/-- The wide product at an index. -/
theorem wide_apply (H : FVec Ideal S32x8x1024 .f32) (a2 : FVec Ideal S1024x2048 .f32) (b : Fin 32) (s : Fin 8) (n : Fin 2048) :
    wide H a2 (ix3 b s n) = ∑ k, H (ix3 b s k) * a2 (ix2 k n) := by
  pointwise [wide]

/-- The smooth gate of every entry. -/
def act (Z : FVec Ideal S32x8x2048 .f32) : FVec Ideal S32x8x2048 .f32 :=
  mulf Z (mulf (broadcastInDim S32x8x2048 ![] bcast_S_S32x8x2048 (constant S_ .f32 0x3F000000#32)) (addf (broadcastInDim S32x8x2048 ![] bcast_S_S32x8x2048 (constant S_ .f32 0x3F800000#32)) (Host.tanh (mulf (broadcastInDim S32x8x2048 ![] bcast_S_S32x8x2048 (constant S_ .f32 0x3F4C422A#32)) (addf Z (mulf (broadcastInDim S32x8x2048 ![] bcast_S_S32x8x2048 (constant S_ .f32 0x3D372713#32)) (mulf (mulf Z Z) Z)))))))

/-- The bent array at an index. -/
theorem act_apply (Z : FVec Ideal S32x8x2048 .f32) (i : S32x8x2048.Idx) : act Z i = bend (Z i) := by
  pointwise [act]
  rfl

/-- The second half of the columns, less each row's mean. -/
def centred (U : FVec Ideal S32x8x2048 .f32) : FVec Ideal S32x8x1024 .f32 :=
  subf (extractStridedSlice S32x8x1024 ![0, 0, 1024] U slices_S32x8x2048_S32x8x1024_0_0_1024) (broadcastInDim S32x8x1024 ![0, 1, 2] bcast_S32x8x1_S32x8x1024_0_1_2 (Host.divf (broadcastInDim S32x8x1 ![0, 1] bcast_S32x8_S32x8x1_0_1 (Host.reduceAdd (extractStridedSlice S32x8x1024 ![0, 0, 1024] U slices_S32x8x2048_S32x8x1024_0_0_1024) (constant S_ .f32 0x00000000#32) reducesTo_S32x8x1024_S32x8_d2 h_S_)) (broadcastInDim S32x8x1 ![] bcast_S_S32x8x1 (constant S_ .f32 0x44800000#32))))

/-- The centred rows at an index. -/
theorem centred_apply (U : FVec Ideal S32x8x2048 .f32) (b : Fin 32) (s : Fin 8) (j : Fin 1024) :
    centred U (ix3 b s j) = centre (fun n => U (ix3 b s ⟨1024 + n.val, by omega⟩)) j := by
  pointwise [centred]
  rfl

/-- Centred rows brought to unit spread, scaled and shifted. -/
def scaled (C : FVec Ideal S32x8x1024 .f32) (a3 a4 : FVec Ideal S1024 .f32) : FVec Ideal S32x8x1024 .f32 :=
  addf (mulf (mulf C (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf C C) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 a3))) (broadcastInDim S32x8x1024 ![0, 1, 2] bcast_S1x1x1024_S32x8x1024_0_1_2 (broadcastInDim S1x1x1024 ![2] bcast_S1024_S1x1x1024_2 a4))

/-- The levelled rows at an index. -/
theorem scaled_apply (C : FVec Ideal S32x8x1024 .f32) (a3 a4 : FVec Ideal S1024 .f32) (b : Fin 32) (s : Fin 8) (j : Fin 1024) :
    scaled C a3 a4 (ix3 b s j) = C (ix3 b s j) * spread (fun k => C (ix3 b s k)) * a3 (ix1 j) + a4 (ix1 j) := by
  pointwise [scaled]
  rfl

/-- The sequences, each filled up with zero rows to one chunk. -/
def padded (V : FVec Ideal S32x8x1024 .f32) : FVec Ideal S32x128x1024 .f32 :=
  pad S32x128x1024 ![0, 0, 0] ![0, 120, 0] ![0, 0, 0] V (sitofp (F := Ideal) .f32 (constantI S_ 32 0#32)) pads_S32x8x1024_S32x128x1024_000_01200_000 h_S_

/-- A filled sequence at one of its own rows. -/
theorem padded_low (V : FVec Ideal S32x8x1024 .f32) (b : Fin 32) (s : Fin 8) (n : Fin 1024) :
    padded V (ix3 b (low s) n) = V (ix3 b s n) := by
  refine pad_apply_of_inside _ _ _ _ _ _ _ _ (ix3 b s n) fun a => ?_
  fin_cases a
  · show b.val = 0 + b.val * 1; omega
  · show s.val = 0 + s.val * 1; omega
  · show n.val = 0 + n.val * 1; omega

/-- A filled sequence at a row past its own. -/
theorem padded_high (V : FVec Ideal S32x8x1024 .f32) (b : Fin 32) (s : Fin 128) (h : 8 ≤ s.val) (n : Fin 1024) :
    padded V (ix3 b s n) = 0 := by
  refine (pad_apply_of_not_inside _ _ _ _ _ _ _ _ 1 ?_).trans ?_
  · rintro ⟨-, -, h3⟩
    have : (s.val - 0) / 1 < 8 := h3
    omega
  · pointwise
    show ((((0#32).toInt : ℤ) : ℝ) : EReal) = 0
    simp

/-- A sum over a chunk's rows is the sum over the eight own ones where the others give nothing. -/
theorem sum_low (f : Fin 128 → EReal) (h : ∀ s : Fin 128, 8 ≤ s.val → f s = 0) : ∑ s, f s = ∑ s : Fin 8, f (low s) := by
  refine (Fin.sum_univ_add (a := 8) (b := 120) f).trans ?_
  rw [Finset.sum_eq_zero (s := (Finset.univ : Finset (Fin 120))) fun s _ => h _ (by show 8 ≤ 8 + s.val; omega), add_zero]
  rfl

/-- The mixtures of the filled sequences, column group by column group, with the groups' shifts, cut back to their own rows. -/
def gate (V : FVec Ideal S32x8x1024 .f32) (W : FVec Ideal S8x128x128 .f32) (a6 : FVec Ideal S8x128 .f32) : FVec Ideal S32x8x1024 .f32 :=
  extractStridedSlice S32x8x1024 ![0, 0, 0] (shapeCast _ (addf (transpose S32x1x128x8x128 [1, 2, 4, 0, 3] (Host.dotGeneral dot_S32x1x128x8x128_S8x128x128_S8x32x1x128x128_2_2_014_1_3_0 none (shapeCast _ (padded V) shapeCasts_S32x128x1024_S32x1x128x8x128) W) transposes_S8x32x1x128x128_S32x1x128x8x128_1_2_4_0_3) (broadcastInDim S32x1x128x8x128 ![0, 1, 2, 3, 4] bcast_S1x1x128x8x1_S32x1x128x8x128_0_1_2_3_4 (broadcastInDim S1x1x128x8x1 ![2, 3] bcast_S128x8_S1x1x128x8x1_2_3 (transpose S128x8 [1, 0] a6 transposes_S8x128_S128x8_1_0)))) shapeCasts_S32x1x128x8x128_S32x128x1024) slices_S32x128x1024_S32x8x1024_0_0_0

/-- The mixture at an index, over any filled sequences. -/
theorem gate_wide (V : FVec Ideal S32x8x1024 .f32) (W : FVec Ideal S8x128x128 .f32) (a6 : FVec Ideal S8x128 .f32)
    (b : Fin 32) (s : Fin 8) (j : Fin 1024) :
    gate V W a6 (ix3 b s j) = ∑ u : Fin 128, padded V (ix3 b u j) * W (ix3 (grp j) (low s) u) + a6 (ix2 (grp j) (low s)) := by
  unfold gate
  generalize padded V = P
  pointwise
  rfl

/-- The mixture at an index. -/
theorem gate_apply (V : FVec Ideal S32x8x1024 .f32) (W : FVec Ideal S8x128x128 .f32) (a6 : FVec Ideal S8x128 .f32)
    (b : Fin 32) (s : Fin 8) (j : Fin 1024) :
    gate V W a6 (ix3 b s j) = mixed (fun u n => V (ix3 b u n))
      (fun g r u => W (ix3 g (low r) (low u))) (fun r n => a6 (ix2 (grp n) (low r))) s j := by
  rw [gate_wide, sum_low _ fun u h => by rw [padded_high V b u h, zero_mul]]
  simp only [padded_low]
  rfl

/-- The levelled rows as one function of the argument arrays. -/
abbrev levelled (a0 : FVec Ideal S32x8x1024 .f32) (a1 : FVec Ideal S1024 .f32) (a2 : FVec Ideal S1024x2048 .f32)
    (a3 a4 : FVec Ideal S1024 .f32) : FVec Ideal S32x8x1024 .f32 :=
  scaled (centred (act (wide (normed a0 a1) a2))) a3 a4

/-- The levelled rows, one below the other. -/
abbrev rows (a0 : FVec Ideal S32x8x1024 .f32) (a1 : FVec Ideal S1024 .f32) (a2 : FVec Ideal S1024x2048 .f32)
    (a3 a4 : FVec Ideal S1024 .f32) : FVec Ideal S256x1024 .f32 :=
  shapeCast _ (levelled a0 a1 a2 a3 a4) shapeCasts_S32x8x1024_S256x1024

/-- The sample mixer's reference as one function of its eight argument arrays. -/
abbrev out (a0 : FVec Ideal S32x8x1024 .f32) (a1 : FVec Ideal S1024 .f32) (a2 : FVec Ideal S1024x2048 .f32)
    (a3 a4 : FVec Ideal S1024 .f32) (a5 : FVec Ideal S8x128x128 .f32) (a6 : FVec Ideal S8x128 .f32)
    (a7 : FVec Ideal S1024x1024 .f32) : FVec Ideal S256x1024 .f32 :=
  shapeCast _ (addf a0 (Host.dotGeneral dot_S32x8x1024_S1024x1024_S32x8x1024_2_0_01_1_n_n none (mulf (extractStridedSlice S32x8x1024 ![0, 0, 0] (act (wide (normed a0 a1) a2)) slices_S32x8x2048_S32x8x1024_0_0_0) (gate (levelled a0 a1 a2 a3 a4) (causal a5) a6)) a7)) shapeCasts_S32x8x1024_S256x1024

/-- Sequences laid one below the other, at an index. -/
theorem flat_apply (A : FVec Ideal S32x8x1024 .f32) (i : S256x1024.Idx) (b : Fin 32) (s : Fin 8) (j : Fin 1024)
    (hb : (i 0).val / 8 = b.val) (hs : (i 0).val % 8 = s.val) (hj : (i 1).val = j.val) :
    shapeCast S256x1024 A shapeCasts_S32x8x1024_S256x1024 i = A (ix3 b s j) := by
  obtain ⟨b, hb'⟩ := b
  obtain ⟨s, hs'⟩ := s
  obtain ⟨j, hj'⟩ := j
  dsimp only at hb hs hj
  subst hb hs hj
  pointwise

/-- The levelled rows at an index, as one expression over the arguments. -/
theorem rows_apply (a0 : FVec Ideal S32x8x1024 .f32) (a1 : FVec Ideal S1024 .f32) (a2 : FVec Ideal S1024x2048 .f32)
    (a3 a4 : FVec Ideal S1024 .f32) (i : S256x1024.Idx) (b : Fin 32) (s : Fin 8) (j : Fin 1024)
    (hb : (i 0).val / 8 = b.val) (hs : (i 0).val % 8 = s.val) (hj : (i 1).val = j.val) :
    rows a0 a1 a2 a3 a4 i = level (unit (fun k => a0 (ix3 b s k)) (fun k => a1 (ix1 k)) (fun k n => a2 (ix2 k ⟨1024 + n.val, by omega⟩)))
      (fun k => a3 (ix1 k)) (fun k => a4 (ix1 k)) j := by
  refine (flat_apply _ i b s j hb hs hj).trans ?_
  unfold levelled
  simp only [act_apply, scaled_apply, centred_apply, wide_apply, normed_apply]
  rfl

/-- The reference at an index, as one expression over its arguments. -/
theorem out_apply (a0 : FVec Ideal S32x8x1024 .f32) (a1 : FVec Ideal S1024 .f32) (a2 : FVec Ideal S1024x2048 .f32)
    (a3 a4 : FVec Ideal S1024 .f32) (a5 : FVec Ideal S8x128x128 .f32) (a6 : FVec Ideal S8x128 .f32)
    (a7 : FVec Ideal S1024x1024 .f32) (i : S256x1024.Idx) (b : Fin 32) (s : Fin 8) (j : Fin 1024)
    (hb : (i 0).val / 8 = b.val) (hs : (i 0).val % 8 = s.val) (hj : (i 1).val = j.val) :
    out a0 a1 a2 a3 a4 a5 a6 a7 i = entry (fun u k => a0 (ix3 b u k)) (fun k => a1 (ix1 k))
      (fun k n => a2 (ix2 k ⟨n.val, by omega⟩)) (fun k n => a2 (ix2 k ⟨1024 + n.val, by omega⟩))
      (fun k => a3 (ix1 k)) (fun k => a4 (ix1 k)) (fun g r u => causal a5 (ix3 g (low r) (low u))) (fun r n => a6 (ix2 (grp n) (low r)))
      (fun n k => a7 (ix2 n k)) s j := by
  refine (flat_apply _ i b s j hb hs hj).trans ?_
  pointwise
  simp only [act_apply, gate_apply, scaled_apply, centred_apply, wide_apply, normed_apply]
  rfl

end Cert.Reference9Ideal.Math

end
-- ==== Proof.Gate.Host.lean ====
module

public import proofs.«01_k».proof.Proof.Gen.Kernel9Ideal.Frame
public import proofs.«01_k».proof.Proof.Gate.Ref
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Math

open Cert.Kernel9Ideal Cert.Kernel9Ideal.Gen

/-- The table of sequences, spread over each group's weights between the eight rows. -/
def spreadWeights (A : FVec Ideal S32x32 .f32) (W : FVec Ideal S8x128x128 .f32) : FVec Ideal S8x256x256 .f32 :=
  shapeCast S8x256x256 (mulf (broadcastInDim S8x32x8x32x8 ![0, 1, 2, 3, 4] bcast_S1x32x1x32x1_S8x32x8x32x8_0_1_2_3_4 (broadcastInDim S1x32x1x32x1 ![1, 2, 3, 4] bcast_S32x1x32x1_S1x32x1x32x1_1_2_3_4 (broadcastInDim S32x1x32x1 ![0, 2] bcast_S32x32_S32x1x32x1_0_2 A))) (broadcastInDim S8x32x8x32x8 ![0, 1, 2, 3, 4] bcast_S8x1x8x1x8_S8x32x8x32x8_0_1_2_3_4 (broadcastInDim S8x1x8x1x8 ![0, 2, 4] bcast_S8x8x8_S8x1x8x1x8_0_2_4 (extractStridedSlice S8x8x8 ![0, 0, 0] W slices_S8x128x128_S8x8x8_0_0_0)))) shapeCasts_S8x32x8x32x8_S8x256x256

/-- One where two sequences are the same, zero elsewhere. -/
def table : FVec Ideal S32x32 .f32 :=
  uitofp (F := Ideal) .f32 (cmpi .eq (addi (iotaInDim S32x32 32 0) (broadcastInDim S32x32 ![] bcast_S_S32x32 (constantI S_ 32 0#32))) (iotaInDim S32x32 32 1))

/-- The groups' shifts of the eight rows, repeated for every sequence. -/
def spreadShifts (a6 : FVec Ideal S8x128 .f32) : FVec Ideal S256x1024 .f32 :=
  shapeCast S256x1024 (broadcastInDim S32x8x1x1024 ![0, 1, 2, 3] bcast_S1x8x1x1024_S32x8x1x1024_0_1_2_3 (shapeCast S1x8x1x1024 (extractStridedSlice S8x1024 ![0, 0] (shapeCast S128x1024 (broadcastInDim S128x8x128 ![0, 1] bcast_S128x8_S128x8x128_0_1 (transpose S128x8 [1, 0] a6 transposes_S8x128_S128x8_1_0)) shapeCasts_S128x8x128_S128x1024) slices_S128x1024_S8x1024_0_0) shapeCasts_S8x1024_S1x8x1x1024)) shapeCasts_S32x8x1x1024_S256x1024

variable (m : (ℓ : Loc nD τ sig) → Buf (Elt Ideal) ℓ)

/-- The left half of the carrying weights. -/
theorem V_v1 (c : Dev nD) : V m c main_v1 = truncf (F := Ideal) FTy.bf16 (extractStridedSlice S1024x1024 ![0, 0] (m ((c : Thread nD τ).loc main_arg2)) slices_S1024x2048_S1024x1024_0_0) bitsLt_bf16_f32 := by
  conv_lhs => simp only [V, hostOps0, hostOps0_1, hostOps0_2, hostOps0_3, hostOps0_4, hostOps0_5, hostOps0_6, List.flatten_cons, List.flatten_nil, List.append_nil, List.cons_append, List.nil_append]
  entry_read
  rfl

/-- The right half of the carrying weights. -/
theorem V_v3 (c : Dev nD) : V m c main_v3 = truncf (F := Ideal) FTy.bf16 (extractStridedSlice S1024x1024 ![0, 1024] (m ((c : Thread nD τ).loc main_arg2)) slices_S1024x2048_S1024x1024_0_1024) bitsLt_bf16_f32 := by
  conv_lhs => simp only [V, hostOps0, hostOps0_1, hostOps0_2, hostOps0_3, hostOps0_4, hostOps0_5, hostOps0_6, List.flatten_cons, List.flatten_nil, List.append_nil, List.cons_append, List.nil_append]
  entry_read
  rfl

/-- The shifts of every row. -/
theorem V_v21 (c : Dev nD) : V m c main_v21 = spreadShifts (m ((c : Thread nD τ).loc main_arg6)) := by
  conv_lhs => simp only [V, hostOps0, hostOps0_1, hostOps0_2, hostOps0_3, hostOps0_4, hostOps0_5, hostOps0_6, List.flatten_cons, List.flatten_nil, List.append_nil, List.cons_append, List.nil_append]
  entry_read
  rfl

/-- The rows, one below the other. -/
theorem V_v22 (c : Dev nD) : V m c main_v22 = shapeCast S256x1024 (m ((c : Thread nD τ).loc main_arg0)) shapeCasts_S32x8x1024_S256x1024 := by
  conv_lhs => simp only [V, hostOps0, hostOps0_1, hostOps0_2, hostOps0_3, hostOps0_4, hostOps0_5, hostOps0_6, List.flatten_cons, List.flatten_nil, List.append_nil, List.cons_append, List.nil_append]
  entry_read
  rfl

/-- The first scale, as a row. -/
theorem V_v23 (c : Dev nD) : V m c main_v23 = shapeCast S1x1024 (m ((c : Thread nD τ).loc main_arg1)) shapeCasts_S1024_S1x1024 := by
  conv_lhs => simp only [V, hostOps0, hostOps0_1, hostOps0_2, hostOps0_3, hostOps0_4, hostOps0_5, hostOps0_6, List.flatten_cons, List.flatten_nil, List.append_nil, List.cons_append, List.nil_append]
  entry_read
  rfl

/-- The levelling scale, as a row. -/
theorem V_v24 (c : Dev nD) : V m c main_v24 = shapeCast S1x1024 (m ((c : Thread nD τ).loc main_arg3)) shapeCasts_S1024_S1x1024 := by
  conv_lhs => simp only [V, hostOps0, hostOps0_1, hostOps0_2, hostOps0_3, hostOps0_4, hostOps0_5, hostOps0_6, List.flatten_cons, List.flatten_nil, List.append_nil, List.cons_append, List.nil_append]
  entry_read
  rfl

/-- The levelling shift, as a row. -/
theorem V_v25 (c : Dev nD) : V m c main_v25 = shapeCast S1x1024 (m ((c : Thread nD τ).loc main_arg4)) shapeCasts_S1024_S1x1024 := by
  conv_lhs => simp only [V, hostOps0, hostOps0_1, hostOps0_2, hostOps0_3, hostOps0_4, hostOps0_5, hostOps0_6, List.flatten_cons, List.flatten_nil, List.append_nil, List.cons_append, List.nil_append]
  entry_read
  rfl

/-- The weights between any two sample rows: the groups' weights inside a sequence, zero across. -/
theorem V_v26 (c : Dev nD) : V m c main_v26 = truncf (F := Ideal) FTy.bf16 (spreadWeights table (Cert.Reference3Ideal.Math.causal (m ((c : Thread nD τ).loc main_arg5)))) bitsLt_bf16_f32 := by
  conv_lhs => simp only [V, hostOps0, hostOps0_1, hostOps0_2, hostOps0_3, hostOps0_4, hostOps0_5, hostOps0_6, List.flatten_cons, List.flatten_nil, List.append_nil, List.cons_append, List.nil_append]
  entry_read
  rfl

/-- The weights that carry back. -/
theorem V_v27 (c : Dev nD) : V m c main_v27 = truncf (F := Ideal) FTy.bf16 (m ((c : Thread nD τ).loc main_arg7)) bitsLt_bf16_f32 := by
  conv_lhs => simp only [V, hostOps0, hostOps0_1, hostOps0_2, hostOps0_3, hostOps0_4, hostOps0_5, hostOps0_6, List.flatten_cons, List.flatten_nil, List.append_nil, List.cons_append, List.nil_append]
  entry_read
  rfl

end Cert.Kernel9Ideal.Math

end
-- ==== Proof.Gate.Value.lean ====
module

public import proofs.«01_k».proof.Proof.Gen.Kernel9Ideal.Frame
public import proofs.«01_k».proof.Proof.Gate.Ref
public import proofs.«01_k».proof.Proof.Gate.Host
public import proofs.«01_k».proof.Proof.Mix.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Math

open Cert.Kernel9Ideal Cert.Kernel9Ideal.Gen Cert.Reference9Ideal.Math
open Cert.Reference3Ideal.Math (spread bend unit centre level grp causal)
open Cert.Kernel3Ideal.Math (bend_eq)

variable (m : (ℓ : Loc nD τ sig) → Buf (Elt Ideal) ℓ)

/-- The mixture that the scratch rows hold before the shift is added. -/
def blend (V : FVec Ideal S256x1024 .bf16) (W : FVec Ideal S8x256x256 .bf16) (y : S256x1024.Idx) : EReal :=
  ∑ s : Fin 256, V (ix2 s (y 1)) * W (ix3 (grp (y 1)) (y 0) s)

/-- A column off the tile's columns keeps what it held. -/
theorem tile_off {p : ℕ} (L : List (View.Piece (Elt Ideal) S256x1024 .f32)) (inb)
    (w : (Rect.unit (s := S256x1024) ![0, p] ![256, 128] inb).shape.Idx → Elt Ideal .f32)
    (y : S256x1024.Idx) (h : (y 1).val < p ∨ p + 128 ≤ (y 1).val) :
    View.canon (⟨Rect.unit (s := S256x1024) ![0, p] ![256, 128] inb, w⟩ :: L) y = View.canon L y := by
  apply View.canon_cons_of_not_mem
  rw [Rect.mem_set_unit]
  intro hm
  have h1 := hm 1
  simp only [Matrix.cons_val_one, Matrix.cons_val_zero] at h1
  omega

/-- An entry of a tile reads the stored product there. -/
theorem tile_on {p : ℕ} (L : List (View.Piece (Elt Ideal) S256x1024 .f32)) (inb)
    (w : (Rect.unit (s := S256x1024) ![0, p] ![256, 128] inb).shape.Idx → Elt Ideal .f32)
    (y : S256x1024.Idx) (h1 : p ≤ (y 1).val) (h1' : (y 1).val < p + 128) :
    View.canon (⟨Rect.unit (s := S256x1024) ![0, p] ![256, 128] inb, w⟩ :: L) y
      = w (ix2 (y 0) ⟨(y 1).val - p, by omega⟩) := by
  refine Eq.trans (congrArg _ ?_) (View.canon_cons_emb (Rect.unit (s := S256x1024) ![0, p] ![256, 128] inb) w L _)
  funext a
  refine Fin.ext ?_
  fin_cases a
  · show (y 0).val = 0 + 1 * (y 0).val; omega
  · show (y 1).val = p + 1 * ((y 1).val - p); omega

/-- What a tile holds: each group's rows mixed by the group's weights. -/
def Tile (V : FVec Ideal S256x1024 .bf16) (W : FVec Ideal S8x256x256 .bf16) (g : Fin 8) (w : S256x128.Idx → EReal) : Prop :=
  ∀ (a : Fin 256) (b : Fin 128), w (ix2 a b) = ∑ s : Fin 256, W (ix3 g a s) * V (ix2 s ⟨g.val * 128 + b.val, by omega⟩)

/-- A tile's entry is the mixture there. -/
theorem tile_blend {V : FVec Ideal S256x1024 .bf16} {W : FVec Ideal S8x256x256 .bf16} {g : Fin 8} {w : S256x128.Idx → EReal}
    (h : Tile V W g w) (y : S256x1024.Idx) (b : ℕ) (hb : b < 128) (e : g.val * 128 + b = (y 1).val) :
    w (ix2 (y 0) ⟨b, hb⟩) = blend V W y := by
  refine (h _ _).trans ?_
  have eg : g = grp (y 1) := Fin.ext (by show g.val = (y 1).val / 128; omega)
  subst eg
  refine Finset.sum_congr rfl fun s _ => ?_
  rw [mul_comm]
  exact congrArg₂ (· * ·) (congrArg V (congrArg (ix2 s) (Fin.ext e))) rfl

/-- Eight tiles side by side, each the mixture of its columns, make the mixture. -/
theorem tiles_eq (V : FVec Ideal S256x1024 .bf16) (W : FVec Ideal S8x256x256 .bf16) (y : S256x1024.Idx)
    (i0 i1 i2 i3 i4 i5 i6 i7)
    (w0 : (Rect.unit (s := S256x1024) ![0, 0] ![256, 128] i0).shape.Idx → Elt Ideal .f32) (h0 : Tile V W 0 w0)
    (w1 : (Rect.unit (s := S256x1024) ![0, 128] ![256, 128] i1).shape.Idx → Elt Ideal .f32) (h1 : Tile V W 1 w1)
    (w2 : (Rect.unit (s := S256x1024) ![0, 256] ![256, 128] i2).shape.Idx → Elt Ideal .f32) (h2 : Tile V W 2 w2)
    (w3 : (Rect.unit (s := S256x1024) ![0, 384] ![256, 128] i3).shape.Idx → Elt Ideal .f32) (h3 : Tile V W 3 w3)
    (w4 : (Rect.unit (s := S256x1024) ![0, 512] ![256, 128] i4).shape.Idx → Elt Ideal .f32) (h4 : Tile V W 4 w4)
    (w5 : (Rect.unit (s := S256x1024) ![0, 640] ![256, 128] i5).shape.Idx → Elt Ideal .f32) (h5 : Tile V W 5 w5)
    (w6 : (Rect.unit (s := S256x1024) ![0, 768] ![256, 128] i6).shape.Idx → Elt Ideal .f32) (h6 : Tile V W 6 w6)
    (w7 : (Rect.unit (s := S256x1024) ![0, 896] ![256, 128] i7).shape.Idx → Elt Ideal .f32) (h7 : Tile V W 7 w7) :
    View.canon [⟨Rect.unit (s := S256x1024) ![0, 896] ![256, 128] i7, w7⟩, ⟨Rect.unit (s := S256x1024) ![0, 768] ![256, 128] i6, w6⟩, ⟨Rect.unit (s := S256x1024) ![0, 640] ![256, 128] i5, w5⟩, ⟨Rect.unit (s := S256x1024) ![0, 512] ![256, 128] i4, w4⟩, ⟨Rect.unit (s := S256x1024) ![0, 384] ![256, 128] i3, w3⟩, ⟨Rect.unit (s := S256x1024) ![0, 256] ![256, 128] i2, w2⟩, ⟨Rect.unit (s := S256x1024) ![0, 128] ![256, 128] i1, w1⟩, ⟨Rect.unit (s := S256x1024) ![0, 0] ![256, 128] i0, w0⟩] y = blend V W y := by
  have hc : (y 1).val < 1024 := (y 1).isLt
  have hk : (y 1).val / 128 = 0 ∨ (y 1).val / 128 = 1 ∨ (y 1).val / 128 = 2 ∨ (y 1).val / 128 = 3
    ∨ (y 1).val / 128 = 4 ∨ (y 1).val / 128 = 5 ∨ (y 1).val / 128 = 6 ∨ (y 1).val / 128 = 7 := by omega
  rcases hk with hk | hk | hk | hk | hk | hk | hk | hk
  · rw [tile_off _ i7 w7 y (by omega), tile_off _ i6 w6 y (by omega), tile_off _ i5 w5 y (by omega), tile_off _ i4 w4 y (by omega), tile_off _ i3 w3 y (by omega), tile_off _ i2 w2 y (by omega), tile_off _ i1 w1 y (by omega), tile_on _ i0 w0 y (by omega) (by omega)]
    exact tile_blend h0 y _ _ (by show 0 * 128 + ((y 1).val - 0) = _; omega)
  · rw [tile_off _ i7 w7 y (by omega), tile_off _ i6 w6 y (by omega), tile_off _ i5 w5 y (by omega), tile_off _ i4 w4 y (by omega), tile_off _ i3 w3 y (by omega), tile_off _ i2 w2 y (by omega), tile_on _ i1 w1 y (by omega) (by omega)]
    exact tile_blend h1 y _ _ (by show 1 * 128 + ((y 1).val - 128) = _; omega)
  · rw [tile_off _ i7 w7 y (by omega), tile_off _ i6 w6 y (by omega), tile_off _ i5 w5 y (by omega), tile_off _ i4 w4 y (by omega), tile_off _ i3 w3 y (by omega), tile_on _ i2 w2 y (by omega) (by omega)]
    exact tile_blend h2 y _ _ (by show 2 * 128 + ((y 1).val - 256) = _; omega)
  · rw [tile_off _ i7 w7 y (by omega), tile_off _ i6 w6 y (by omega), tile_off _ i5 w5 y (by omega), tile_off _ i4 w4 y (by omega), tile_on _ i3 w3 y (by omega) (by omega)]
    exact tile_blend h3 y _ _ (by show 3 * 128 + ((y 1).val - 384) = _; omega)
  · rw [tile_off _ i7 w7 y (by omega), tile_off _ i6 w6 y (by omega), tile_off _ i5 w5 y (by omega), tile_on _ i4 w4 y (by omega) (by omega)]
    exact tile_blend h4 y _ _ (by show 4 * 128 + ((y 1).val - 512) = _; omega)
  · rw [tile_off _ i7 w7 y (by omega), tile_off _ i6 w6 y (by omega), tile_on _ i5 w5 y (by omega) (by omega)]
    exact tile_blend h5 y _ _ (by show 5 * 128 + ((y 1).val - 640) = _; omega)
  · rw [tile_off _ i7 w7 y (by omega), tile_on _ i6 w6 y (by omega) (by omega)]
    exact tile_blend h6 y _ _ (by show 6 * 128 + ((y 1).val - 768) = _; omega)
  · rw [tile_on _ i7 w7 y (by omega) (by omega)]
    exact tile_blend h7 y _ _ (by show 7 * 128 + ((y 1).val - 896) = _; omega)

/-- The first tile's payload, cut out of the levelled rows. -/
def corner (V : FVec Ideal S256x1024 .bf16) (w : Vec Ideal S1x256x256 .bf16) : FVec Ideal S256x128 .f32 :=
  shapeCast S256x128 (matmul dot_S256x256_S256x128_S256x128_1_0_0_1_n_n none
    (shapeCast S256x256 w shapeCasts_S1x256x256_S256x256 : FVec Ideal S256x256 .bf16)
    (extractStridedSlice S256x128 ![0, 0] V slices_S256x1024_o0_0_S256x128 : FVec Ideal S256x128 .bf16)
    (constant S256x128 .f32 0x00000000#32)) shapeCasts_S256x128_S256x128

/-- A tile's product at its corner is the mixture there. -/
theorem corner_eq (a b c d e f w) : k0_pay11 (F := Ideal) (k0_pay10 a b c d e f w) = corner (k0_pay9 a b c d e f) w := rfl

/-- The rows a step leaves, as one expression over the blocks that it read. -/
theorem out_eq (c : Dev nD) (t : Fin cfg0.N) : (outsAt0 m c t).1
    = k0_pay1 (k0_pay2 (iblk m c 0 t)) (k0_pay20 (k0_pay4 (iblk m c 0 t) (iblk m c 1 t) (iblk m c 2 t))
        (k0_pay19 (blend (k0_pay9 (k0_pay5 (iblk m c 0 t) (iblk m c 1 t) (iblk m c 3 t))
                        (k0_pay6 (iblk m c 0 t) (iblk m c 1 t) (iblk m c 3 t))
                        (k0_pay7 (iblk m c 0 t) (iblk m c 1 t) (iblk m c 3 t)) (FloatOps.ofBits FTy.f32 1027024659#32)
                        (iblk m c 4 t) (iblk m c 5 t)) (iblk m c 6 t)) (iblk m c 7 t))) (iblk m c 8 t) := by
  unfold outsAt0 out0_A_9 kernelRun0_A
  dsimp only
  frame_out
  simp only [corner_eq]
  generalize (k0_pay9 (k0_pay5 (iblk m c 0 t) (iblk m c 1 t) (iblk m c 3 t)) (k0_pay6 (iblk m c 0 t) (iblk m c 1 t) (iblk m c 3 t)) (k0_pay7 (iblk m c 0 t) (iblk m c 1 t) (iblk m c 3 t)) (FloatOps.ofBits FTy.f32 1027024659#32) (iblk m c 4 t) (iblk m c 5 t)) = V
  generalize k0_pay4 (iblk m c 0 t) (iblk m c 1 t) (iblk m c 2 t) = U
  generalize iblk m c 6 t = W
  rw [View.readCov_eq_canon']
  refine congrArg (fun S : Vec Ideal S256x1024 .f32 => k0_pay1 (F := Ideal) (k0_pay2 (iblk m c 0 t)) (k0_pay20 U (k0_pay19 S (iblk m c 7 t))) (iblk m c 8 t)) ?_
  refine funext fun (y : S256x1024.Idx) => ?_
  have hid : ∀ inb, (Rect.unit (s := S256x1024) ![0, 0] ![256, 1024] inb).toLoadRect.idx y = y := by
    intro inb; funext a; refine Fin.ext ?_
    fin_cases a
    · show 0 + 1 * (y 0).val = (y 0).val; omega
    · show 0 + 1 * (y 1).val = (y 1).val; omega
  rw [hid]
  refine tiles_eq V W y _ _ _ _ _ _ _ _ _ ?_ _ ?_ _ ?_ _ ?_ _ ?_ _ ?_ _ ?_ _ ?_
  · intro a b; pointwise [corner]
  · intro a b; pointwise [k0_pay12]
  · intro a b; pointwise [k0_pay13]
  · intro a b; pointwise [k0_pay14]
  · intro a b; pointwise [k0_pay15]
  · intro a b; pointwise [k0_pay16]
  · intro a b; pointwise [k0_pay17]
  · intro a b; pointwise [k0_pay18]

/-- The levelled rows a step leaves, as one expression over the blocks that it read. -/
theorem rows_eq (c : Dev nD) (t : Fin cfg0.N) : (outsAt0 m c t).2
    = k0_pay8 (k0_pay5 (iblk m c 0 t) (iblk m c 1 t) (iblk m c 3 t)) (k0_pay6 (iblk m c 0 t) (iblk m c 1 t) (iblk m c 3 t))
        (k0_pay7 (iblk m c 0 t) (iblk m c 1 t) (iblk m c 3 t)) (FloatOps.ofBits FTy.f32 1027024659#32) (iblk m c 4 t) (iblk m c 5 t) := by
  unfold outsAt0 out0_A_10 kernelRun0_A
  dsimp only
  frame_out

/-- The second half's product at a row and a column. -/
theorem product_apply (X : FVec Ideal S256x1024 .f32) (G : FVec Ideal S1x1024 .f32) (B : FVec Ideal S1024x1024 .bf16)
    (r : Fin 256) (n : Fin 1024) : k0_pay5 (F := Ideal) X G B (ix2 r n)
      = ∑ k, X (ix2 r k) * spread (fun k => X (ix2 r k)) * G (ix2 0 k) * B (ix2 k n) := by
  pointwise [k0_pay5, k0_pay3, k0_pay2]
  rfl

/-- The first half's bent product at a row and a column. -/
theorem gated_apply (X : FVec Ideal S256x1024 .f32) (G : FVec Ideal S1x1024 .f32) (A : FVec Ideal S1024x1024 .bf16)
    (r : Fin 256) (n : Fin 1024) : k0_pay4 (F := Ideal) X G A (ix2 r n)
      = unit (fun k => X (ix2 r k)) (fun k => G (ix2 0 k)) (fun k n => A (ix2 k n)) n := by
  pointwise [k0_pay4, k0_pay3, k0_pay2]
  exact bend_eq _

/-- The levelling at a row and a column, over any arrays. -/
theorem level_apply (Z Y U : FVec Ideal S256x1024 .f32) (e : Ideal .f32) (P Q : FVec Ideal S1x1024 .f32) (r : Fin 256) (n : Fin 1024) :
    k0_pay8 (F := Ideal) Z Y U e P Q (ix2 r n)
      = level (fun n => Y (ix2 r n) * (1 + Ideal.tanh (Ideal.ofBits FTy.f32 1061962282#32 * (Z (ix2 r n) + e * U (ix2 r n)))))
          (fun k => P (ix2 0 k)) (fun k => Q (ix2 0 k)) n := by
  pointwise [k0_pay8]
  rfl

/-- The second half's bent product, levelled along its row, at a row and a column. -/
theorem levelled_apply (X : FVec Ideal S256x1024 .f32) (G : FVec Ideal S1x1024 .f32) (B : FVec Ideal S1024x1024 .bf16)
    (P Q : FVec Ideal S1x1024 .f32) (r : Fin 256) (n : Fin 1024) :
    k0_pay8 (F := Ideal) (k0_pay5 X G B) (k0_pay6 X G B) (k0_pay7 X G B) (Ideal.ofBits FTy.f32 1027024659#32) P Q (ix2 r n)
      = level (unit (fun k => X (ix2 r k)) (fun k => G (ix2 0 k)) (fun k n => B (ix2 k n))) (fun k => P (ix2 0 k)) (fun k => Q (ix2 0 k)) n := by
  rw [level_apply]
  congr 1
  funext n
  pointwise [k0_pay6, k0_pay7]
  rw [product_apply]
  exact bend_eq _

/-- A sum over all 256 rows of what lies in one sequence is the sum over that sequence's eight rows. -/
theorem sum_sequence (f : Fin 256 → EReal) (w : Fin 8 → EReal) (h : Fin 32) :
    ∑ s : Fin 256, f s * ((if h = (⟨s.val / 8, by omega⟩ : Fin 32) then 1 else 0) * w ⟨s.val % 8, by omega⟩)
      = ∑ u : Fin 8, f ⟨h.val * 8 + u.val, by omega⟩ * w u := by
  refine (Equiv.sum_comp (finProdFinEquiv (m := 32) (n := 8)) _).symm.trans ?_
  rw [Fintype.sum_prod_type, Finset.sum_eq_single h]
  · refine Finset.sum_congr rfl fun u _ => ?_
    rw [if_pos (Fin.ext (by show h.val = (u.val + 8 * h.val) / 8; omega)), one_mul]
    refine congrArg₂ (· * ·) (congrArg f (Fin.ext ?_)) (congrArg w (Fin.ext ?_))
    · show u.val + 8 * h.val = h.val * 8 + u.val; omega
    · show (u.val + 8 * h.val) % 8 = u.val; omega
  · intro b _ hb
    refine Finset.sum_eq_zero fun u _ => ?_
    rw [if_neg, zero_mul, mul_zero]
    intro hc
    have hc' : h.val = (u.val + 8 * b.val) / 8 := congrArg Fin.val hc
    exact hb (Fin.ext (by omega))
  · intro hc; exact absurd (Finset.mem_univ h) hc

/-- The table of sequences at a row and a column. -/
theorem table_apply (a b : Fin 32) : table (ix2 a b) = if a = b then 1 else 0 := by
  have e : (cmpi .eq (addi (iotaInDim S32x32 32 0) (broadcastInDim S32x32 ![] bcast_S_S32x32 (constantI S_ 32 0#32))) (iotaInDim S32x32 32 1)) (ix2 a b)
      = if a = b then 1#1 else 0#1 := by
    revert a b; decide +kernel
  show ((((cmpi .eq (addi (iotaInDim S32x32 32 0) (broadcastInDim S32x32 ![] bcast_S_S32x32 (constantI S_ 32 0#32))) (iotaInDim S32x32 32 1)) (ix2 a b)).toNat : ℝ) : EReal) = _
  rw [e]
  split <;> simp

/-- The weights between two sample rows. -/
theorem spreadWeights_apply (A : FVec Ideal S32x32 .f32) (W : FVec Ideal S8x128x128 .f32) (g : Fin 8) (p s : Fin 256) :
    spreadWeights A W (ix3 g p s) = A (ix2 ⟨p.val / 8, by omega⟩ ⟨s.val / 8, by omega⟩) * W (ix3 g (low ⟨p.val % 8, by omega⟩) (low ⟨s.val % 8, by omega⟩)) := by
  pointwise [spreadWeights]
  rfl

/-- The shift of a row and a column. -/
theorem spreadShifts_apply (a6 : FVec Ideal S8x128 .f32) (p : Fin 256) (n : Fin 1024) :
    spreadShifts a6 (ix2 p n) = a6 (ix2 (grp n) (low ⟨p.val % 8, by omega⟩)) := by
  pointwise [spreadShifts]
  rfl

/-- The rows that a step stores, read at a row and a column, over any blocks whose weights are zero across sequences. -/
theorem stored_apply (X : FVec Ideal S256x1024 .f32) (G : FVec Ideal S1x1024 .f32) (A B : FVec Ideal S1024x1024 .bf16)
    (P Q : FVec Ideal S1x1024 .f32) (W : FVec Ideal S8x256x256 .bf16) (H : FVec Ideal S256x1024 .f32)
    (D : FVec Ideal S1024x1024 .bf16) (w : Fin 8 → Fin 8 → Fin 8 → EReal) (b : Fin 8 → Fin 1024 → EReal)
    (hW : ∀ g (p s : Fin 256), W (ix3 g p s) = (if (⟨p.val / 8, by omega⟩ : Fin 32) = ⟨s.val / 8, by omega⟩ then 1 else 0) * w g ⟨p.val % 8, by omega⟩ ⟨s.val % 8, by omega⟩)
    (hH : ∀ (p : Fin 256) n, H (ix2 p n) = b ⟨p.val % 8, by omega⟩ n) (p : Fin 256) (j : Fin 1024) :
    k0_pay1 (F := Ideal) (k0_pay2 X) (k0_pay20 (k0_pay4 X G A)
        (k0_pay19 (F := Ideal) (blend (k0_pay9 (k0_pay5 X G B) (k0_pay6 X G B) (k0_pay7 X G B) (FloatOps.ofBits FTy.f32 1027024659#32) P Q) W) H)) D (ix2 p j)
      = entry (fun u k => X (ix2 ⟨p.val / 8 * 8 + u.val, by omega⟩ k)) (fun k => G (ix2 0 k)) (fun k n => A (ix2 k n)) (fun k n => B (ix2 k n))
          (fun k => P (ix2 0 k)) (fun k => Q (ix2 0 k)) w b (fun n k => D (ix2 n k)) ⟨p.val % 8, by omega⟩ j := by
  have hp : (⟨p.val / 8 * 8 + p.val % 8, by omega⟩ : Fin 256) = p := Fin.ext (by show p.val / 8 * 8 + p.val % 8 = p.val; omega)
  have hv : ∀ (s : Fin 256) n, k0_pay9 (F := Ideal) (k0_pay5 X G B) (k0_pay6 X G B) (k0_pay7 X G B) (FloatOps.ofBits FTy.f32 1027024659#32) P Q (ix2 s n)
      = level (unit (fun k => X (ix2 s k)) (fun k => G (ix2 0 k)) (fun k n => B (ix2 k n))) (fun k => P (ix2 0 k)) (fun k => Q (ix2 0 k)) n :=
    fun s n => levelled_apply X G B P Q s n
  generalize k0_pay9 (F := Ideal) (k0_pay5 X G B) (k0_pay6 X G B) (k0_pay7 X G B) (FloatOps.ofBits FTy.f32 1027024659#32) P Q = V at hv
  have hb : ∀ n, blend V W (ix2 p n) = ∑ u : Fin 8, V (ix2 ⟨p.val / 8 * 8 + u.val, by omega⟩ n) * w (grp n) ⟨p.val % 8, by omega⟩ u := fun n => by
    unfold blend
    exact (Finset.sum_congr rfl fun s _ => congrArg (V (ix2 s n) * ·) (hW (grp n) p s)).trans
      (sum_sequence (fun s => V (ix2 s n)) (w (grp n) ⟨p.val % 8, by omega⟩) ⟨p.val / 8, by omega⟩)
  generalize blend V W = S at hb
  pointwise [k0_pay1, k0_pay2, k0_pay19, k0_pay20]
  simp only [gated_apply, hb, hv, hH]
  unfold entry mixed
  dsimp only
  rw [hp]

/-- Where each window's block lies at the one step: at the array's start. -/
theorem places : ∀ t : Fin cfg0.N, win0_0.index t = ![0, 0]
    ∧ win0_1.index t = ![0, 0] ∧ win0_2.index t = ![0, 0] ∧ win0_3.index t = ![0, 0] ∧ win0_4.index t = ![0, 0]
    ∧ win0_5.index t = ![0, 0] ∧ win0_6.index t = ![0, 0, 0] ∧ win0_7.index t = ![0, 0] ∧ win0_8.index t = ![0, 0]
    ∧ win0_9.index t = ![0, 0] ∧ win0_10.index t = ![0, 0] :=
  (by decide +kernel : ∀ t : Fin grid0.N, _)

/-- Equal parts give equal entries. -/
theorem entry_congr {x x' : Fin 8 → Fin 1024 → EReal} {g g' : Fin 1024 → EReal}
    {wu wu' wv wv' : Fin 1024 → Fin 1024 → EReal} {lg lg' lb lb' : Fin 1024 → EReal} {w : Fin 8 → Fin 8 → Fin 8 → EReal}
    {b : Fin 8 → Fin 1024 → EReal} {wo wo' : Fin 1024 → Fin 1024 → EReal} {r : Fin 8} {j : Fin 1024}
    (h1 : x = x') (h2 : g = g') (h3 : wu = wu') (h4 : wv = wv') (h5 : lg = lg') (h6 : lb = lb')
    (h9 : wo = wo') : entry x g wu wv lg lb w b wo r j = entry x' g' wu' wv' lg' lb' w b wo' r j := by
  subst h1 h2 h3 h4 h5 h6 h9; rfl

/-- A row of the step's block is the row of its sequence. -/
theorem row_eq (c : Dev nD) (t : Fin cfg0.N) (p : Fin 256) (k : Fin 1024) (b : Fin 32) (s : Fin 8)
    (hb : p.val / 8 = b.val) (hs : p.val % 8 = s.val) :
    iblk m c 0 t (ix2 p k) = m ((c : Thread nD τ).loc main_arg0) (ix3 b s k) := by
  blk_simp [iblk]
  rw [V_v22]
  refine (flat_apply _ _ b s k ?_ ?_ ?_).trans rfl
  · blk_simp [places t]; omega
  · blk_simp [places t]; omega
  · blk_simp [places t]

/-- The step's first scale at a column. -/
theorem gain_eq (c : Dev nD) (t : Fin cfg0.N) (k : Fin 1024) : iblk m c 1 t (ix2 0 k) = m ((c : Thread nD τ).loc main_arg1) (ix1 k) := by
  blk_simp [iblk]; rw [V_v23]; pointwise; blk_ext [places t]

/-- The step's left weights at a row and a column. -/
theorem left_eq (c : Dev nD) (t : Fin cfg0.N) (k n : Fin 1024) : iblk m c 2 t (ix2 k n) = m ((c : Thread nD τ).loc main_arg2) (ix2 k ⟨n.val, by omega⟩) := by
  blk_simp [iblk]; rw [V_v1]; pointwise; blk_ext [places t]

/-- The step's right weights at a row and a column. -/
theorem right_eq (c : Dev nD) (t : Fin cfg0.N) (k n : Fin 1024) : iblk m c 3 t (ix2 k n) = m ((c : Thread nD τ).loc main_arg2) (ix2 k ⟨1024 + n.val, by omega⟩) := by
  blk_simp [iblk]; rw [V_v3]; pointwise; blk_ext [places t]

/-- The step's levelling scale at a column. -/
theorem scale_eq (c : Dev nD) (t : Fin cfg0.N) (k : Fin 1024) : iblk m c 4 t (ix2 0 k) = m ((c : Thread nD τ).loc main_arg3) (ix1 k) := by
  blk_simp [iblk]; rw [V_v24]; pointwise; blk_ext [places t]

/-- The step's levelling shift at a column. -/
theorem shift_eq (c : Dev nD) (t : Fin cfg0.N) (k : Fin 1024) : iblk m c 5 t (ix2 0 k) = m ((c : Thread nD τ).loc main_arg4) (ix1 k) := by
  blk_simp [iblk]; rw [V_v25]; pointwise; blk_ext [places t]

/-- The step's weights between two sample rows. -/
theorem weights_eq (c : Dev nD) (t : Fin cfg0.N) (g : Fin 8) (p s : Fin 256) : iblk m c 6 t (ix3 g p s)
    = (if (⟨p.val / 8, by omega⟩ : Fin 32) = ⟨s.val / 8, by omega⟩ then 1 else 0)
      * causal (m ((c : Thread nD τ).loc main_arg5)) (ix3 g (low ⟨p.val % 8, by omega⟩) (low ⟨s.val % 8, by omega⟩)) := by
  have h : iblk m c 6 t (ix3 g p s) = spreadWeights table (causal (m ((c : Thread nD τ).loc main_arg5))) (ix3 g p s) := by
    blk_simp [iblk]; rw [V_v26]; pointwise; blk_ext [places t]
  rw [h, spreadWeights_apply, table_apply]

/-- The step's shifts at a row and a column. -/
theorem shifts_eq (c : Dev nD) (t : Fin cfg0.N) (p : Fin 256) (n : Fin 1024) : iblk m c 7 t (ix2 p n)
    = (m ((c : Thread nD τ).loc main_arg6)) (ix2 (grp n) (low ⟨p.val % 8, by omega⟩)) := by
  have h : iblk m c 7 t (ix2 p n) = spreadShifts (m ((c : Thread nD τ).loc main_arg6)) (ix2 p n) := by
    blk_simp [iblk]; rw [V_v21]; blk_ext [places t]
  rw [h, spreadShifts_apply]

/-- The step's weights that carry back. -/
theorem back_eq (c : Dev nD) (t : Fin cfg0.N) (n k : Fin 1024) : iblk m c 8 t (ix2 n k) = m ((c : Thread nD τ).loc main_arg7) (ix2 n k) := by
  blk_simp [iblk]; rw [V_v27]; pointwise; blk_ext [places t]

/-- Entry `y` of the rows that the step stores is the reference at the row and column where that entry lies. -/
theorem entry_eq (c : Dev nD) (t : Fin cfg0.N) (y) :
    (outsAt0 m c t).1 y = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb y) := by
  have hy : (y 0).val < 256 := (y 0).isLt
  rw [out_eq]
  idx_vars y
  refine (stored_apply _ _ _ _ _ _ _ _ _ (fun g r u => causal (m ((c : Thread nD τ).loc main_arg5)) (ix3 g (low r) (low u)))
    (fun r n => (m ((c : Thread nD τ).loc main_arg6)) (ix2 (grp n) (low r))) (weights_eq m c t) (shifts_eq m c t) y0 y1).trans (Eq.trans ?_ (out_apply _ _ _ _ _ _ _ _ _
    ⟨y0.val / 8, by omega⟩ ⟨y0.val % 8, by omega⟩ y1 ?_ ?_ ?_).symm)
  · refine entry_congr ?_ ?_ ?_ ?_ ?_ ?_ ?_
    · funext u k; exact row_eq m c t _ k _ _ (by have := u.isLt; dsimp only; omega) (by have := u.isLt; dsimp only; omega)
    · funext k; exact gain_eq m c t k
    · funext k n; exact left_eq m c t k n
    · funext k n; exact right_eq m c t k n
    · funext k; exact scale_eq m c t k
    · funext k; exact shift_eq m c t k
    · funext n k; exact back_eq m c t n k
  · blk_simp [places t]
  · blk_simp [places t]
  · blk_simp [places t]

/-- Entry `y` of the levelled rows that the step stores is the reference's at the row and column where that entry lies. -/
theorem levelled_eq (c : Dev nD) (t : Fin cfg0.N) (y) :
    (outsAt0 m c t).2 y = rows (m ((c : Thread nD τ).loc main_arg0)) (m ((c : Thread nD τ).loc main_arg1)) (m ((c : Thread nD τ).loc main_arg2)) (m ((c : Thread nD τ).loc main_arg3)) (m ((c : Thread nD τ).loc main_arg4)) (((cfg0.win 10).blk t).view.emb y) := by
  have hy : (y 0).val < 256 := (y 0).isLt
  rw [rows_eq]
  idx_vars y
  refine (levelled_apply _ _ _ _ _ y0 y1).trans (Eq.trans ?_ (rows_apply _ _ _ _ _ _
    ⟨y0.val / 8, by omega⟩ ⟨y0.val % 8, by omega⟩ y1 ?_ ?_ ?_).symm)
  · have h0 : (fun k => iblk m c 0 t (ix2 y0 k)) = fun k => (m ((c : Thread nD τ).loc main_arg0)) (ix3 ⟨y0.val / 8, by omega⟩ ⟨y0.val % 8, by omega⟩ k) :=
      funext fun k => row_eq m c t y0 k _ _ rfl rfl
    have h1 : (fun k => iblk m c 1 t (ix2 0 k)) = fun k => (m ((c : Thread nD τ).loc main_arg1)) (ix1 k) := funext fun k => gain_eq m c t k
    have h3 : (fun k n => iblk m c 3 t (ix2 k n)) = fun k (n : Fin 1024) => (m ((c : Thread nD τ).loc main_arg2)) (ix2 k ⟨1024 + n.val, by omega⟩) :=
      funext fun k => funext fun n => right_eq m c t k n
    have h4 : (fun k => iblk m c 4 t (ix2 0 k)) = fun k => (m ((c : Thread nD τ).loc main_arg3)) (ix1 k) := funext fun k => scale_eq m c t k
    have h5 : (fun k => iblk m c 5 t (ix2 0 k)) = fun k => (m ((c : Thread nD τ).loc main_arg4)) (ix1 k) := funext fun k => shift_eq m c t k
    rw [h0, h1, h3, h4, h5]
  · blk_simp [places t]
  · blk_simp [places t]
  · blk_simp [places t]

/-- The array of rows after the run is the reference's. -/
theorem result_eq (c : Dev nD) : (dats m 0 c).arrAt 9 (cfgs 0).N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp; rw [after0_9]
  exact entry_eq m c t y

/-- The array of levelled rows after the run is the reference's. -/
theorem result_rows (c : Dev nD) : (dats m 0 c).arrAt 10 (cfgs 0).N = rows (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp; rw [after0_10]
  exact levelled_eq m c t y

end Cert.Kernel9Ideal.Math

end
-- ==== Proof.Gate.Claim.lean ====
module

public import proofs.«01_k».proof.Defs
public import proofs.«01_k».proof.Proof.Gen.Reference9Ideal.Run
public import proofs.«01_k».proof.Proof.Gate.Value

@[expose] public section

set_option maxRecDepth 16384

noncomputable section

namespace Cert.Proof

open Idealize.ShloMosaic Idealize.SL.Sem

/-- The sample mixer's reference runs to its end, leaves its arguments as they were and every counter at zero. -/
theorem gate_reference_frame : Cert.quiescent_Reference9Ideal := by
  intro m g _
  exact (θ_run Cert.Reference9Ideal.defs _ _).mono
    (fun r h => ⟨fun c => (h.1 c).2.2, h.2⟩)
    (show θ_run _ _ _ (fun r => (∀ c, _ ∧ _ ∧ _) ∧ r.2.sem = fun _ => 0) from
      (θ_run Cert.Reference9Ideal.defs _ _).mono
        (fun r h => ⟨h, Idealize.ShloMosaic.sem_eq_zero_of_no_sems (by decide) r.2⟩)
        (Cert.Reference9Ideal.Value.run (F := Ideal) m g))

/-- The reference's rows, as its stages one after the other. -/
theorem gate_out (m : (ℓ : Loc Cert.Reference9Ideal.nD Cert.Reference9Ideal.τ Cert.Reference9Ideal.sig) → Buf (Elt Ideal) ℓ)
    (c : Dev Cert.Reference9Ideal.nD) : Cert.Reference9Ideal.Value.res_main_v67 m c = Cert.Reference9Ideal.Math.out (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) := by
  unfold Cert.Reference9Ideal.Value.res_main_v67
  rfl

/-- The reference's levelled rows, as its stages one after the other. -/
theorem gate_rows (m : (ℓ : Loc Cert.Reference9Ideal.nD Cert.Reference9Ideal.τ Cert.Reference9Ideal.sig) → Buf (Elt Ideal) ℓ)
    (c : Dev Cert.Reference9Ideal.nD) : Cert.Reference9Ideal.Value.res_main_v68 m c = Cert.Reference9Ideal.Math.rows (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) := by
  unfold Cert.Reference9Ideal.Value.res_main_v68
  rfl

set_option maxHeartbeats 2000000 in
/-- The sample mixer and its reference end with equal rows and equal levelled rows over the reals. -/
theorem gate_algebraic : Cert.algebraic_Kernel9Ideal_Reference9Ideal := by
  pair_intro
  · run_from Cert.Kernel9Ideal.Gen.run_main m g
    exacts [Cert.Kernel9Ideal.Gen.V_main_arg0 m c, Cert.Kernel9Ideal.Gen.V_main_arg1 m c, Cert.Kernel9Ideal.Gen.V_main_arg2 m c, Cert.Kernel9Ideal.Gen.V_main_arg3 m c, Cert.Kernel9Ideal.Gen.V_main_arg4 m c, Cert.Kernel9Ideal.Gen.V_main_arg5 m c, Cert.Kernel9Ideal.Gen.V_main_arg6 m c, Cert.Kernel9Ideal.Gen.V_main_arg7 m c]
  · run_from Cert.Reference9Ideal.Value.run m' g'
    all_goals obtain ⟨a0, a1, a2, a3, a4, a5, a6, a7⟩ := hagree c
    · refine (gate_out m' c).trans (Eq.trans ?_ (Cert.Kernel9Ideal.Math.result_eq m c).symm)
      rw [a0, a1, a2, a3, a4, a5, a6, a7]
    · refine (gate_rows m' c).trans (Eq.trans ?_ (Cert.Kernel9Ideal.Math.result_rows m c).symm)
      rw [a0, a1, a2, a3, a4]

end Cert.Proof

end
-- ==== Proof.lean ====
/- The proof of every claim of this certificate: see NOTES.md for what is claimed. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Ffn.Claim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Mix.Claim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Join.Claim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Sample.Claim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite_mix
public import proofs.«01_k».proof.Proof.Keys.Claim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite_pool
public import proofs.«01_k».proof.Proof.Pool.Claim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Pre_finite_state
public import proofs.«01_k».proof.Proof.Tail.Claim
public import proofs.«01_k».proof.Proof.Gate.Claim
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_mix.Gen.facts, Cert.Pre_finite_pool.Gen.facts, Cert.Pre_finite_state.Gen.facts,
  fun m ρ _ => Cert.Kernel.Gen.frame m ρ, fun m ρ _ => Cert.KernelIdeal.Gen.frame m ρ,
  fun m ρ _ => Cert.Kernel2.Gen.frame m ρ, fun m ρ _ => Cert.Kernel2Ideal.Gen.frame m ρ, ffn_reference_frame,
  fun m ρ _ => Cert.Kernel3.Gen.frame m ρ, fun m ρ _ => Cert.Kernel3Ideal.Gen.frame m ρ, mix_reference_frame,
  fun m ρ _ => Cert.Kernel4.Gen.frame m ρ, fun m ρ _ => Cert.Kernel4Ideal.Gen.frame m ρ, join_reference_frame,
  fun m ρ _ => Cert.Kernel5.Gen.frame m ρ, fun m ρ _ => Cert.Kernel5Ideal.Gen.frame m ρ, sample_reference_frame,
  fun m ρ _ => Cert.Kernel6.Gen.frame m ρ, fun m ρ _ => Cert.Kernel6Ideal.Gen.frame m ρ, fun m ρ _ => Cert.Kernel6Ideal.Gen.frame m ρ,
  keys_reference_frame, keys_reference_frame_finite,
  fun m ρ _ => Cert.Kernel7.Gen.frame m ρ, fun m ρ _ => Cert.Kernel7Ideal.Gen.frame m ρ, fun m ρ _ => Cert.Kernel7Ideal.Gen.frame m ρ,
  pool_reference_frame, pool_reference_frame_finite,
  fun m ρ _ => Cert.Kernel8.Gen.frame m ρ, fun m ρ _ => Cert.Kernel8Ideal.Gen.frame m ρ, fun m ρ _ => Cert.Kernel8Ideal.Gen.frame m ρ,
  tail_reference_frame, tail_reference_frame_finite,
  fun m ρ _ => Cert.Kernel9.Gen.frame m ρ, fun m ρ _ => Cert.Kernel9Ideal.Gen.frame m ρ, gate_reference_frame,
  trivial, trivial, ffn_algebraic, trivial, mix_algebraic, trivial, join_algebraic,
  trivial, sample_algebraic, trivial, keys_algebraic, trivial, pool_algebraic,
  trivial, tail_algebraic, trivial, gate_algebraic⟩

end Cert.Proof

end
